-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_ReferenceFinishIdeal (m : (ℓ : Loc Cert.ReferenceFinishIdeal.nD Cert.ReferenceFinishIdeal.τ Cert.ReferenceFinishIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6))
      ∧ r.2.sem = fun _ => 0)

def quiescent_ReferenceFinishIdeal [hReferenceFinishIdeal : Cert.ReferenceFinishIdeal.Facts] : Prop :=
  ∀ (m : (ℓ : Loc Cert.ReferenceFinishIdeal.nD Cert.ReferenceFinishIdeal.τ Cert.ReferenceFinishIdeal.sig) → Buf (Elt Ideal) ℓ) (g : Dev Cert.ReferenceFinishIdeal.nD → PrngReg), Pre_ReferenceFinishIdeal m →
    θ_run (Cert.ReferenceFinishIdeal.defs (F := Ideal)) (onTc (τ := Cert.ReferenceFinishIdeal.τ) (Cert.ReferenceFinishIdeal.main (F := Ideal))) ⟨m, fun _ => 0, g⟩ (fun r => (∀ c : Dev Cert.ReferenceFinishIdeal.nD,
      r.2.mem ((c.tc : Thread Cert.ReferenceFinishIdeal.nD Cert.ReferenceFinishIdeal.τ).loc Cert.ReferenceFinishIdeal.main_arg0) = m ((c.tc : Thread Cert.ReferenceFinishIdeal.nD Cert.ReferenceFinishIdeal.τ).loc Cert.ReferenceFinishIdeal.main_arg0)
      ∧ r.2.mem ((c.tc : Thread Cert.ReferenceFinishIdeal.nD Cert.ReferenceFinishIdeal.τ).loc Cert.ReferenceFinishIdeal.main_arg1) = m ((c.tc : Thread Cert.ReferenceFinishIdeal.nD Cert.ReferenceFinishIdeal.τ).loc Cert.ReferenceFinishIdeal.main_arg1)
      ∧ r.2.mem ((c.tc : Thread Cert.ReferenceFinishIdeal.nD Cert.ReferenceFinishIdeal.τ).loc Cert.ReferenceFinishIdeal.main_arg2) = m ((c.tc : Thread Cert.ReferenceFinishIdeal.nD Cert.ReferenceFinishIdeal.τ).loc Cert.ReferenceFinishIdeal.main_arg2)
      ∧ r.2.mem ((c.tc : Thread Cert.ReferenceFinishIdeal.nD Cert.ReferenceFinishIdeal.τ).loc Cert.ReferenceFinishIdeal.main_arg3) = m ((c.tc : Thread Cert.ReferenceFinishIdeal.nD Cert.ReferenceFinishIdeal.τ).loc Cert.ReferenceFinishIdeal.main_arg3)
      ∧ r.2.mem ((c.tc : Thread Cert.ReferenceFinishIdeal.nD Cert.ReferenceFinishIdeal.τ).loc Cert.ReferenceFinishIdeal.main_arg4) = m ((c.tc : Thread Cert.ReferenceFinishIdeal.nD Cert.ReferenceFinishIdeal.τ).loc Cert.ReferenceFinishIdeal.main_arg4)
      ∧ r.2.mem ((c.tc : Thread Cert.ReferenceFinishIdeal.nD Cert.ReferenceFinishIdeal.τ).loc Cert.ReferenceFinishIdeal.main_arg5) = m ((c.tc : Thread Cert.ReferenceFinishIdeal.nD Cert.ReferenceFinishIdeal.τ).loc Cert.ReferenceFinishIdeal.main_arg5)
      ∧ r.2.mem ((c.tc : Thread Cert.ReferenceFinishIdeal.nD Cert.ReferenceFinishIdeal.τ).loc Cert.ReferenceFinishIdeal.main_arg6) = m ((c.tc : Thread Cert.ReferenceFinishIdeal.nD Cert.ReferenceFinishIdeal.τ).loc Cert.ReferenceFinishIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v5_2)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v3_2)) (v7 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v5_2) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v3_2) = v6 c
          ∧ r.2.mem ((c.tc : Thread Cert.KernelIdeal.nD Cert.KernelIdeal.τ).loc Cert.KernelIdeal.main_v7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_v221) = v2 c
          ∧ r.2.mem ((c.tc : Thread Cert.ReferenceIdeal.nD Cert.ReferenceIdeal.τ).loc Cert.ReferenceIdeal.main_v229) = v3 c
          ∧ r.2.mem ((c.tc : Thread Cert.ReferenceIdeal.nD Cert.ReferenceIdeal.τ).loc Cert.ReferenceIdeal.main_v374) = v4 c
          ∧ r.2.mem ((c.tc : Thread Cert.ReferenceIdeal.nD Cert.ReferenceIdeal.τ).loc Cert.ReferenceIdeal.main_v241) = v5 c
          ∧ r.2.mem ((c.tc : Thread Cert.ReferenceIdeal.nD Cert.ReferenceIdeal.τ).loc Cert.ReferenceIdeal.main_v519) = v6 c
          ∧ r.2.mem ((c.tc : Thread Cert.ReferenceIdeal.nD Cert.ReferenceIdeal.τ).loc Cert.ReferenceIdeal.main_v386) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Even_EvenIdeal : Prop :=
  True

def algebraic_EvenIdeal_ReferenceEvenIdeal [hEvenIdeal : Cert.EvenIdeal.Facts] [hReferenceEvenIdeal : Cert.ReferenceEvenIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_EvenIdeal m →
    (∀ c : Dev Cert.EvenIdeal.nD,
      m' ((c.tc : Thread Cert.ReferenceEvenIdeal.nD Cert.ReferenceEvenIdeal.τ).loc Cert.ReferenceEvenIdeal.main_arg0) = m ((c.tc : Thread Cert.EvenIdeal.nD Cert.EvenIdeal.τ).loc Cert.EvenIdeal.main_arg0)
      ∧ m' ((c.tc : Thread Cert.ReferenceEvenIdeal.nD Cert.ReferenceEvenIdeal.τ).loc Cert.ReferenceEvenIdeal.main_arg1) = m ((c.tc : Thread Cert.EvenIdeal.nD Cert.EvenIdeal.τ).loc Cert.EvenIdeal.main_arg1)
      ∧ m' ((c.tc : Thread Cert.ReferenceEvenIdeal.nD Cert.ReferenceEvenIdeal.τ).loc Cert.ReferenceEvenIdeal.main_arg2) = m ((c.tc : Thread Cert.EvenIdeal.nD Cert.EvenIdeal.τ).loc Cert.EvenIdeal.main_arg2)) →
    ∃ (v0 : (c : Dev Cert.EvenIdeal.nD) → Buf (Elt Ideal) ((c.tc : Thread Cert.EvenIdeal.nD Cert.EvenIdeal.τ).loc Cert.EvenIdeal.main_v4)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v4) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v7) = v0 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2))

def preserves_Odd_OddIdeal : Prop :=
  True

def algebraic_OddIdeal_ReferenceOddIdeal [hOddIdeal : Cert.OddIdeal.Facts] [hReferenceOddIdeal : Cert.ReferenceOddIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_OddIdeal m →
    (∀ c : Dev Cert.OddIdeal.nD,
      m' ((c.tc : Thread Cert.ReferenceOddIdeal.nD Cert.ReferenceOddIdeal.τ).loc Cert.ReferenceOddIdeal.main_arg0) = m ((c.tc : Thread Cert.OddIdeal.nD Cert.OddIdeal.τ).loc Cert.OddIdeal.main_arg0)
      ∧ m' ((c.tc : Thread Cert.ReferenceOddIdeal.nD Cert.ReferenceOddIdeal.τ).loc Cert.ReferenceOddIdeal.main_arg1) = m ((c.tc : Thread Cert.OddIdeal.nD Cert.OddIdeal.τ).loc Cert.OddIdeal.main_arg1)
      ∧ m' ((c.tc : Thread Cert.ReferenceOddIdeal.nD Cert.ReferenceOddIdeal.τ).loc Cert.ReferenceOddIdeal.main_arg2) = m ((c.tc : Thread Cert.OddIdeal.nD Cert.OddIdeal.τ).loc Cert.OddIdeal.main_arg2)) →
    ∃ (v0 : (c : Dev Cert.OddIdeal.nD) → Buf (Elt Ideal) ((c.tc : Thread Cert.OddIdeal.nD Cert.OddIdeal.τ).loc Cert.OddIdeal.main_v4)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v4) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v7) = v0 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2))

def preserves_Finish_FinishIdeal : Prop :=
  True

def algebraic_FinishIdeal_ReferenceFinishIdeal [hFinishIdeal : Cert.FinishIdeal.Facts] [hReferenceFinishIdeal : Cert.ReferenceFinishIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.ReferenceFinishIdeal.nD Cert.ReferenceFinishIdeal.τ Cert.ReferenceFinishIdeal.sig) → Buf (Elt Ideal) ℓ) (g' : Dev Cert.ReferenceFinishIdeal.nD → PrngReg), Pre_FinishIdeal m →
    (∀ c : Dev Cert.FinishIdeal.nD,
      m' ((c.tc : Thread Cert.ReferenceFinishIdeal.nD Cert.ReferenceFinishIdeal.τ).loc Cert.ReferenceFinishIdeal.main_arg0) = m ((c.tc : Thread Cert.FinishIdeal.nD Cert.FinishIdeal.τ).loc Cert.FinishIdeal.main_arg0)
      ∧ m' ((c.tc : Thread Cert.ReferenceFinishIdeal.nD Cert.ReferenceFinishIdeal.τ).loc Cert.ReferenceFinishIdeal.main_arg1) = m ((c.tc : Thread Cert.FinishIdeal.nD Cert.FinishIdeal.τ).loc Cert.FinishIdeal.main_arg1)
      ∧ m' ((c.tc : Thread Cert.ReferenceFinishIdeal.nD Cert.ReferenceFinishIdeal.τ).loc Cert.ReferenceFinishIdeal.main_arg2) = m ((c.tc : Thread Cert.FinishIdeal.nD Cert.FinishIdeal.τ).loc Cert.FinishIdeal.main_arg2)
      ∧ m' ((c.tc : Thread Cert.ReferenceFinishIdeal.nD Cert.ReferenceFinishIdeal.τ).loc Cert.ReferenceFinishIdeal.main_arg3) = m ((c.tc : Thread Cert.FinishIdeal.nD Cert.FinishIdeal.τ).loc Cert.FinishIdeal.main_arg3)
      ∧ m' ((c.tc : Thread Cert.ReferenceFinishIdeal.nD Cert.ReferenceFinishIdeal.τ).loc Cert.ReferenceFinishIdeal.main_arg4) = m ((c.tc : Thread Cert.FinishIdeal.nD Cert.FinishIdeal.τ).loc Cert.FinishIdeal.main_arg4)
      ∧ m' ((c.tc : Thread Cert.ReferenceFinishIdeal.nD Cert.ReferenceFinishIdeal.τ).loc Cert.ReferenceFinishIdeal.main_arg5) = m ((c.tc : Thread Cert.FinishIdeal.nD Cert.FinishIdeal.τ).loc Cert.FinishIdeal.main_arg5)
      ∧ m' ((c.tc : Thread Cert.ReferenceFinishIdeal.nD Cert.ReferenceFinishIdeal.τ).loc Cert.ReferenceFinishIdeal.main_arg6) = m ((c.tc : Thread Cert.FinishIdeal.nD Cert.FinishIdeal.τ).loc Cert.FinishIdeal.main_arg6)) →
    ∃ (v0 : (c : Dev Cert.FinishIdeal.nD) → Buf (Elt Ideal) ((c.tc : Thread Cert.FinishIdeal.nD Cert.FinishIdeal.τ).loc Cert.FinishIdeal.main_v9)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v9) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6))
      ∧ θ_run (Cert.ReferenceFinishIdeal.defs (F := Ideal)) (onTc (τ := Cert.ReferenceFinishIdeal.τ) (Cert.ReferenceFinishIdeal.main (F := Ideal))) ⟨m', fun _ => 0, g'⟩ (fun r => ∀ c : Dev Cert.ReferenceFinishIdeal.nD,
          r.2.mem ((c.tc : Thread Cert.ReferenceFinishIdeal.nD Cert.ReferenceFinishIdeal.τ).loc Cert.ReferenceFinishIdeal.main_v21) = v0 c
          ∧ r.2.mem ((c.tc : Thread Cert.ReferenceFinishIdeal.nD Cert.ReferenceFinishIdeal.τ).loc Cert.ReferenceFinishIdeal.main_arg0) = m' ((c.tc : Thread Cert.ReferenceFinishIdeal.nD Cert.ReferenceFinishIdeal.τ).loc Cert.ReferenceFinishIdeal.main_arg0)
          ∧ r.2.mem ((c.tc : Thread Cert.ReferenceFinishIdeal.nD Cert.ReferenceFinishIdeal.τ).loc Cert.ReferenceFinishIdeal.main_arg1) = m' ((c.tc : Thread Cert.ReferenceFinishIdeal.nD Cert.ReferenceFinishIdeal.τ).loc Cert.ReferenceFinishIdeal.main_arg1)
          ∧ r.2.mem ((c.tc : Thread Cert.ReferenceFinishIdeal.nD Cert.ReferenceFinishIdeal.τ).loc Cert.ReferenceFinishIdeal.main_arg2) = m' ((c.tc : Thread Cert.ReferenceFinishIdeal.nD Cert.ReferenceFinishIdeal.τ).loc Cert.ReferenceFinishIdeal.main_arg2)
          ∧ r.2.mem ((c.tc : Thread Cert.ReferenceFinishIdeal.nD Cert.ReferenceFinishIdeal.τ).loc Cert.ReferenceFinishIdeal.main_arg3) = m' ((c.tc : Thread Cert.ReferenceFinishIdeal.nD Cert.ReferenceFinishIdeal.τ).loc Cert.ReferenceFinishIdeal.main_arg3)
          ∧ r.2.mem ((c.tc : Thread Cert.ReferenceFinishIdeal.nD Cert.ReferenceFinishIdeal.τ).loc Cert.ReferenceFinishIdeal.main_arg4) = m' ((c.tc : Thread Cert.ReferenceFinishIdeal.nD Cert.ReferenceFinishIdeal.τ).loc Cert.ReferenceFinishIdeal.main_arg4)
          ∧ r.2.mem ((c.tc : Thread Cert.ReferenceFinishIdeal.nD Cert.ReferenceFinishIdeal.τ).loc Cert.ReferenceFinishIdeal.main_arg5) = m' ((c.tc : Thread Cert.ReferenceFinishIdeal.nD Cert.ReferenceFinishIdeal.τ).loc Cert.ReferenceFinishIdeal.main_arg5)
          ∧ r.2.mem ((c.tc : Thread Cert.ReferenceFinishIdeal.nD Cert.ReferenceFinishIdeal.τ).loc Cert.ReferenceFinishIdeal.main_arg6) = m' ((c.tc : Thread Cert.ReferenceFinishIdeal.nD Cert.ReferenceFinishIdeal.τ).loc Cert.ReferenceFinishIdeal.main_arg6))

def Claim : Prop :=
  ∃ (hKernel : Cert.Kernel.Facts) (hKernelIdeal : Cert.KernelIdeal.Facts) (hReferenceIdeal : Cert.ReferenceIdeal.Facts) (hEven : Cert.Even.Facts) (hEvenIdeal : Cert.EvenIdeal.Facts) (hReferenceEvenIdeal : Cert.ReferenceEvenIdeal.Facts) (hOdd : Cert.Odd.Facts) (hOddIdeal : Cert.OddIdeal.Facts) (hReferenceOddIdeal : Cert.ReferenceOddIdeal.Facts) (hFinish : Cert.Finish.Facts) (hFinishIdeal : Cert.FinishIdeal.Facts) (hReferenceFinishIdeal : Cert.ReferenceFinishIdeal.Facts),
    quiescent_Kernel (hKernel := hKernel)
    ∧ quiescent_KernelIdeal (hKernelIdeal := hKernelIdeal)
    ∧ quiescent_ReferenceIdeal (hReferenceIdeal := hReferenceIdeal)
    ∧ quiescent_Even (hEven := hEven)
    ∧ quiescent_EvenIdeal (hEvenIdeal := hEvenIdeal)
    ∧ quiescent_ReferenceEvenIdeal (hReferenceEvenIdeal := hReferenceEvenIdeal)
    ∧ quiescent_Odd (hOdd := hOdd)
    ∧ quiescent_OddIdeal (hOddIdeal := hOddIdeal)
    ∧ quiescent_ReferenceOddIdeal (hReferenceOddIdeal := hReferenceOddIdeal)
    ∧ quiescent_Finish (hFinish := hFinish)
    ∧ quiescent_FinishIdeal (hFinishIdeal := hFinishIdeal)
    ∧ quiescent_ReferenceFinishIdeal (hReferenceFinishIdeal := hReferenceFinishIdeal)
    ∧ preserves_Kernel_KernelIdeal
    ∧ algebraic_KernelIdeal_ReferenceIdeal (hKernelIdeal := hKernelIdeal) (hReferenceIdeal := hReferenceIdeal)
    ∧ preserves_Even_EvenIdeal
    ∧ algebraic_EvenIdeal_ReferenceEvenIdeal (hEvenIdeal := hEvenIdeal) (hReferenceEvenIdeal := hReferenceEvenIdeal)
    ∧ preserves_Odd_OddIdeal
    ∧ algebraic_OddIdeal_ReferenceOddIdeal (hOddIdeal := hOddIdeal) (hReferenceOddIdeal := hReferenceOddIdeal)
    ∧ preserves_Finish_FinishIdeal
    ∧ algebraic_FinishIdeal_ReferenceFinishIdeal (hFinishIdeal := hFinishIdeal) (hReferenceFinishIdeal := hReferenceFinishIdeal)
-- ==== Kernel.lean ====
abbrev S3x6144x3072 : Shape := ⟨3, ![3, 6144, 3072]⟩
abbrev S3x6144x96 : Shape := ⟨3, ![3, 6144, 96]⟩
abbrev S3x2304x1152 : Shape := ⟨3, ![3, 2304, 1152]⟩
abbrev S3x2304x36 : Shape := ⟨3, ![3, 2304, 36]⟩
abbrev S3x6144x6144 : Shape := ⟨3, ![3, 6144, 6144]⟩
abbrev S1x256x3072 : Shape := ⟨3, ![1, 256, 3072]⟩
abbrev S1x256x96 : Shape := ⟨3, ![1, 256, 96]⟩
abbrev S1x256x6144 : Shape := ⟨3, ![1, 256, 6144]⟩
abbrev S256x128 : Shape := ⟨2, ![256, 128]⟩
abbrev S256x96 : Shape := ⟨2, ![256, 96]⟩
abbrev S256x32 : Shape := ⟨2, ![256, 32]⟩
abbrev S1x256x128 : Shape := ⟨3, ![1, 256, 128]⟩
abbrev S256x128x1 : Shape := ⟨3, ![256, 128, 1]⟩
abbrev S3x2304x2304 : Shape := ⟨3, ![3, 2304, 2304]⟩
abbrev S1x256x1152 : Shape := ⟨3, ![1, 256, 1152]⟩
abbrev S1x256x36 : Shape := ⟨3, ![1, 256, 36]⟩
abbrev S1x256x2304 : Shape := ⟨3, ![1, 256, 2304]⟩
abbrev S256x36 : Shape := ⟨2, ![256, 36]⟩
abbrev S256x92 : Shape := ⟨2, ![256, 92]⟩
abbrev S1x768x2304 : Shape := ⟨3, ![1, 768, 2304]⟩
abbrev S1x256x768 : Shape := ⟨3, ![1, 256, 768]⟩
abbrev S256x2304 : Shape := ⟨2, ![256, 2304]⟩
abbrev S768x2304 : Shape := ⟨2, ![768, 2304]⟩
abbrev S256x768 : Shape := ⟨2, ![256, 768]⟩
abbrev S3x2304x128 : Shape := ⟨3, ![3, 2304, 128]⟩
abbrev S1x2304x768 : Shape := ⟨3, ![1, 2304, 768]⟩
abbrev S1x256x384 : Shape := ⟨3, ![1, 256, 384]⟩
abbrev S2304x768 : Shape := ⟨2, ![2304, 768]⟩
abbrev S1x512x6144 : Shape := ⟨3, ![1, 512, 6144]⟩
abbrev S1x768x6144 : Shape := ⟨3, ![1, 768, 6144]⟩
abbrev S1x512x768 : Shape := ⟨3, ![1, 512, 768]⟩
abbrev S512x6144 : Shape := ⟨2, ![512, 6144]⟩
abbrev S768x6144 : Shape := ⟨2, ![768, 6144]⟩
abbrev S512x768 : Shape := ⟨2, ![512, 768]⟩
abbrev S3x6144x128 : Shape := ⟨3, ![3, 6144, 128]⟩
abbrev S1x6144x512 : Shape := ⟨3, ![1, 6144, 512]⟩
abbrev S1x512x512 : Shape := ⟨3, ![1, 512, 512]⟩
abbrev S1x512x256 : Shape := ⟨3, ![1, 512, 256]⟩
abbrev S1x512x128 : Shape := ⟨3, ![1, 512, 128]⟩
abbrev S6144x512 : Shape := ⟨2, ![6144, 512]⟩
abbrev S512x512 : Shape := ⟨2, ![512, 512]⟩
abbrev S512x128 : Shape := ⟨2, ![512, 128]⟩
abbrev S512x128x1 : Shape := ⟨3, ![512, 128, 1]⟩

abbrev nBuf : Space → Nat
  | .hbm => 18
  | .vmem => 52
  | .smem => 0
  | _ => 0

abbrev bufTy : (tb : Table) → Fin (tcTables nBuf tb) → BufTy
  | .hbm, ⟨0, _⟩ => ⟨S3x6144x3072, .i8⟩
  | .hbm, ⟨1, _⟩ => ⟨S3x6144x96, .f32⟩
  | .hbm, ⟨2, _⟩ => ⟨S3x2304x1152, .i8⟩
  | .hbm, ⟨3, _⟩ => ⟨S3x2304x36, .f32⟩
  | .hbm, ⟨4, _⟩ => ⟨S3x6144x6144, .bf16⟩
  | .hbm, ⟨5, _⟩ => ⟨S3x2304x2304, .bf16⟩
  | .hbm, ⟨6, _⟩ => ⟨S3x2304x2304, .bf16⟩
  | .hbm, ⟨7, _⟩ => ⟨S3x2304x1152, .bf16⟩
  | .hbm, ⟨8, _⟩ => ⟨S3x2304x1152, .bf16⟩
  | .hbm, ⟨9, _⟩ => ⟨S3x2304x1152, .i8⟩
  | .hbm, ⟨10, _⟩ => ⟨S3x2304x128, .f32⟩
  | .hbm, ⟨11, _⟩ => ⟨S3x6144x6144, .bf16⟩
  | .hbm, ⟨12, _⟩ => ⟨S3x6144x3072, .bf16⟩
  | .hbm, ⟨13, _⟩ => ⟨S3x6144x3072, .bf16⟩
  | .hbm, ⟨14, _⟩ => ⟨S3x6144x3072, .i8⟩
  | .hbm, ⟨15, _⟩ => ⟨S3x6144x128, .f32⟩
  | .hbm, ⟨16, _⟩ => ⟨S3x6144x96, .f32⟩
  | .hbm, ⟨17, _⟩ => ⟨S3x2304x36, .f32⟩
  | .local _ .vmem, ⟨0, _⟩ => ⟨S1x256x3072, .i8⟩
  | .local _ .vmem, ⟨1, _⟩ => ⟨S1x256x3072, .i8⟩
  | .local _ .vmem, ⟨2, _⟩ => ⟨S1x256x96, .f32⟩
  | .local _ .vmem, ⟨3, _⟩ => ⟨S1x256x96, .f32⟩
  | .local _ .vmem, ⟨4, _⟩ => ⟨S1x256x6144, .bf16⟩
  | .local _ .vmem, ⟨5, _⟩ => ⟨S1x256x6144, .bf16⟩
  | .local _ .vmem, ⟨6, _⟩ => ⟨S1x256x1152, .i8⟩
  | .local _ .vmem, ⟨7, _⟩ => ⟨S1x256x1152, .i8⟩
  | .local _ .vmem, ⟨8, _⟩ => ⟨S1x256x36, .f32⟩
  | .local _ .vmem, ⟨9, _⟩ => ⟨S1x256x36, .f32⟩
  | .local _ .vmem, ⟨10, _⟩ => ⟨S1x256x2304, .bf16⟩
  | .local _ .vmem, ⟨11, _⟩ => ⟨S1x256x2304, .bf16⟩
  | .local _ .vmem, ⟨12, _⟩ => ⟨S1x256x2304, .bf16⟩
  | .local _ .vmem, ⟨13, _⟩ => ⟨S1x256x2304, .bf16⟩
  | .local _ .vmem, ⟨14, _⟩ => ⟨S1x768x2304, .bf16⟩
  | .local _ .vmem, ⟨15, _⟩ => ⟨S1x768x2304, .bf16⟩
  | .local _ .vmem, ⟨16, _⟩ => ⟨S1x256x768, .bf16⟩
  | .local _ .vmem, ⟨17, _⟩ => ⟨S1x256x768, .bf16⟩
  | .local _ .vmem, ⟨18, _⟩ => ⟨S1x256x2304, .bf16⟩
  | .local _ .vmem, ⟨19, _⟩ => ⟨S1x256x2304, .bf16⟩
  | .local _ .vmem, ⟨20, _⟩ => ⟨S1x2304x768, .bf16⟩
  | .local _ .vmem, ⟨21, _⟩ => ⟨S1x2304x768, .bf16⟩
  | .local _ .vmem, ⟨22, _⟩ => ⟨S1x256x768, .bf16⟩
  | .local _ .vmem, ⟨23, _⟩ => ⟨S1x256x768, .bf16⟩
  | .local _ .vmem, ⟨24, _⟩ => ⟨S1x256x384, .bf16⟩
  | .local _ .vmem, ⟨25, _⟩ => ⟨S1x256x384, .bf16⟩
  | .local _ .vmem, ⟨26, _⟩ => ⟨S1x256x384, .bf16⟩
  | .local _ .vmem, ⟨27, _⟩ => ⟨S1x256x384, .bf16⟩
  | .local _ .vmem, ⟨28, _⟩ => ⟨S1x256x384, .i8⟩
  | .local _ .vmem, ⟨29, _⟩ => ⟨S1x256x384, .i8⟩
  | .local _ .vmem, ⟨30, _⟩ => ⟨S1x256x128, .f32⟩
  | .local _ .vmem, ⟨31, _⟩ => ⟨S1x256x128, .f32⟩
  | .local _ .vmem, ⟨32, _⟩ => ⟨S1x512x6144, .bf16⟩
  | .local _ .vmem, ⟨33, _⟩ => ⟨S1x512x6144, .bf16⟩
  | .local _ .vmem, ⟨34, _⟩ => ⟨S1x768x6144, .bf16⟩
  | .local _ .vmem, ⟨35, _⟩ => ⟨S1x768x6144, .bf16⟩
  | .local _ .vmem, ⟨36, _⟩ => ⟨S1x512x768, .bf16⟩
  | .local _ .vmem, ⟨37, _⟩ => ⟨S1x512x768, .bf16⟩
  | .local _ .vmem, ⟨38, _⟩ => ⟨S1x512x6144, .bf16⟩
  | .local _ .vmem, ⟨39, _⟩ => ⟨S1x512x6144, .bf16⟩
  | .local _ .vmem, ⟨40, _⟩ => ⟨S1x6144x512, .bf16⟩
  | .local _ .vmem, ⟨41, _⟩ => ⟨S1x6144x512, .bf16⟩
  | .local _ .vmem, ⟨42, _⟩ => ⟨S1x512x512, .bf16⟩
  | .local _ .vmem, ⟨43, _⟩ => ⟨S1x512x512, .bf16⟩
  | .local _ .vmem, ⟨44, _⟩ => ⟨S1x512x256, .bf16⟩
  | .local _ .vmem, ⟨45, _⟩ => ⟨S1x512x256, .bf16⟩
  | .local _ .vmem, ⟨46, _⟩ => ⟨S1x512x256, .bf16⟩
  | .local _ .vmem, ⟨47, _⟩ => ⟨S1x512x256, .bf16⟩
  | .local _ .vmem, ⟨48, _⟩ => ⟨S1x512x256, .i8⟩
  | .local _ .vmem, ⟨49, _⟩ => ⟨S1x512x256, .i8⟩
  | .local _ .vmem, ⟨50, _⟩ => ⟨S1x512x128, .f32⟩
  | .local _ .vmem, ⟨51, _⟩ => ⟨S1x512x128, .f32⟩
  | _, _ => ⟨S3x6144x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc5_sem5_0 : DmaSem sig := 48
abbrev cc5_sem5_1 : DmaSem sig := 49
abbrev cc5_sem6_0 : DmaSem sig := 50
abbrev cc5_sem6_1 : DmaSem sig := 51

abbrev nD : Nat := 1
abbrev τ : Topo := Topo.v7x

variable {F : FTy → Type} [FloatOps F]

abbrev grid0 : Pipeline.Grid := ⟨2, ![3, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![3, 9], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1152 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2304 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![3, 9, 3], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x256x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x768x2304 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x256x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev grid3 : Pipeline.Grid := ⟨3, ![3, 9, 3], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x256x2304 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x2304x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x256x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x256x384 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x256x384 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x256x384 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev grid4 : Pipeline.Grid := ⟨3, ![3, 12, 8], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S1x512x6144 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S1x768x6144 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x512x768 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![3, 12, 12], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_5 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_6 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S1x512x6144 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false]

abbrev stage5_1 : Fin 2 → Memref sig .tc .vmem S1x6144x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x512x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev stage5_4 : Fin 2 → Memref sig .tc .vmem S1x512x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, true]

abbrev stage5_5 : Fin 2 → Memref sig .tc .vmem S1x512x256 .i8 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, true]

abbrev stage5_6 : Fin 2 → Memref sig .tc .vmem S1x512x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true, false]
-- ==== ReferenceIdeal.lean ====
abbrev S3x6144x3072 : Shape := ⟨3, ![3, 6144, 3072]⟩
abbrev S3x6144x96 : Shape := ⟨3, ![3, 6144, 96]⟩
abbrev S3x2304x1152 : Shape := ⟨3, ![3, 2304, 1152]⟩
abbrev S3x2304x36 : Shape := ⟨3, ![3, 2304, 36]⟩
abbrev S_ : Shape := ⟨0, ![]⟩
abbrev S3x6144x96x32 : Shape := ⟨4, ![3, 6144, 96, 32]⟩
abbrev S3x6144x96x1 : Shape := ⟨4, ![3, 6144, 96, 1]⟩
abbrev S3x2304x36x32 : Shape := ⟨4, ![3, 2304, 36, 32]⟩
abbrev S3x2304x36x1 : Shape := ⟨4, ![3, 2304, 36, 1]⟩
abbrev S3x6144x6144 : Shape := ⟨3, ![3, 6144, 6144]⟩
abbrev S3x2304x2304 : Shape := ⟨3, ![3, 2304, 2304]⟩

abbrev nBuf : Space → Nat
  | .hbm => 790
  | .vmem => 0
  | .smem => 0
  | _ => 0

abbrev hbmTy0_0 (i : Nat) : BufTy := match i % 128 with
  | 0 => ⟨S3x6144x3072, .i8⟩
  | 1 => ⟨S3x6144x96, .f32⟩
  | 2 => ⟨S3x2304x1152, .i8⟩
  | 3 => ⟨S3x2304x36, .f32⟩
  | 4 => ⟨S3x6144x3072, .i32⟩
  | 5 => ⟨S_, .i32⟩
  | 6 => ⟨S3x6144x3072, .i32⟩
  | 7 => ⟨S3x6144x3072, .i32⟩
  | 8 => ⟨S_, .i32⟩
  | 9 => ⟨S3x6144x3072, .i32⟩
  | 10 => ⟨S3x6144x3072, .i32⟩
  | 11 => ⟨S_, .i32⟩
  | 12 => ⟨S3x6144x3072, .i32⟩
  | 13 => ⟨S3x6144x3072, .i32⟩
  | 14 => ⟨S_, .i32⟩
  | 15 => ⟨S3x6144x3072, .i32⟩
  | 16 => ⟨S3x6144x3072, .i1⟩
  | 17 => ⟨S_, .i32⟩
  | 18 => ⟨S3x6144x3072, .i32⟩
  | 19 => ⟨S3x6144x3072, .i32⟩
  | 20 => ⟨S_, .i32⟩
  | 21 => ⟨S3x6144x3072, .i32⟩
  | 22 => ⟨S3x6144x3072, .i32⟩
  | 23 => ⟨S_, .i32⟩
  | 24 => ⟨S3x6144x3072, .i32⟩
  | 25 => ⟨S3x6144x3072, .i1⟩
  | 26 => ⟨S_, .i32⟩
  | 27 => ⟨S3x6144x3072, .i32⟩
  | 28 => ⟨S3x6144x3072, .i32⟩
  | 29 => ⟨S_, .i32⟩
  | 30 => ⟨S3x6144x3072, .i32⟩
  | 31 => ⟨S3x6144x3072, .i32⟩
  | 32 => ⟨S_, .i32⟩
  | 33 => ⟨S3x6144x3072, .i32⟩
  | 34 => ⟨S3x6144x3072, .i1⟩
  | 35 => ⟨S_, .i32⟩
  | 36 => ⟨S3x6144x3072, .i32⟩
  | 37 => ⟨S3x6144x3072, .i32⟩
  | 38 => ⟨S_, .i32⟩
  | 39 => ⟨S3x6144x3072, .i32⟩
  | 40 => ⟨S3x6144x3072, .i32⟩
  | 41 => ⟨S_, .i32⟩
  | 42 => ⟨S3x6144x3072, .i32⟩
  | 43 => ⟨S3x6144x3072, .i1⟩
  | 44 => ⟨S_, .f32⟩
  | 45 => ⟨S_, .f32⟩
  | 46 => ⟨S3x6144x3072, .f32⟩
  | 47 => ⟨S3x6144x3072, .f32⟩
  | 48 => ⟨S3x6144x3072, .f32⟩
  | 49 => ⟨S_, .f32⟩
  | 50 => ⟨S_, .f32⟩
  | 51 => ⟨S3x6144x3072, .f32⟩
  | 52 => ⟨S3x6144x3072, .f32⟩
  | 53 => ⟨S3x6144x3072, .f32⟩
  | 54 => ⟨S3x6144x3072, .f32⟩
  | 55 => ⟨S_, .f32⟩
  | 56 => ⟨S_, .f32⟩
  | 57 => ⟨S3x6144x3072, .f32⟩
  | 58 => ⟨S3x6144x3072, .f32⟩
  | 59 => ⟨S3x6144x3072, .f32⟩
  | 60 => ⟨S_, .f32⟩
  | 61 => ⟨S_, .f32⟩
  | 62 => ⟨S3x6144x3072, .f32⟩
  | 63 => ⟨S3x6144x3072, .f32⟩
  | 64 => ⟨S3x6144x3072, .f32⟩
  | 65 => ⟨S3x6144x3072, .f32⟩
  | 66 => ⟨S3x6144x3072, .f32⟩
  | 67 => ⟨S_, .f32⟩
  | 68 => ⟨S_, .f32⟩
  | 69 => ⟨S3x6144x3072, .f32⟩
  | 70 => ⟨S3x6144x3072, .f32⟩
  | 71 => ⟨S3x6144x3072, .f32⟩
  | 72 => ⟨S_, .f32⟩
  | 73 => ⟨S_, .f32⟩
  | 74 => ⟨S3x6144x3072, .f32⟩
  | 75 => ⟨S3x6144x3072, .f32⟩
  | 76 => ⟨S3x6144x3072, .f32⟩
  | 77 => ⟨S3x6144x3072, .f32⟩
  | 78 => ⟨S_, .f32⟩
  | 79 => ⟨S_, .f32⟩
  | 80 => ⟨S3x6144x3072, .f32⟩
  | 81 => ⟨S3x6144x3072, .f32⟩
  | 82 => ⟨S3x6144x3072, .f32⟩
  | 83 => ⟨S_, .f32⟩
  | 84 => ⟨S_, .f32⟩
  | 85 => ⟨S3x6144x3072, .f32⟩
  | 86 => ⟨S3x6144x3072, .f32⟩
  | 87 => ⟨S3x6144x3072, .f32⟩
  | 88 => ⟨S3x6144x3072, .f32⟩
  | 89 => ⟨S3x6144x3072, .f32⟩
  | 90 => ⟨S3x6144x3072, .f32⟩
  | 91 => ⟨S3x6144x96x32, .f32⟩
  | 92 => ⟨S3x6144x96x1, .f32⟩
  | 93 => ⟨S3x6144x96x32, .f32⟩
  | 94 => ⟨S3x6144x96x32, .f32⟩
  | 95 => ⟨S3x6144x3072, .f32⟩
  | 96 => ⟨S3x6144x3072, .bf16⟩
  | 97 => ⟨S_, .i32⟩
  | 98 => ⟨S3x6144x3072, .i32⟩
  | 99 => ⟨S3x6144x3072, .i32⟩
  | 100 => ⟨S_, .i32⟩
  | 101 => ⟨S3x6144x3072, .i32⟩
  | 102 => ⟨S3x6144x3072, .i32⟩
  | 103 => ⟨S_, .i32⟩
  | 104 => ⟨S3x6144x3072, .i32⟩
  | 105 => ⟨S3x6144x3072, .i32⟩
  | 106 => ⟨S_, .i32⟩
  | 107 => ⟨S3x6144x3072, .i32⟩
  | 108 => ⟨S3x6144x3072, .i1⟩
  | 109 => ⟨S_, .i32⟩
  | 110 => ⟨S3x6144x3072, .i32⟩
  | 111 => ⟨S3x6144x3072, .i32⟩
  | 112 => ⟨S_, .i32⟩
  | 113 => ⟨S3x6144x3072, .i32⟩
  | 114 => ⟨S3x6144x3072, .i32⟩
  | 115 => ⟨S_, .i32⟩
  | 116 => ⟨S3x6144x3072, .i32⟩
  | 117 => ⟨S3x6144x3072, .i1⟩
  | 118 => ⟨S_, .i32⟩
  | 119 => ⟨S3x6144x3072, .i32⟩
  | 120 => ⟨S3x6144x3072, .i32⟩
  | 121 => ⟨S_, .i32⟩
  | 122 => ⟨S3x6144x3072, .i32⟩
  | 123 => ⟨S3x6144x3072, .i32⟩
  | 124 => ⟨S_, .i32⟩
  | 125 => ⟨S3x6144x3072, .i32⟩
  | 126 => ⟨S3x6144x3072, .i1⟩
  | 127 => ⟨S_, .i32⟩
  | _ => ⟨S3x6144x3072, .i8⟩

abbrev hbmTy0_1 (i : Nat) : BufTy := match i % 128 with
  | 0 => ⟨S3x6144x3072, .i32⟩
  | 1 => ⟨S3x6144x3072, .i32⟩
  | 2 => ⟨S_, .i32⟩
  | 3 => ⟨S3x6144x3072, .i32⟩
  | 4 => ⟨S3x6144x3072, .i32⟩
  | 5 => ⟨S_, .i32⟩
  | 6 => ⟨S3x6144x3072, .i32⟩
  | 7 => ⟨S3x6144x3072, .i1⟩
  | 8 => ⟨S_, .f32⟩
  | 9 => ⟨S_, .f32⟩
  | 10 => ⟨S3x6144x3072, .f32⟩
  | 11 => ⟨S3x6144x3072, .f32⟩
  | 12 => ⟨S3x6144x3072, .f32⟩
  | 13 => ⟨S_, .f32⟩
  | 14 => ⟨S_, .f32⟩
  | 15 => ⟨S3x6144x3072, .f32⟩
  | 16 => ⟨S3x6144x3072, .f32⟩
  | 17 => ⟨S3x6144x3072, .f32⟩
  | 18 => ⟨S3x6144x3072, .f32⟩
  | 19 => ⟨S_, .f32⟩
  | 20 => ⟨S_, .f32⟩
  | 21 => ⟨S3x6144x3072, .f32⟩
  | 22 => ⟨S3x6144x3072, .f32⟩
  | 23 => ⟨S3x6144x3072, .f32⟩
  | 24 => ⟨S_, .f32⟩
  | 25 => ⟨S_, .f32⟩
  | 26 => ⟨S3x6144x3072, .f32⟩
  | 27 => ⟨S3x6144x3072, .f32⟩
  | 28 => ⟨S3x6144x3072, .f32⟩
  | 29 => ⟨S3x6144x3072, .f32⟩
  | 30 => ⟨S3x6144x3072, .f32⟩
  | 31 => ⟨S_, .f32⟩
  | 32 => ⟨S_, .f32⟩
  | 33 => ⟨S3x6144x3072, .f32⟩
  | 34 => ⟨S3x6144x3072, .f32⟩
  | 35 => ⟨S3x6144x3072, .f32⟩
  | 36 => ⟨S_, .f32⟩
  | 37 => ⟨S_, .f32⟩
  | 38 => ⟨S3x6144x3072, .f32⟩
  | 39 => ⟨S3x6144x3072, .f32⟩
  | 40 => ⟨S3x6144x3072, .f32⟩
  | 41 => ⟨S3x6144x3072, .f32⟩
  | 42 => ⟨S_, .f32⟩
  | 43 => ⟨S_, .f32⟩
  | 44 => ⟨S3x6144x3072, .f32⟩
  | 45 => ⟨S3x6144x3072, .f32⟩
  | 46 => ⟨S3x6144x3072, .f32⟩
  | 47 => ⟨S_, .f32⟩
  | 48 => ⟨S_, .f32⟩
  | 49 => ⟨S3x6144x3072, .f32⟩
  | 50 => ⟨S3x6144x3072, .f32⟩
  | 51 => ⟨S3x6144x3072, .f32⟩
  | 52 => ⟨S3x6144x3072, .f32⟩
  | 53 => ⟨S3x6144x3072, .f32⟩
  | 54 => ⟨S3x6144x3072, .f32⟩
  | 55 => ⟨S3x6144x96x32, .f32⟩
  | 56 => ⟨S3x6144x96x1, .f32⟩
  | 57 => ⟨S3x6144x96x32, .f32⟩
  | 58 => ⟨S3x6144x96x32, .f32⟩
  | 59 => ⟨S3x6144x3072, .f32⟩
  | 60 => ⟨S3x6144x3072, .bf16⟩
  | 61 => ⟨S3x2304x1152, .i32⟩
  | 62 => ⟨S_, .i32⟩
  | 63 => ⟨S3x2304x1152, .i32⟩
  | 64 => ⟨S3x2304x1152, .i32⟩
  | 65 => ⟨S_, .i32⟩
  | 66 => ⟨S3x2304x1152, .i32⟩
  | 67 => ⟨S3x2304x1152, .i32⟩
  | 68 => ⟨S_, .i32⟩
  | 69 => ⟨S3x2304x1152, .i32⟩
  | 70 => ⟨S3x2304x1152, .i32⟩
  | 71 => ⟨S_, .i32⟩
  | 72 => ⟨S3x2304x1152, .i32⟩
  | 73 => ⟨S3x2304x1152, .i1⟩
  | 74 => ⟨S_, .i32⟩
  | 75 => ⟨S3x2304x1152, .i32⟩
  | 76 => ⟨S3x2304x1152, .i32⟩
  | 77 => ⟨S_, .i32⟩
  | 78 => ⟨S3x2304x1152, .i32⟩
  | 79 => ⟨S3x2304x1152, .i32⟩
  | 80 => ⟨S_, .i32⟩
  | 81 => ⟨S3x2304x1152, .i32⟩
  | 82 => ⟨S3x2304x1152, .i1⟩
  | 83 => ⟨S_, .i32⟩
  | 84 => ⟨S3x2304x1152, .i32⟩
  | 85 => ⟨S3x2304x1152, .i32⟩
  | 86 => ⟨S_, .i32⟩
  | 87 => ⟨S3x2304x1152, .i32⟩
  | 88 => ⟨S3x2304x1152, .i32⟩
  | 89 => ⟨S_, .i32⟩
  | 90 => ⟨S3x2304x1152, .i32⟩
  | 91 => ⟨S3x2304x1152, .i1⟩
  | 92 => ⟨S_, .i32⟩
  | 93 => ⟨S3x2304x1152, .i32⟩
  | 94 => ⟨S3x2304x1152, .i32⟩
  | 95 => ⟨S_, .i32⟩
  | 96 => ⟨S3x2304x1152, .i32⟩
  | 97 => ⟨S3x2304x1152, .i32⟩
  | 98 => ⟨S_, .i32⟩
  | 99 => ⟨S3x2304x1152, .i32⟩
  | 100 => ⟨S3x2304x1152, .i1⟩
  | 101 => ⟨S_, .f32⟩
  | 102 => ⟨S_, .f32⟩
  | 103 => ⟨S3x2304x1152, .f32⟩
  | 104 => ⟨S3x2304x1152, .f32⟩
  | 105 => ⟨S3x2304x1152, .f32⟩
  | 106 => ⟨S_, .f32⟩
  | 107 => ⟨S_, .f32⟩
  | 108 => ⟨S3x2304x1152, .f32⟩
  | 109 => ⟨S3x2304x1152, .f32⟩
  | 110 => ⟨S3x2304x1152, .f32⟩
  | 111 => ⟨S3x2304x1152, .f32⟩
  | 112 => ⟨S_, .f32⟩
  | 113 => ⟨S_, .f32⟩
  | 114 => ⟨S3x2304x1152, .f32⟩
  | 115 => ⟨S3x2304x1152, .f32⟩
  | 116 => ⟨S3x2304x1152, .f32⟩
  | 117 => ⟨S_, .f32⟩
  | 118 => ⟨S_, .f32⟩
  | 119 => ⟨S3x2304x1152, .f32⟩
  | 120 => ⟨S3x2304x1152, .f32⟩
  | 121 => ⟨S3x2304x1152, .f32⟩
  | 122 => ⟨S3x2304x1152, .f32⟩
  | 123 => ⟨S3x2304x1152, .f32⟩
  | 124 => ⟨S_, .f32⟩
  | 125 => ⟨S_, .f32⟩
  | 126 => ⟨S3x2304x1152, .f32⟩
  | 127 => ⟨S3x2304x1152, .f32⟩
  | _ => ⟨S3x6144x3072, .i8⟩

abbrev hbmTy0_2 (i : Nat) : BufTy := match i % 128 with
  | 0 => ⟨S3x2304x1152, .f32⟩
  | 1 => ⟨S_, .f32⟩
  | 2 => ⟨S_, .f32⟩
  | 3 => ⟨S3x2304x1152, .f32⟩
  | 4 => ⟨S3x2304x1152, .f32⟩
  | 5 => ⟨S3x2304x1152, .f32⟩
  | 6 => ⟨S3x2304x1152, .f32⟩
  | 7 => ⟨S_, .f32⟩
  | 8 => ⟨S_, .f32⟩
  | 9 => ⟨S3x2304x1152, .f32⟩
  | 10 => ⟨S3x2304x1152, .f32⟩
  | 11 => ⟨S3x2304x1152, .f32⟩
  | 12 => ⟨S_, .f32⟩
  | 13 => ⟨S_, .f32⟩
  | 14 => ⟨S3x2304x1152, .f32⟩
  | 15 => ⟨S3x2304x1152, .f32⟩
  | 16 => ⟨S3x2304x1152, .f32⟩
  | 17 => ⟨S3x2304x1152, .f32⟩
  | 18 => ⟨S3x2304x1152, .f32⟩
  | 19 => ⟨S3x2304x1152, .f32⟩
  | 20 => ⟨S3x2304x36x32, .f32⟩
  | 21 => ⟨S3x2304x36x1, .f32⟩
  | 22 => ⟨S3x2304x36x32, .f32⟩
  | 23 => ⟨S3x2304x36x32, .f32⟩
  | 24 => ⟨S3x2304x1152, .f32⟩
  | 25 => ⟨S3x2304x1152, .bf16⟩
  | 26 => ⟨S_, .i32⟩
  | 27 => ⟨S3x2304x1152, .i32⟩
  | 28 => ⟨S3x2304x1152, .i32⟩
  | 29 => ⟨S_, .i32⟩
  | 30 => ⟨S3x2304x1152, .i32⟩
  | 31 => ⟨S3x2304x1152, .i32⟩
  | 32 => ⟨S_, .i32⟩
  | 33 => ⟨S3x2304x1152, .i32⟩
  | 34 => ⟨S3x2304x1152, .i32⟩
  | 35 => ⟨S_, .i32⟩
  | 36 => ⟨S3x2304x1152, .i32⟩
  | 37 => ⟨S3x2304x1152, .i1⟩
  | 38 => ⟨S_, .i32⟩
  | 39 => ⟨S3x2304x1152, .i32⟩
  | 40 => ⟨S3x2304x1152, .i32⟩
  | 41 => ⟨S_, .i32⟩
  | 42 => ⟨S3x2304x1152, .i32⟩
  | 43 => ⟨S3x2304x1152, .i32⟩
  | 44 => ⟨S_, .i32⟩
  | 45 => ⟨S3x2304x1152, .i32⟩
  | 46 => ⟨S3x2304x1152, .i1⟩
  | 47 => ⟨S_, .i32⟩
  | 48 => ⟨S3x2304x1152, .i32⟩
  | 49 => ⟨S3x2304x1152, .i32⟩
  | 50 => ⟨S_, .i32⟩
  | 51 => ⟨S3x2304x1152, .i32⟩
  | 52 => ⟨S3x2304x1152, .i32⟩
  | 53 => ⟨S_, .i32⟩
  | 54 => ⟨S3x2304x1152, .i32⟩
  | 55 => ⟨S3x2304x1152, .i1⟩
  | 56 => ⟨S_, .i32⟩
  | 57 => ⟨S3x2304x1152, .i32⟩
  | 58 => ⟨S3x2304x1152, .i32⟩
  | 59 => ⟨S_, .i32⟩
  | 60 => ⟨S3x2304x1152, .i32⟩
  | 61 => ⟨S3x2304x1152, .i32⟩
  | 62 => ⟨S_, .i32⟩
  | 63 => ⟨S3x2304x1152, .i32⟩
  | 64 => ⟨S3x2304x1152, .i1⟩
  | 65 => ⟨S_, .f32⟩
  | 66 => ⟨S_, .f32⟩
  | 67 => ⟨S3x2304x1152, .f32⟩
  | 68 => ⟨S3x2304x1152, .f32⟩
  | 69 => ⟨S3x2304x1152, .f32⟩
  | 70 => ⟨S_, .f32⟩
  | 71 => ⟨S_, .f32⟩
  | 72 => ⟨S3x2304x1152, .f32⟩
  | 73 => ⟨S3x2304x1152, .f32⟩
  | 74 => ⟨S3x2304x1152, .f32⟩
  | 75 => ⟨S3x2304x1152, .f32⟩
  | 76 => ⟨S_, .f32⟩
  | 77 => ⟨S_, .f32⟩
  | 78 => ⟨S3x2304x1152, .f32⟩
  | 79 => ⟨S3x2304x1152, .f32⟩
  | 80 => ⟨S3x2304x1152, .f32⟩
  | 81 => ⟨S_, .f32⟩
  | 82 => ⟨S_, .f32⟩
  | 83 => ⟨S3x2304x1152, .f32⟩
  | 84 => ⟨S3x2304x1152, .f32⟩
  | 85 => ⟨S3x2304x1152, .f32⟩
  | 86 => ⟨S3x2304x1152, .f32⟩
  | 87 => ⟨S3x2304x1152, .f32⟩
  | 88 => ⟨S_, .f32⟩
  | 89 => ⟨S_, .f32⟩
  | 90 => ⟨S3x2304x1152, .f32⟩
  | 91 => ⟨S3x2304x1152, .f32⟩
  | 92 => ⟨S3x2304x1152, .f32⟩
  | 93 => ⟨S_, .f32⟩
  | 94 => ⟨S_, .f32⟩
  | 95 => ⟨S3x2304x1152, .f32⟩
  | 96 => ⟨S3x2304x1152, .f32⟩
  | 97 => ⟨S3x2304x1152, .f32⟩
  | 98 => ⟨S3x2304x1152, .f32⟩
  | 99 => ⟨S_, .f32⟩
  | 100 => ⟨S_, .f32⟩
  | 101 => ⟨S3x2304x1152, .f32⟩
  | 102 => ⟨S3x2304x1152, .f32⟩
  | 103 => ⟨S3x2304x1152, .f32⟩
  | 104 => ⟨S_, .f32⟩
  | 105 => ⟨S_, .f32⟩
  | 106 => ⟨S3x2304x1152, .f32⟩
  | 107 => ⟨S3x2304x1152, .f32⟩
  | 108 => ⟨S3x2304x1152, .f32⟩
  | 109 => ⟨S3x2304x1152, .f32⟩
  | 110 => ⟨S3x2304x1152, .f32⟩
  | 111 => ⟨S3x2304x1152, .f32⟩
  | 112 => ⟨S3x2304x36x32, .f32⟩
  | 113 => ⟨S3x2304x36x1, .f32⟩
  | 114 => ⟨S3x2304x36x32, .f32⟩
  | 115 => ⟨S3x2304x36x32, .f32⟩
  | 116 => ⟨S3x2304x1152, .f32⟩
  | 117 => ⟨S3x2304x1152, .bf16⟩
  | 118 => ⟨S3x6144x6144, .f32⟩
  | 119 => ⟨S3x6144x6144, .f32⟩
  | 120 => ⟨S3x6144x6144, .f32⟩
  | 121 => ⟨S3x6144x6144, .bf16⟩
  | 122 => ⟨S3x6144x3072, .f32⟩
  | 123 => ⟨S_, .f32⟩
  | 124 => ⟨S3x6144x3072, .f32⟩
  | 125 => ⟨S3x6144x3072, .f32⟩
  | 126 => ⟨S3x6144x3072, .f32⟩
  | 127 => ⟨S_, .f32⟩
  | _ => ⟨S3x6144x3072, .i8⟩

abbrev hbmTy0_3 (i : Nat) : BufTy := match i % 128 with
  | 0 => ⟨S3x6144x3072, .f32⟩
  | 1 => ⟨S3x6144x3072, .f32⟩
  | 2 => ⟨S3x6144x3072, .f32⟩
  | 3 => ⟨S3x6144x3072, .bf16⟩
  | 4 => ⟨S3x6144x3072, .f32⟩
  | 5 => ⟨S_, .f32⟩
  | 6 => ⟨S3x6144x3072, .f32⟩
  | 7 => ⟨S3x6144x3072, .f32⟩
  | 8 => ⟨S3x6144x3072, .f32⟩
  | 9 => ⟨S_, .f32⟩
  | 10 => ⟨S3x6144x3072, .f32⟩
  | 11 => ⟨S3x6144x3072, .f32⟩
  | 12 => ⟨S3x6144x3072, .f32⟩
  | 13 => ⟨S3x6144x3072, .bf16⟩
  | 14 => ⟨S3x2304x2304, .f32⟩
  | 15 => ⟨S3x2304x2304, .f32⟩
  | 16 => ⟨S3x2304x2304, .f32⟩
  | 17 => ⟨S3x2304x2304, .bf16⟩
  | 18 => ⟨S3x2304x1152, .f32⟩
  | 19 => ⟨S_, .f32⟩
  | 20 => ⟨S3x2304x1152, .f32⟩
  | 21 => ⟨S3x2304x1152, .f32⟩
  | 22 => ⟨S3x2304x1152, .f32⟩
  | 23 => ⟨S_, .f32⟩
  | 24 => ⟨S3x2304x1152, .f32⟩
  | 25 => ⟨S3x2304x1152, .f32⟩
  | 26 => ⟨S3x2304x1152, .f32⟩
  | 27 => ⟨S3x2304x1152, .bf16⟩
  | 28 => ⟨S3x2304x1152, .f32⟩
  | 29 => ⟨S_, .f32⟩
  | 30 => ⟨S3x2304x1152, .f32⟩
  | 31 => ⟨S3x2304x1152, .f32⟩
  | 32 => ⟨S3x2304x1152, .f32⟩
  | 33 => ⟨S_, .f32⟩
  | 34 => ⟨S3x2304x1152, .f32⟩
  | 35 => ⟨S3x2304x1152, .f32⟩
  | 36 => ⟨S3x2304x1152, .f32⟩
  | 37 => ⟨S3x2304x1152, .bf16⟩
  | 38 => ⟨S3x6144x3072, .f32⟩
  | 39 => ⟨S3x6144x96x32, .f32⟩
  | 40 => ⟨S3x6144x3072, .f32⟩
  | 41 => ⟨S3x6144x96x32, .f32⟩
  | 42 => ⟨S3x6144x96x32, .f32⟩
  | 43 => ⟨S_, .f32⟩
  | 44 => ⟨S3x6144x96, .f32⟩
  | 45 => ⟨S3x6144x96x32, .f32⟩
  | 46 => ⟨S_, .f32⟩
  | 47 => ⟨S3x6144x96, .f32⟩
  | 48 => ⟨S3x6144x96, .f32⟩
  | 49 => ⟨S_, .f32⟩
  | 50 => ⟨S3x6144x96, .f32⟩
  | 51 => ⟨S3x6144x96, .i1⟩
  | 52 => ⟨S_, .f32⟩
  | 53 => ⟨S_, .f32⟩
  | 54 => ⟨S3x6144x96, .f32⟩
  | 55 => ⟨S3x6144x96, .f32⟩
  | 56 => ⟨S3x6144x96x1, .f32⟩
  | 57 => ⟨S3x6144x96x32, .f32⟩
  | 58 => ⟨S3x6144x96x32, .f32⟩
  | 59 => ⟨S_, .i32⟩
  | 60 => ⟨S3x6144x96x32, .i32⟩
  | 61 => ⟨S_, .f32⟩
  | 62 => ⟨S3x6144x96x32, .f32⟩
  | 63 => ⟨S3x6144x96x32, .i1⟩
  | 64 => ⟨S3x6144x96x32, .i32⟩
  | 65 => ⟨S3x6144x96x32, .i32⟩
  | 66 => ⟨S_, .f32⟩
  | 67 => ⟨S3x6144x96x32, .f32⟩
  | 68 => ⟨S3x6144x96x32, .i1⟩
  | 69 => ⟨S3x6144x96x32, .i32⟩
  | 70 => ⟨S3x6144x96x32, .i32⟩
  | 71 => ⟨S_, .f32⟩
  | 72 => ⟨S3x6144x96x32, .f32⟩
  | 73 => ⟨S3x6144x96x32, .i1⟩
  | 74 => ⟨S3x6144x96x32, .i32⟩
  | 75 => ⟨S3x6144x96x32, .i32⟩
  | 76 => ⟨S_, .f32⟩
  | 77 => ⟨S3x6144x96x32, .f32⟩
  | 78 => ⟨S3x6144x96x32, .i1⟩
  | 79 => ⟨S3x6144x96x32, .i32⟩
  | 80 => ⟨S3x6144x96x32, .i32⟩
  | 81 => ⟨S_, .f32⟩
  | 82 => ⟨S3x6144x96x32, .f32⟩
  | 83 => ⟨S3x6144x96x32, .i1⟩
  | 84 => ⟨S3x6144x96x32, .i32⟩
  | 85 => ⟨S3x6144x96x32, .i32⟩
  | 86 => ⟨S_, .f32⟩
  | 87 => ⟨S3x6144x96x32, .f32⟩
  | 88 => ⟨S3x6144x96x32, .i1⟩
  | 89 => ⟨S3x6144x96x32, .i32⟩
  | 90 => ⟨S3x6144x96x32, .i32⟩
  | 91 => ⟨S_, .f32⟩
  | 92 => ⟨S3x6144x96x32, .f32⟩
  | 93 => ⟨S3x6144x96x32, .i1⟩
  | 94 => ⟨S3x6144x96x32, .i32⟩
  | 95 => ⟨S3x6144x96x32, .i32⟩
  | 96 => ⟨S_, .f32⟩
  | 97 => ⟨S3x6144x96x32, .f32⟩
  | 98 => ⟨S3x6144x96x32, .i1⟩
  | 99 => ⟨S3x6144x96x32, .i32⟩
  | 100 => ⟨S3x6144x96x32, .i32⟩
  | 101 => ⟨S_, .f32⟩
  | 102 => ⟨S3x6144x96x32, .f32⟩
  | 103 => ⟨S3x6144x96x32, .i1⟩
  | 104 => ⟨S3x6144x96x32, .i32⟩
  | 105 => ⟨S3x6144x96x32, .i32⟩
  | 106 => ⟨S_, .f32⟩
  | 107 => ⟨S3x6144x96x32, .f32⟩
  | 108 => ⟨S3x6144x96x32, .i1⟩
  | 109 => ⟨S3x6144x96x32, .i32⟩
  | 110 => ⟨S3x6144x96x32, .i32⟩
  | 111 => ⟨S_, .f32⟩
  | 112 => ⟨S3x6144x96x32, .f32⟩
  | 113 => ⟨S3x6144x96x32, .i1⟩
  | 114 => ⟨S3x6144x96x32, .i32⟩
  | 115 => ⟨S3x6144x96x32, .i32⟩
  | 116 => ⟨S_, .f32⟩
  | 117 => ⟨S3x6144x96x32, .f32⟩
  | 118 => ⟨S3x6144x96x32, .i1⟩
  | 119 => ⟨S3x6144x96x32, .i32⟩
  | 120 => ⟨S3x6144x96x32, .i32⟩
  | 121 => ⟨S_, .f32⟩
  | 122 => ⟨S3x6144x96x32, .f32⟩
  | 123 => ⟨S3x6144x96x32, .i1⟩
  | 124 => ⟨S3x6144x96x32, .i32⟩
  | 125 => ⟨S3x6144x96x32, .i32⟩
  | 126 => ⟨S_, .f32⟩
  | 127 => ⟨S3x6144x96x32, .f32⟩
  | _ => ⟨S3x6144x3072, .i8⟩

abbrev hbmTy0_4 (i : Nat) : BufTy := match i % 128 with
  | 0 => ⟨S3x6144x96x32, .i1⟩
  | 1 => ⟨S3x6144x96x32, .i32⟩
  | 2 => ⟨S3x6144x96x32, .i32⟩
  | 3 => ⟨S_, .f32⟩
  | 4 => ⟨S3x6144x96x32, .f32⟩
  | 5 => ⟨S3x6144x96x32, .i1⟩
  | 6 => ⟨S3x6144x96x32, .i32⟩
  | 7 => ⟨S3x6144x96x32, .i32⟩
  | 8 => ⟨S3x6144x96x1, .f32⟩
  | 9 => ⟨S3x6144x96x32, .f32⟩
  | 10 => ⟨S3x6144x96x32, .f32⟩
  | 11 => ⟨S_, .i32⟩
  | 12 => ⟨S3x6144x96x32, .i32⟩
  | 13 => ⟨S_, .f32⟩
  | 14 => ⟨S3x6144x96x32, .f32⟩
  | 15 => ⟨S3x6144x96x32, .i1⟩
  | 16 => ⟨S3x6144x96x32, .i32⟩
  | 17 => ⟨S3x6144x96x32, .i32⟩
  | 18 => ⟨S_, .f32⟩
  | 19 => ⟨S3x6144x96x32, .f32⟩
  | 20 => ⟨S3x6144x96x32, .i1⟩
  | 21 => ⟨S3x6144x96x32, .i32⟩
  | 22 => ⟨S3x6144x96x32, .i32⟩
  | 23 => ⟨S_, .f32⟩
  | 24 => ⟨S3x6144x96x32, .f32⟩
  | 25 => ⟨S3x6144x96x32, .i1⟩
  | 26 => ⟨S3x6144x96x32, .i32⟩
  | 27 => ⟨S3x6144x96x32, .i32⟩
  | 28 => ⟨S_, .f32⟩
  | 29 => ⟨S3x6144x96x32, .f32⟩
  | 30 => ⟨S3x6144x96x32, .i1⟩
  | 31 => ⟨S3x6144x96x32, .i32⟩
  | 32 => ⟨S3x6144x96x32, .i32⟩
  | 33 => ⟨S_, .f32⟩
  | 34 => ⟨S3x6144x96x32, .f32⟩
  | 35 => ⟨S3x6144x96x32, .i1⟩
  | 36 => ⟨S3x6144x96x32, .i32⟩
  | 37 => ⟨S3x6144x96x32, .i32⟩
  | 38 => ⟨S_, .f32⟩
  | 39 => ⟨S3x6144x96x32, .f32⟩
  | 40 => ⟨S3x6144x96x32, .i1⟩
  | 41 => ⟨S3x6144x96x32, .i32⟩
  | 42 => ⟨S3x6144x96x32, .i32⟩
  | 43 => ⟨S_, .f32⟩
  | 44 => ⟨S3x6144x96x32, .f32⟩
  | 45 => ⟨S3x6144x96x32, .i1⟩
  | 46 => ⟨S3x6144x96x32, .i32⟩
  | 47 => ⟨S3x6144x96x32, .i32⟩
  | 48 => ⟨S_, .f32⟩
  | 49 => ⟨S3x6144x96x32, .f32⟩
  | 50 => ⟨S3x6144x96x32, .i1⟩
  | 51 => ⟨S3x6144x96x32, .i32⟩
  | 52 => ⟨S3x6144x96x32, .i32⟩
  | 53 => ⟨S_, .f32⟩
  | 54 => ⟨S3x6144x96x32, .f32⟩
  | 55 => ⟨S3x6144x96x32, .i1⟩
  | 56 => ⟨S3x6144x96x32, .i32⟩
  | 57 => ⟨S3x6144x96x32, .i32⟩
  | 58 => ⟨S_, .f32⟩
  | 59 => ⟨S3x6144x96x32, .f32⟩
  | 60 => ⟨S3x6144x96x32, .i1⟩
  | 61 => ⟨S3x6144x96x32, .i32⟩
  | 62 => ⟨S3x6144x96x32, .i32⟩
  | 63 => ⟨S_, .f32⟩
  | 64 => ⟨S3x6144x96x32, .f32⟩
  | 65 => ⟨S3x6144x96x32, .i1⟩
  | 66 => ⟨S3x6144x96x32, .i32⟩
  | 67 => ⟨S3x6144x96x32, .i32⟩
  | 68 => ⟨S_, .f32⟩
  | 69 => ⟨S3x6144x96x32, .f32⟩
  | 70 => ⟨S3x6144x96x32, .i1⟩
  | 71 => ⟨S3x6144x96x32, .i32⟩
  | 72 => ⟨S3x6144x96x32, .i32⟩
  | 73 => ⟨S_, .f32⟩
  | 74 => ⟨S3x6144x96x32, .f32⟩
  | 75 => ⟨S3x6144x96x32, .i1⟩
  | 76 => ⟨S3x6144x96x32, .i32⟩
  | 77 => ⟨S3x6144x96x32, .i32⟩
  | 78 => ⟨S_, .f32⟩
  | 79 => ⟨S3x6144x96x32, .f32⟩
  | 80 => ⟨S3x6144x96x32, .i1⟩
  | 81 => ⟨S3x6144x96x32, .i32⟩
  | 82 => ⟨S3x6144x96x32, .i32⟩
  | 83 => ⟨S_, .f32⟩
  | 84 => ⟨S3x6144x96x32, .f32⟩
  | 85 => ⟨S3x6144x96x32, .i1⟩
  | 86 => ⟨S3x6144x96x32, .i32⟩
  | 87 => ⟨S3x6144x96x32, .i32⟩
  | 88 => ⟨S_, .i32⟩
  | 89 => ⟨S3x6144x96x32, .i32⟩
  | 90 => ⟨S3x6144x96x32, .i32⟩
  | 91 => ⟨S3x6144x96x32, .i32⟩
  | 92 => ⟨S3x6144x96x32, .i8⟩
  | 93 => ⟨S3x6144x3072, .i8⟩
  | 94 => ⟨S3x2304x1152, .f32⟩
  | 95 => ⟨S3x2304x36x32, .f32⟩
  | 96 => ⟨S3x2304x1152, .f32⟩
  | 97 => ⟨S3x2304x36x32, .f32⟩
  | 98 => ⟨S3x2304x36x32, .f32⟩
  | 99 => ⟨S_, .f32⟩
  | 100 => ⟨S3x2304x36, .f32⟩
  | 101 => ⟨S3x2304x36x32, .f32⟩
  | 102 => ⟨S_, .f32⟩
  | 103 => ⟨S3x2304x36, .f32⟩
  | 104 => ⟨S3x2304x36, .f32⟩
  | 105 => ⟨S_, .f32⟩
  | 106 => ⟨S3x2304x36, .f32⟩
  | 107 => ⟨S3x2304x36, .i1⟩
  | 108 => ⟨S_, .f32⟩
  | 109 => ⟨S_, .f32⟩
  | 110 => ⟨S3x2304x36, .f32⟩
  | 111 => ⟨S3x2304x36, .f32⟩
  | 112 => ⟨S3x2304x36x1, .f32⟩
  | 113 => ⟨S3x2304x36x32, .f32⟩
  | 114 => ⟨S3x2304x36x32, .f32⟩
  | 115 => ⟨S_, .i32⟩
  | 116 => ⟨S3x2304x36x32, .i32⟩
  | 117 => ⟨S_, .f32⟩
  | 118 => ⟨S3x2304x36x32, .f32⟩
  | 119 => ⟨S3x2304x36x32, .i1⟩
  | 120 => ⟨S3x2304x36x32, .i32⟩
  | 121 => ⟨S3x2304x36x32, .i32⟩
  | 122 => ⟨S_, .f32⟩
  | 123 => ⟨S3x2304x36x32, .f32⟩
  | 124 => ⟨S3x2304x36x32, .i1⟩
  | 125 => ⟨S3x2304x36x32, .i32⟩
  | 126 => ⟨S3x2304x36x32, .i32⟩
  | 127 => ⟨S_, .f32⟩
  | _ => ⟨S3x6144x3072, .i8⟩

abbrev hbmTy0_5 (i : Nat) : BufTy := match i % 128 with
  | 0 => ⟨S3x2304x36x32, .f32⟩
  | 1 => ⟨S3x2304x36x32, .i1⟩
  | 2 => ⟨S3x2304x36x32, .i32⟩
  | 3 => ⟨S3x2304x36x32, .i32⟩
  | 4 => ⟨S_, .f32⟩
  | 5 => ⟨S3x2304x36x32, .f32⟩
  | 6 => ⟨S3x2304x36x32, .i1⟩
  | 7 => ⟨S3x2304x36x32, .i32⟩
  | 8 => ⟨S3x2304x36x32, .i32⟩
  | 9 => ⟨S_, .f32⟩
  | 10 => ⟨S3x2304x36x32, .f32⟩
  | 11 => ⟨S3x2304x36x32, .i1⟩
  | 12 => ⟨S3x2304x36x32, .i32⟩
  | 13 => ⟨S3x2304x36x32, .i32⟩
  | 14 => ⟨S_, .f32⟩
  | 15 => ⟨S3x2304x36x32, .f32⟩
  | 16 => ⟨S3x2304x36x32, .i1⟩
  | 17 => ⟨S3x2304x36x32, .i32⟩
  | 18 => ⟨S3x2304x36x32, .i32⟩
  | 19 => ⟨S_, .f32⟩
  | 20 => ⟨S3x2304x36x32, .f32⟩
  | 21 => ⟨S3x2304x36x32, .i1⟩
  | 22 => ⟨S3x2304x36x32, .i32⟩
  | 23 => ⟨S3x2304x36x32, .i32⟩
  | 24 => ⟨S_, .f32⟩
  | 25 => ⟨S3x2304x36x32, .f32⟩
  | 26 => ⟨S3x2304x36x32, .i1⟩
  | 27 => ⟨S3x2304x36x32, .i32⟩
  | 28 => ⟨S3x2304x36x32, .i32⟩
  | 29 => ⟨S_, .f32⟩
  | 30 => ⟨S3x2304x36x32, .f32⟩
  | 31 => ⟨S3x2304x36x32, .i1⟩
  | 32 => ⟨S3x2304x36x32, .i32⟩
  | 33 => ⟨S3x2304x36x32, .i32⟩
  | 34 => ⟨S_, .f32⟩
  | 35 => ⟨S3x2304x36x32, .f32⟩
  | 36 => ⟨S3x2304x36x32, .i1⟩
  | 37 => ⟨S3x2304x36x32, .i32⟩
  | 38 => ⟨S3x2304x36x32, .i32⟩
  | 39 => ⟨S_, .f32⟩
  | 40 => ⟨S3x2304x36x32, .f32⟩
  | 41 => ⟨S3x2304x36x32, .i1⟩
  | 42 => ⟨S3x2304x36x32, .i32⟩
  | 43 => ⟨S3x2304x36x32, .i32⟩
  | 44 => ⟨S_, .f32⟩
  | 45 => ⟨S3x2304x36x32, .f32⟩
  | 46 => ⟨S3x2304x36x32, .i1⟩
  | 47 => ⟨S3x2304x36x32, .i32⟩
  | 48 => ⟨S3x2304x36x32, .i32⟩
  | 49 => ⟨S_, .f32⟩
  | 50 => ⟨S3x2304x36x32, .f32⟩
  | 51 => ⟨S3x2304x36x32, .i1⟩
  | 52 => ⟨S3x2304x36x32, .i32⟩
  | 53 => ⟨S3x2304x36x32, .i32⟩
  | 54 => ⟨S_, .f32⟩
  | 55 => ⟨S3x2304x36x32, .f32⟩
  | 56 => ⟨S3x2304x36x32, .i1⟩
  | 57 => ⟨S3x2304x36x32, .i32⟩
  | 58 => ⟨S3x2304x36x32, .i32⟩
  | 59 => ⟨S_, .f32⟩
  | 60 => ⟨S3x2304x36x32, .f32⟩
  | 61 => ⟨S3x2304x36x32, .i1⟩
  | 62 => ⟨S3x2304x36x32, .i32⟩
  | 63 => ⟨S3x2304x36x32, .i32⟩
  | 64 => ⟨S3x2304x36x1, .f32⟩
  | 65 => ⟨S3x2304x36x32, .f32⟩
  | 66 => ⟨S3x2304x36x32, .f32⟩
  | 67 => ⟨S_, .i32⟩
  | 68 => ⟨S3x2304x36x32, .i32⟩
  | 69 => ⟨S_, .f32⟩
  | 70 => ⟨S3x2304x36x32, .f32⟩
  | 71 => ⟨S3x2304x36x32, .i1⟩
  | 72 => ⟨S3x2304x36x32, .i32⟩
  | 73 => ⟨S3x2304x36x32, .i32⟩
  | 74 => ⟨S_, .f32⟩
  | 75 => ⟨S3x2304x36x32, .f32⟩
  | 76 => ⟨S3x2304x36x32, .i1⟩
  | 77 => ⟨S3x2304x36x32, .i32⟩
  | 78 => ⟨S3x2304x36x32, .i32⟩
  | 79 => ⟨S_, .f32⟩
  | 80 => ⟨S3x2304x36x32, .f32⟩
  | 81 => ⟨S3x2304x36x32, .i1⟩
  | 82 => ⟨S3x2304x36x32, .i32⟩
  | 83 => ⟨S3x2304x36x32, .i32⟩
  | 84 => ⟨S_, .f32⟩
  | 85 => ⟨S3x2304x36x32, .f32⟩
  | 86 => ⟨S3x2304x36x32, .i1⟩
  | 87 => ⟨S3x2304x36x32, .i32⟩
  | 88 => ⟨S3x2304x36x32, .i32⟩
  | 89 => ⟨S_, .f32⟩
  | 90 => ⟨S3x2304x36x32, .f32⟩
  | 91 => ⟨S3x2304x36x32, .i1⟩
  | 92 => ⟨S3x2304x36x32, .i32⟩
  | 93 => ⟨S3x2304x36x32, .i32⟩
  | 94 => ⟨S_, .f32⟩
  | 95 => ⟨S3x2304x36x32, .f32⟩
  | 96 => ⟨S3x2304x36x32, .i1⟩
  | 97 => ⟨S3x2304x36x32, .i32⟩
  | 98 => ⟨S3x2304x36x32, .i32⟩
  | 99 => ⟨S_, .f32⟩
  | 100 => ⟨S3x2304x36x32, .f32⟩
  | 101 => ⟨S3x2304x36x32, .i1⟩
  | 102 => ⟨S3x2304x36x32, .i32⟩
  | 103 => ⟨S3x2304x36x32, .i32⟩
  | 104 => ⟨S_, .f32⟩
  | 105 => ⟨S3x2304x36x32, .f32⟩
  | 106 => ⟨S3x2304x36x32, .i1⟩
  | 107 => ⟨S3x2304x36x32, .i32⟩
  | 108 => ⟨S3x2304x36x32, .i32⟩
  | 109 => ⟨S_, .f32⟩
  | 110 => ⟨S3x2304x36x32, .f32⟩
  | 111 => ⟨S3x2304x36x32, .i1⟩
  | 112 => ⟨S3x2304x36x32, .i32⟩
  | 113 => ⟨S3x2304x36x32, .i32⟩
  | 114 => ⟨S_, .f32⟩
  | 115 => ⟨S3x2304x36x32, .f32⟩
  | 116 => ⟨S3x2304x36x32, .i1⟩
  | 117 => ⟨S3x2304x36x32, .i32⟩
  | 118 => ⟨S3x2304x36x32, .i32⟩
  | 119 => ⟨S_, .f32⟩
  | 120 => ⟨S3x2304x36x32, .f32⟩
  | 121 => ⟨S3x2304x36x32, .i1⟩
  | 122 => ⟨S3x2304x36x32, .i32⟩
  | 123 => ⟨S3x2304x36x32, .i32⟩
  | 124 => ⟨S_, .f32⟩
  | 125 => ⟨S3x2304x36x32, .f32⟩
  | 126 => ⟨S3x2304x36x32, .i1⟩
  | 127 => ⟨S3x2304x36x32, .i32⟩
  | _ => ⟨S3x6144x3072, .i8⟩

abbrev hbmTy0_6 (i : Nat) : BufTy := match i % 128 with
  | 0 => ⟨S3x2304x36x32, .i32⟩
  | 1 => ⟨S_, .f32⟩
  | 2 => ⟨S3x2304x36x32, .f32⟩
  | 3 => ⟨S3x2304x36x32, .i1⟩
  | 4 => ⟨S3x2304x36x32, .i32⟩
  | 5 => ⟨S3x2304x36x32, .i32⟩
  | 6 => ⟨S_, .f32⟩
  | 7 => ⟨S3x2304x36x32, .f32⟩
  | 8 => ⟨S3x2304x36x32, .i1⟩
  | 9 => ⟨S3x2304x36x32, .i32⟩
  | 10 => ⟨S3x2304x36x32, .i32⟩
  | 11 => ⟨S_, .f32⟩
  | 12 => ⟨S3x2304x36x32, .f32⟩
  | 13 => ⟨S3x2304x36x32, .i1⟩
  | 14 => ⟨S3x2304x36x32, .i32⟩
  | 15 => ⟨S3x2304x36x32, .i32⟩
  | 16 => ⟨S_, .i32⟩
  | 17 => ⟨S3x2304x36x32, .i32⟩
  | 18 => ⟨S3x2304x36x32, .i32⟩
  | 19 => ⟨S3x2304x36x32, .i32⟩
  | 20 => ⟨S3x2304x36x32, .i8⟩
  | 21 => ⟨S3x2304x1152, .i8⟩
  | _ => ⟨S3x6144x3072, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S3x6144x3072, .i8⟩

abbrev bufTy : (tb : Table) → Fin (tcTables nBuf tb) → BufTy
  | .hbm, ⟨i, _⟩ => hbmTy i
  | _, _ => ⟨S3x6144x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_c_9 : Ref sig .tc := ⟨.hbm, 35, rfl⟩
abbrev main_v21 : Ref sig .tc := ⟨.hbm, 36, rfl⟩
abbrev main_v22 : Ref sig .tc := ⟨.hbm, 37, rfl⟩
abbrev main_c_10 : Ref sig .tc := ⟨.hbm, 38, rfl⟩
abbrev main_v23 : Ref sig .tc := ⟨.hbm, 39, rfl⟩
abbrev main_v24 : Ref sig .tc := ⟨.hbm, 40, rfl⟩
abbrev main_c_11 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_cst_12 : Ref sig .tc := ⟨.hbm, 45, rfl⟩
abbrev main_call0_v0 : Ref sig .tc := ⟨.hbm, 46, rfl⟩
abbrev main_call0_v1 : Ref sig .tc := ⟨.hbm, 47, rfl⟩
abbrev main_v27 : Ref sig .tc := ⟨.hbm, 48, rfl⟩
abbrev main_cst_13 : Ref sig .tc := ⟨.hbm, 49, rfl⟩
abbrev main_cst_14 : Ref sig .tc := ⟨.hbm, 50, rfl⟩
abbrev main_call1_v0 : Ref sig .tc := ⟨.hbm, 51, rfl⟩
abbrev main_call1_v1 : Ref sig .tc := ⟨.hbm, 52, rfl⟩
abbrev main_v28 : Ref sig .tc := ⟨.hbm, 53, rfl⟩
abbrev main_v29 : Ref sig .tc := ⟨.hbm, 54, rfl⟩
abbrev main_cst_15 : Ref sig .tc := ⟨.hbm, 55, rfl⟩
abbrev main_cst_16 : Ref sig .tc := ⟨.hbm, 56, rfl⟩
abbrev main_call3_v0 : Ref sig .tc := ⟨.hbm, 57, rfl⟩
abbrev main_call3_v1 : Ref sig .tc := ⟨.hbm, 58, rfl⟩
abbrev main_v30 : Ref sig .tc := ⟨.hbm, 59, rfl⟩
abbrev main_cst_17 : Ref sig .tc := ⟨.hbm, 60, rfl⟩
abbrev main_cst_18 : Ref sig .tc := ⟨.hbm, 61, rfl⟩
abbrev main_call4_v0 : Ref sig .tc := ⟨.hbm, 62, rfl⟩
abbrev main_call4_v1 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_19 : Ref sig .tc := ⟨.hbm, 67, rfl⟩
abbrev main_cst_20 : Ref sig .tc := ⟨.hbm, 68, rfl⟩
abbrev main_call7_v0 : Ref sig .tc := ⟨.hbm, 69, rfl⟩
abbrev main_call7_v1 : Ref sig .tc := ⟨.hbm, 70, rfl⟩
abbrev main_v34 : Ref sig .tc := ⟨.hbm, 71, rfl⟩
abbrev main_cst_21 : Ref sig .tc := ⟨.hbm, 72, rfl⟩
abbrev main_cst_22 : Ref sig .tc := ⟨.hbm, 73, rfl⟩
abbrev main_call8_v0 : Ref sig .tc := ⟨.hbm, 74, rfl⟩
abbrev main_call8_v1 : Ref sig .tc := ⟨.hbm, 75, rfl⟩
abbrev main_v35 : Ref sig .tc := ⟨.hbm, 76, rfl⟩
abbrev main_v36 : Ref sig .tc := ⟨.hbm, 77, rfl⟩
abbrev main_cst_23 : Ref sig .tc := ⟨.hbm, 78, rfl⟩
abbrev main_cst_24 : Ref sig .tc := ⟨.hbm, 79, rfl⟩
abbrev main_call10_v0 : Ref sig .tc := ⟨.hbm, 80, rfl⟩
abbrev main_call10_v1 : Ref sig .tc := ⟨.hbm, 81, rfl⟩
abbrev main_v37 : Ref sig .tc := ⟨.hbm, 82, rfl⟩
abbrev main_cst_25 : Ref sig .tc := ⟨.hbm, 83, rfl⟩
abbrev main_cst_26 : Ref sig .tc := ⟨.hbm, 84, rfl⟩
abbrev main_call11_v0 : Ref sig .tc := ⟨.hbm, 85, rfl⟩
abbrev main_call11_v1 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_c_27 : Ref sig .tc := ⟨.hbm, 97, rfl⟩
abbrev main_v48 : Ref sig .tc := ⟨.hbm, 98, rfl⟩
abbrev main_v49 : Ref sig .tc := ⟨.hbm, 99, rfl⟩
abbrev main_c_28 : Ref sig .tc := ⟨.hbm, 100, rfl⟩
abbrev main_v50 : Ref sig .tc := ⟨.hbm, 101, rfl⟩
abbrev main_v51 : Ref sig .tc := ⟨.hbm, 102, rfl⟩
abbrev main_c_29 : Ref sig .tc := ⟨.hbm, 103, rfl⟩
abbrev main_v52 : Ref sig .tc := ⟨.hbm, 104, rfl⟩
abbrev main_v53 : Ref sig .tc := ⟨.hbm, 105, rfl⟩
abbrev main_c_30 : Ref sig .tc := ⟨.hbm, 106, rfl⟩
abbrev main_v54 : Ref sig .tc := ⟨.hbm, 107, rfl⟩
abbrev main_v55 : Ref sig .tc := ⟨.hbm, 108, rfl⟩
abbrev main_c_31 : Ref sig .tc := ⟨.hbm, 109, rfl⟩
abbrev main_v56 : Ref sig .tc := ⟨.hbm, 110, rfl⟩
abbrev main_v57 : Ref sig .tc := ⟨.hbm, 111, rfl⟩
abbrev main_c_32 : Ref sig .tc := ⟨.hbm, 112, rfl⟩
abbrev main_v58 : Ref sig .tc := ⟨.hbm, 113, rfl⟩
abbrev main_v59 : Ref sig .tc := ⟨.hbm, 114, rfl⟩
abbrev main_c_33 : Ref sig .tc := ⟨.hbm, 115, rfl⟩
abbrev main_v60 : Ref sig .tc := ⟨.hbm, 116, rfl⟩
abbrev main_v61 : Ref sig .tc := ⟨.hbm, 117, rfl⟩
abbrev main_c_34 : Ref sig .tc := ⟨.hbm, 118, rfl⟩
abbrev main_v62 : Ref sig .tc := ⟨.hbm, 119, rfl⟩
abbrev main_v63 : Ref sig .tc := ⟨.hbm, 120, rfl⟩
abbrev main_c_35 : Ref sig .tc := ⟨.hbm, 121, rfl⟩
abbrev main_v64 : Ref sig .tc := ⟨.hbm, 122, rfl⟩
abbrev main_v65 : Ref sig .tc := ⟨.hbm, 123, rfl⟩
abbrev main_c_36 : Ref sig .tc := ⟨.hbm, 124, rfl⟩
abbrev main_v66 : Ref sig .tc := ⟨.hbm, 125, rfl⟩
abbrev main_v67 : Ref sig .tc := ⟨.hbm, 126, rfl⟩
abbrev main_c_37 : Ref sig .tc := ⟨.hbm, 127, rfl⟩
abbrev main_v68 : Ref sig .tc := ⟨.hbm, 128, rfl⟩
abbrev main_v69 : Ref sig .tc := ⟨.hbm, 129, rfl⟩
abbrev main_c_38 : Ref sig .tc := ⟨.hbm, 130, rfl⟩
abbrev main_v70 : Ref sig .tc := ⟨.hbm, 131, rfl⟩
abbrev main_v71 : Ref sig .tc := ⟨.hbm, 132, rfl⟩
abbrev main_c_39 : Ref sig .tc := ⟨.hbm, 133, rfl⟩
abbrev main_v72 : Ref sig .tc := ⟨.hbm, 134, rfl⟩
abbrev main_v73 : Ref sig .tc := ⟨.hbm, 135, rfl⟩
abbrev main_cst_40 : Ref sig .tc := ⟨.hbm, 136, rfl⟩
abbrev main_cst_41 : Ref sig .tc := ⟨.hbm, 137, rfl⟩
abbrev main_call15_v0 : Ref sig .tc := ⟨.hbm, 138, rfl⟩
abbrev main_call15_v1 : Ref sig .tc := ⟨.hbm, 139, rfl⟩
abbrev main_v74 : Ref sig .tc := ⟨.hbm, 140, rfl⟩
abbrev main_cst_42 : Ref sig .tc := ⟨.hbm, 141, rfl⟩
abbrev main_cst_43 : Ref sig .tc := ⟨.hbm, 142, rfl⟩
abbrev main_call16_v0 : Ref sig .tc := ⟨.hbm, 143, rfl⟩
abbrev main_call16_v1 : Ref sig .tc := ⟨.hbm, 144, rfl⟩
abbrev main_v75 : Ref sig .tc := ⟨.hbm, 145, rfl⟩
abbrev main_v76 : Ref sig .tc := ⟨.hbm, 146, rfl⟩
abbrev main_cst_44 : Ref sig .tc := ⟨.hbm, 147, rfl⟩
abbrev main_cst_45 : Ref sig .tc := ⟨.hbm, 148, rfl⟩
abbrev main_call18_v0 : Ref sig .tc := ⟨.hbm, 149, rfl⟩
abbrev main_call18_v1 : Ref sig .tc := ⟨.hbm, 150, rfl⟩
abbrev main_v77 : Ref sig .tc := ⟨.hbm, 151, rfl⟩
abbrev main_cst_46 : Ref sig .tc := ⟨.hbm, 152, rfl⟩
abbrev main_cst_47 : Ref sig .tc := ⟨.hbm, 153, rfl⟩
abbrev main_call19_v0 : Ref sig .tc := ⟨.hbm, 154, rfl⟩
abbrev main_call19_v1 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_48 : Ref sig .tc := ⟨.hbm, 159, rfl⟩
abbrev main_cst_49 : Ref sig .tc := ⟨.hbm, 160, rfl⟩
abbrev main_call22_v0 : Ref sig .tc := ⟨.hbm, 161, rfl⟩
abbrev main_call22_v1 : Ref sig .tc := ⟨.hbm, 162, rfl⟩
abbrev main_v81 : Ref sig .tc := ⟨.hbm, 163, rfl⟩
abbrev main_cst_50 : Ref sig .tc := ⟨.hbm, 164, rfl⟩
abbrev main_cst_51 : Ref sig .tc := ⟨.hbm, 165, rfl⟩
abbrev main_call23_v0 : Ref sig .tc := ⟨.hbm, 166, rfl⟩
abbrev main_call23_v1 : Ref sig .tc := ⟨.hbm, 167, rfl⟩
abbrev main_v82 : Ref sig .tc := ⟨.hbm, 168, rfl⟩
abbrev main_v83 : Ref sig .tc := ⟨.hbm, 169, rfl⟩
abbrev main_cst_52 : Ref sig .tc := ⟨.hbm, 170, rfl⟩
abbrev main_cst_53 : Ref sig .tc := ⟨.hbm, 171, rfl⟩
abbrev main_call25_v0 : Ref sig .tc := ⟨.hbm, 172, rfl⟩
abbrev main_call25_v1 : Ref sig .tc := ⟨.hbm, 173, rfl⟩
abbrev main_v84 : Ref sig .tc := ⟨.hbm, 174, rfl⟩
abbrev main_cst_54 : Ref sig .tc := ⟨.hbm, 175, rfl⟩
abbrev main_cst_55 : Ref sig .tc := ⟨.hbm, 176, rfl⟩
abbrev main_call26_v0 : Ref sig .tc := ⟨.hbm, 177, rfl⟩
abbrev main_call26_v1 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_c_56 : Ref sig .tc := ⟨.hbm, 190, rfl⟩
abbrev main_v96 : Ref sig .tc := ⟨.hbm, 191, rfl⟩
abbrev main_v97 : Ref sig .tc := ⟨.hbm, 192, rfl⟩
abbrev main_c_57 : Ref sig .tc := ⟨.hbm, 193, rfl⟩
abbrev main_v98 : Ref sig .tc := ⟨.hbm, 194, rfl⟩
abbrev main_v99 : Ref sig .tc := ⟨.hbm, 195, rfl⟩
abbrev main_c_58 : Ref sig .tc := ⟨.hbm, 196, rfl⟩
abbrev main_v100 : Ref sig .tc := ⟨.hbm, 197, rfl⟩
abbrev main_v101 : Ref sig .tc := ⟨.hbm, 198, rfl⟩
abbrev main_c_59 : Ref sig .tc := ⟨.hbm, 199, rfl⟩
abbrev main_v102 : Ref sig .tc := ⟨.hbm, 200, rfl⟩
abbrev main_v103 : Ref sig .tc := ⟨.hbm, 201, rfl⟩
abbrev main_c_60 : Ref sig .tc := ⟨.hbm, 202, rfl⟩
abbrev main_v104 : Ref sig .tc := ⟨.hbm, 203, rfl⟩
abbrev main_v105 : Ref sig .tc := ⟨.hbm, 204, rfl⟩
abbrev main_c_61 : Ref sig .tc := ⟨.hbm, 205, rfl⟩
abbrev main_v106 : Ref sig .tc := ⟨.hbm, 206, rfl⟩
abbrev main_v107 : Ref sig .tc := ⟨.hbm, 207, rfl⟩
abbrev main_c_62 : Ref sig .tc := ⟨.hbm, 208, rfl⟩
abbrev main_v108 : Ref sig .tc := ⟨.hbm, 209, rfl⟩
abbrev main_v109 : Ref sig .tc := ⟨.hbm, 210, rfl⟩
abbrev main_c_63 : Ref sig .tc := ⟨.hbm, 211, rfl⟩
abbrev main_v110 : Ref sig .tc := ⟨.hbm, 212, rfl⟩
abbrev main_v111 : Ref sig .tc := ⟨.hbm, 213, rfl⟩
abbrev main_c_64 : Ref sig .tc := ⟨.hbm, 214, rfl⟩
abbrev main_v112 : Ref sig .tc := ⟨.hbm, 215, rfl⟩
abbrev main_v113 : Ref sig .tc := ⟨.hbm, 216, rfl⟩
abbrev main_c_65 : Ref sig .tc := ⟨.hbm, 217, rfl⟩
abbrev main_v114 : Ref sig .tc := ⟨.hbm, 218, rfl⟩
abbrev main_v115 : Ref sig .tc := ⟨.hbm, 219, rfl⟩
abbrev main_c_66 : Ref sig .tc := ⟨.hbm, 220, rfl⟩
abbrev main_v116 : Ref sig .tc := ⟨.hbm, 221, rfl⟩
abbrev main_v117 : Ref sig .tc := ⟨.hbm, 222, rfl⟩
abbrev main_c_67 : Ref sig .tc := ⟨.hbm, 223, rfl⟩
abbrev main_v118 : Ref sig .tc := ⟨.hbm, 224, rfl⟩
abbrev main_v119 : Ref sig .tc := ⟨.hbm, 225, rfl⟩
abbrev main_c_68 : Ref sig .tc := ⟨.hbm, 226, rfl⟩
abbrev main_v120 : Ref sig .tc := ⟨.hbm, 227, rfl⟩
abbrev main_v121 : Ref sig .tc := ⟨.hbm, 228, rfl⟩
abbrev main_cst_69 : Ref sig .tc := ⟨.hbm, 229, rfl⟩
abbrev main_cst_70 : Ref sig .tc := ⟨.hbm, 230, rfl⟩
abbrev main_call30_v0 : Ref sig .tc := ⟨.hbm, 231, rfl⟩
abbrev main_call30_v1 : Ref sig .tc := ⟨.hbm, 232, rfl⟩
abbrev main_v122 : Ref sig .tc := ⟨.hbm, 233, rfl⟩
abbrev main_cst_71 : Ref sig .tc := ⟨.hbm, 234, rfl⟩
abbrev main_cst_72 : Ref sig .tc := ⟨.hbm, 235, rfl⟩
abbrev main_call31_v0 : Ref sig .tc := ⟨.hbm, 236, rfl⟩
abbrev main_call31_v1 : Ref sig .tc := ⟨.hbm, 237, rfl⟩
abbrev main_v123 : Ref sig .tc := ⟨.hbm, 238, rfl⟩
abbrev main_v124 : Ref sig .tc := ⟨.hbm, 239, rfl⟩
abbrev main_cst_73 : Ref sig .tc := ⟨.hbm, 240, rfl⟩
abbrev main_cst_74 : Ref sig .tc := ⟨.hbm, 241, rfl⟩
abbrev main_call33_v0 : Ref sig .tc := ⟨.hbm, 242, rfl⟩
abbrev main_call33_v1 : Ref sig .tc := ⟨.hbm, 243, rfl⟩
abbrev main_v125 : Ref sig .tc := ⟨.hbm, 244, rfl⟩
abbrev main_cst_75 : Ref sig .tc := ⟨.hbm, 245, rfl⟩
abbrev main_cst_76 : Ref sig .tc := ⟨.hbm, 246, rfl⟩
abbrev main_call34_v0 : Ref sig .tc := ⟨.hbm, 247, rfl⟩
abbrev main_call34_v1 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_cst_77 : Ref sig .tc := ⟨.hbm, 252, rfl⟩
abbrev main_cst_78 : Ref sig .tc := ⟨.hbm, 253, rfl⟩
abbrev main_call37_v0 : Ref sig .tc := ⟨.hbm, 254, rfl⟩
abbrev main_call37_v1 : Ref sig .tc := ⟨.hbm, 255, rfl⟩
abbrev main_v129 : Ref sig .tc := ⟨.hbm, 256, rfl⟩
abbrev main_cst_79 : Ref sig .tc := ⟨.hbm, 257, rfl⟩
abbrev main_cst_80 : Ref sig .tc := ⟨.hbm, 258, rfl⟩
abbrev main_call38_v0 : Ref sig .tc := ⟨.hbm, 259, rfl⟩
abbrev main_call38_v1 : Ref sig .tc := ⟨.hbm, 260, rfl⟩
abbrev main_v130 : Ref sig .tc := ⟨.hbm, 261, rfl⟩
abbrev main_v131 : Ref sig .tc := ⟨.hbm, 262, rfl⟩
abbrev main_cst_81 : Ref sig .tc := ⟨.hbm, 263, rfl⟩
abbrev main_cst_82 : Ref sig .tc := ⟨.hbm, 264, rfl⟩
abbrev main_call40_v0 : Ref sig .tc := ⟨.hbm, 265, rfl⟩
abbrev main_call40_v1 : Ref sig .tc := ⟨.hbm, 266, rfl⟩
abbrev main_v132 : Ref sig .tc := ⟨.hbm, 267, rfl⟩
abbrev main_cst_83 : Ref sig .tc := ⟨.hbm, 268, rfl⟩
abbrev main_cst_84 : Ref sig .tc := ⟨.hbm, 269, rfl⟩
abbrev main_call41_v0 : Ref sig .tc := ⟨.hbm, 270, rfl⟩
abbrev main_call41_v1 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_c_85 : Ref sig .tc := ⟨.hbm, 282, rfl⟩
abbrev main_v143 : Ref sig .tc := ⟨.hbm, 283, rfl⟩
abbrev main_v144 : Ref sig .tc := ⟨.hbm, 284, rfl⟩
abbrev main_c_86 : Ref sig .tc := ⟨.hbm, 285, rfl⟩
abbrev main_v145 : Ref sig .tc := ⟨.hbm, 286, rfl⟩
abbrev main_v146 : Ref sig .tc := ⟨.hbm, 287, rfl⟩
abbrev main_c_87 : Ref sig .tc := ⟨.hbm, 288, rfl⟩
abbrev main_v147 : Ref sig .tc := ⟨.hbm, 289, rfl⟩
abbrev main_v148 : Ref sig .tc := ⟨.hbm, 290, rfl⟩
abbrev main_c_88 : Ref sig .tc := ⟨.hbm, 291, rfl⟩
abbrev main_v149 : Ref sig .tc := ⟨.hbm, 292, rfl⟩
abbrev main_v150 : Ref sig .tc := ⟨.hbm, 293, rfl⟩
abbrev main_c_89 : Ref sig .tc := ⟨.hbm, 294, rfl⟩
abbrev main_v151 : Ref sig .tc := ⟨.hbm, 295, rfl⟩
abbrev main_v152 : Ref sig .tc := ⟨.hbm, 296, rfl⟩
abbrev main_c_90 : Ref sig .tc := ⟨.hbm, 297, rfl⟩
abbrev main_v153 : Ref sig .tc := ⟨.hbm, 298, rfl⟩
abbrev main_v154 : Ref sig .tc := ⟨.hbm, 299, rfl⟩
abbrev main_c_91 : Ref sig .tc := ⟨.hbm, 300, rfl⟩
abbrev main_v155 : Ref sig .tc := ⟨.hbm, 301, rfl⟩
abbrev main_v156 : Ref sig .tc := ⟨.hbm, 302, rfl⟩
abbrev main_c_92 : Ref sig .tc := ⟨.hbm, 303, rfl⟩
abbrev main_v157 : Ref sig .tc := ⟨.hbm, 304, rfl⟩
abbrev main_v158 : Ref sig .tc := ⟨.hbm, 305, rfl⟩
abbrev main_c_93 : Ref sig .tc := ⟨.hbm, 306, rfl⟩
abbrev main_v159 : Ref sig .tc := ⟨.hbm, 307, rfl⟩
abbrev main_v160 : Ref sig .tc := ⟨.hbm, 308, rfl⟩
abbrev main_c_94 : Ref sig .tc := ⟨.hbm, 309, rfl⟩
abbrev main_v161 : Ref sig .tc := ⟨.hbm, 310, rfl⟩
abbrev main_v162 : Ref sig .tc := ⟨.hbm, 311, rfl⟩
abbrev main_c_95 : Ref sig .tc := ⟨.hbm, 312, rfl⟩
abbrev main_v163 : Ref sig .tc := ⟨.hbm, 313, rfl⟩
abbrev main_v164 : Ref sig .tc := ⟨.hbm, 314, rfl⟩
abbrev main_c_96 : Ref sig .tc := ⟨.hbm, 315, rfl⟩
abbrev main_v165 : Ref sig .tc := ⟨.hbm, 316, rfl⟩
abbrev main_v166 : Ref sig .tc := ⟨.hbm, 317, rfl⟩
abbrev main_c_97 : Ref sig .tc := ⟨.hbm, 318, rfl⟩
abbrev main_v167 : Ref sig .tc := ⟨.hbm, 319, rfl⟩
abbrev main_v168 : Ref sig .tc := ⟨.hbm, 320, rfl⟩
abbrev main_cst_98 : Ref sig .tc := ⟨.hbm, 321, rfl⟩
abbrev main_cst_99 : Ref sig .tc := ⟨.hbm, 322, rfl⟩
abbrev main_call45_v0 : Ref sig .tc := ⟨.hbm, 323, rfl⟩
abbrev main_call45_v1 : Ref sig .tc := ⟨.hbm, 324, rfl⟩
abbrev main_v169 : Ref sig .tc := ⟨.hbm, 325, rfl⟩
abbrev main_cst_100 : Ref sig .tc := ⟨.hbm, 326, rfl⟩
abbrev main_cst_101 : Ref sig .tc := ⟨.hbm, 327, rfl⟩
abbrev main_call46_v0 : Ref sig .tc := ⟨.hbm, 328, rfl⟩
abbrev main_call46_v1 : Ref sig .tc := ⟨.hbm, 329, rfl⟩
abbrev main_v170 : Ref sig .tc := ⟨.hbm, 330, rfl⟩
abbrev main_v171 : Ref sig .tc := ⟨.hbm, 331, rfl⟩
abbrev main_cst_102 : Ref sig .tc := ⟨.hbm, 332, rfl⟩
abbrev main_cst_103 : Ref sig .tc := ⟨.hbm, 333, rfl⟩
abbrev main_call48_v0 : Ref sig .tc := ⟨.hbm, 334, rfl⟩
abbrev main_call48_v1 : Ref sig .tc := ⟨.hbm, 335, rfl⟩
abbrev main_v172 : Ref sig .tc := ⟨.hbm, 336, rfl⟩
abbrev main_cst_104 : Ref sig .tc := ⟨.hbm, 337, rfl⟩
abbrev main_cst_105 : Ref sig .tc := ⟨.hbm, 338, rfl⟩
abbrev main_call49_v0 : Ref sig .tc := ⟨.hbm, 339, rfl⟩
abbrev main_call49_v1 : Ref sig .tc := ⟨.hbm, 340, rfl⟩
abbrev main_v173 : Ref sig .tc := ⟨.hbm, 341, rfl⟩
abbrev main_v174 : Ref sig .tc := ⟨.hbm, 342, rfl⟩
abbrev main_v175 : Ref sig .tc := ⟨.hbm, 343, rfl⟩
abbrev main_cst_106 : Ref sig .tc := ⟨.hbm, 344, rfl⟩
abbrev main_cst_107 : Ref sig .tc := ⟨.hbm, 345, rfl⟩
abbrev main_call52_v0 : Ref sig .tc := ⟨.hbm, 346, rfl⟩
abbrev main_call52_v1 : Ref sig .tc := ⟨.hbm, 347, rfl⟩
abbrev main_v176 : Ref sig .tc := ⟨.hbm, 348, rfl⟩
abbrev main_cst_108 : Ref sig .tc := ⟨.hbm, 349, rfl⟩
abbrev main_cst_109 : Ref sig .tc := ⟨.hbm, 350, rfl⟩
abbrev main_call53_v0 : Ref sig .tc := ⟨.hbm, 351, rfl⟩
abbrev main_call53_v1 : Ref sig .tc := ⟨.hbm, 352, rfl⟩
abbrev main_v177 : Ref sig .tc := ⟨.hbm, 353, rfl⟩
abbrev main_v178 : Ref sig .tc := ⟨.hbm, 354, rfl⟩
abbrev main_cst_110 : Ref sig .tc := ⟨.hbm, 355, rfl⟩
abbrev main_cst_111 : Ref sig .tc := ⟨.hbm, 356, rfl⟩
abbrev main_call55_v0 : Ref sig .tc := ⟨.hbm, 357, rfl⟩
abbrev main_call55_v1 : Ref sig .tc := ⟨.hbm, 358, rfl⟩
abbrev main_v179 : Ref sig .tc := ⟨.hbm, 359, rfl⟩
abbrev main_cst_112 : Ref sig .tc := ⟨.hbm, 360, rfl⟩
abbrev main_cst_113 : Ref sig .tc := ⟨.hbm, 361, rfl⟩
abbrev main_call56_v0 : Ref sig .tc := ⟨.hbm, 362, rfl⟩
abbrev main_call56_v1 : Ref sig .tc := ⟨.hbm, 363, rfl⟩
abbrev main_v180 : Ref sig .tc := ⟨.hbm, 364, rfl⟩
abbrev main_v181 : Ref sig .tc := ⟨.hbm, 365, rfl⟩
abbrev main_v182 : Ref sig .tc := ⟨.hbm, 366, rfl⟩
abbrev main_v183 : Ref sig .tc := ⟨.hbm, 367, rfl⟩
abbrev main_v184 : Ref sig .tc := ⟨.hbm, 368, rfl⟩
abbrev main_v185 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_v190 : Ref sig .tc := ⟨.hbm, 374, rfl⟩
abbrev main_v191 : Ref sig .tc := ⟨.hbm, 375, rfl⟩
abbrev main_v192 : Ref sig .tc := ⟨.hbm, 376, rfl⟩
abbrev main_v193 : Ref sig .tc := ⟨.hbm, 377, rfl⟩
abbrev main_v194 : Ref sig .tc := ⟨.hbm, 378, rfl⟩
abbrev main_cst_114 : Ref sig .tc := ⟨.hbm, 379, rfl⟩
abbrev main_v195 : Ref sig .tc := ⟨.hbm, 380, rfl⟩
abbrev main_v196 : Ref sig .tc := ⟨.hbm, 381, rfl⟩
abbrev main_v197 : Ref sig .tc := ⟨.hbm, 382, rfl⟩
abbrev main_cst_115 : Ref sig .tc := ⟨.hbm, 383, rfl⟩
abbrev main_v198 : Ref sig .tc := ⟨.hbm, 384, rfl⟩
abbrev main_v199 : Ref sig .tc := ⟨.hbm, 385, rfl⟩
abbrev main_v200 : Ref sig .tc := ⟨.hbm, 386, rfl⟩
abbrev main_v201 : Ref sig .tc := ⟨.hbm, 387, rfl⟩
abbrev main_v202 : Ref sig .tc := ⟨.hbm, 388, rfl⟩
abbrev main_cst_116 : Ref sig .tc := ⟨.hbm, 389, rfl⟩
abbrev main_v203 : Ref sig .tc := ⟨.hbm, 390, rfl⟩
abbrev main_v204 : Ref sig .tc := ⟨.hbm, 391, rfl⟩
abbrev main_v205 : Ref sig .tc := ⟨.hbm, 392, rfl⟩
abbrev main_cst_117 : Ref sig .tc := ⟨.hbm, 393, rfl⟩
abbrev main_v206 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_v211 : Ref sig .tc := ⟨.hbm, 399, rfl⟩
abbrev main_v212 : Ref sig .tc := ⟨.hbm, 400, rfl⟩
abbrev main_v213 : Ref sig .tc := ⟨.hbm, 401, rfl⟩
abbrev main_v214 : Ref sig .tc := ⟨.hbm, 402, rfl⟩
abbrev main_cst_118 : Ref sig .tc := ⟨.hbm, 403, rfl⟩
abbrev main_v215 : Ref sig .tc := ⟨.hbm, 404, rfl⟩
abbrev main_v216 : Ref sig .tc := ⟨.hbm, 405, rfl⟩
abbrev main_v217 : Ref sig .tc := ⟨.hbm, 406, rfl⟩
abbrev main_cst_119 : Ref sig .tc := ⟨.hbm, 407, rfl⟩
abbrev main_v218 : Ref sig .tc := ⟨.hbm, 408, rfl⟩
abbrev main_v219 : Ref sig .tc := ⟨.hbm, 409, rfl⟩
abbrev main_v220 : Ref sig .tc := ⟨.hbm, 410, rfl⟩
abbrev main_v221 : Ref sig .tc := ⟨.hbm, 411, rfl⟩
abbrev main_v222 : Ref sig .tc := ⟨.hbm, 412, rfl⟩
abbrev main_cst_120 : Ref sig .tc := ⟨.hbm, 413, rfl⟩
abbrev main_v223 : Ref sig .tc := ⟨.hbm, 414, rfl⟩
abbrev main_v224 : Ref sig .tc := ⟨.hbm, 415, rfl⟩
abbrev main_v225 : Ref sig .tc := ⟨.hbm, 416, rfl⟩
abbrev main_cst_121 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_v229 : Ref sig .tc := ⟨.hbm, 421, rfl⟩
abbrev main_v230 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_v234 : Ref sig .tc := ⟨.hbm, 426, rfl⟩
abbrev main_cst_122 : Ref sig .tc := ⟨.hbm, 427, rfl⟩
abbrev main_v235 : Ref sig .tc := ⟨.hbm, 428, rfl⟩
abbrev main_v236 : Ref sig .tc := ⟨.hbm, 429, rfl⟩
abbrev main_cst_123 : Ref sig .tc := ⟨.hbm, 430, rfl⟩
abbrev main_v237 : Ref sig .tc := ⟨.hbm, 431, rfl⟩
abbrev main_v238 : Ref sig .tc := ⟨.hbm, 432, rfl⟩
abbrev main_cst_124 : Ref sig .tc := ⟨.hbm, 433, rfl⟩
abbrev main_v239 : Ref sig .tc := ⟨.hbm, 434, rfl⟩
abbrev main_v240 : Ref sig .tc := ⟨.hbm, 435, rfl⟩
abbrev main_cst_125 : Ref sig .tc := ⟨.hbm, 436, rfl⟩
abbrev main_call60_v0 : Ref sig .tc := ⟨.hbm, 437, rfl⟩
abbrev main_call60_v1 : Ref sig .tc := ⟨.hbm, 438, rfl⟩
abbrev main_v241 : Ref sig .tc := ⟨.hbm, 439, rfl⟩
abbrev main_v242 : Ref sig .tc := ⟨.hbm, 440, rfl⟩
abbrev main_v243 : Ref sig .tc := ⟨.hbm, 441, rfl⟩
abbrev main_v244 : Ref sig .tc := ⟨.hbm, 442, rfl⟩
abbrev main_c_126 : Ref sig .tc := ⟨.hbm, 443, rfl⟩
abbrev main_v245 : Ref sig .tc := ⟨.hbm, 444, rfl⟩
abbrev main_cst_127 : Ref sig .tc := ⟨.hbm, 445, rfl⟩
abbrev main_v246 : Ref sig .tc := ⟨.hbm, 446, rfl⟩
abbrev main_v247 : Ref sig .tc := ⟨.hbm, 447, rfl⟩
abbrev main_v248 : Ref sig .tc := ⟨.hbm, 448, rfl⟩
abbrev main_v249 : Ref sig .tc := ⟨.hbm, 449, rfl⟩
abbrev main_cst_128 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_cst_129 : Ref sig .tc := ⟨.hbm, 455, rfl⟩
abbrev main_v254 : Ref sig .tc := ⟨.hbm, 456, rfl⟩
abbrev main_v255 : Ref sig .tc := ⟨.hbm, 457, rfl⟩
abbrev main_v256 : Ref sig .tc := ⟨.hbm, 458, rfl⟩
abbrev main_v257 : Ref sig .tc := ⟨.hbm, 459, rfl⟩
abbrev main_cst_130 : Ref sig .tc := ⟨.hbm, 460, rfl⟩
abbrev main_v258 : Ref sig .tc := ⟨.hbm, 461, rfl⟩
abbrev main_v259 : Ref sig .tc := ⟨.hbm, 462, rfl⟩
abbrev main_v260 : Ref sig .tc := ⟨.hbm, 463, rfl⟩
abbrev main_v261 : Ref sig .tc := ⟨.hbm, 464, rfl⟩
abbrev main_cst_131 : Ref sig .tc := ⟨.hbm, 465, rfl⟩
abbrev main_v262 : Ref sig .tc := ⟨.hbm, 466, rfl⟩
abbrev main_v263 : Ref sig .tc := ⟨.hbm, 467, rfl⟩
abbrev main_v264 : Ref sig .tc := ⟨.hbm, 468, rfl⟩
abbrev main_v265 : Ref sig .tc := ⟨.hbm, 469, rfl⟩
abbrev main_cst_132 : Ref sig .tc := ⟨.hbm, 470, rfl⟩
abbrev main_v266 : Ref sig .tc := ⟨.hbm, 471, rfl⟩
abbrev main_v267 : Ref sig .tc := ⟨.hbm, 472, rfl⟩
abbrev main_v268 : Ref sig .tc := ⟨.hbm, 473, rfl⟩
abbrev main_v269 : Ref sig .tc := ⟨.hbm, 474, rfl⟩
abbrev main_cst_133 : Ref sig .tc := ⟨.hbm, 475, rfl⟩
abbrev main_v270 : Ref sig .tc := ⟨.hbm, 476, rfl⟩
abbrev main_v271 : Ref sig .tc := ⟨.hbm, 477, rfl⟩
abbrev main_v272 : Ref sig .tc := ⟨.hbm, 478, rfl⟩
abbrev main_v273 : Ref sig .tc := ⟨.hbm, 479, rfl⟩
abbrev main_cst_134 : Ref sig .tc := ⟨.hbm, 480, rfl⟩
abbrev main_v274 : Ref sig .tc := ⟨.hbm, 481, rfl⟩
abbrev main_v275 : Ref sig .tc := ⟨.hbm, 482, rfl⟩
abbrev main_v276 : Ref sig .tc := ⟨.hbm, 483, rfl⟩
abbrev main_v277 : Ref sig .tc := ⟨.hbm, 484, rfl⟩
abbrev main_cst_135 : Ref sig .tc := ⟨.hbm, 485, rfl⟩
abbrev main_v278 : Ref sig .tc := ⟨.hbm, 486, rfl⟩
abbrev main_v279 : Ref sig .tc := ⟨.hbm, 487, rfl⟩
abbrev main_v280 : Ref sig .tc := ⟨.hbm, 488, rfl⟩
abbrev main_v281 : Ref sig .tc := ⟨.hbm, 489, rfl⟩
abbrev main_cst_136 : Ref sig .tc := ⟨.hbm, 490, rfl⟩
abbrev main_v282 : Ref sig .tc := ⟨.hbm, 491, rfl⟩
abbrev main_v283 : Ref sig .tc := ⟨.hbm, 492, rfl⟩
abbrev main_v284 : Ref sig .tc := ⟨.hbm, 493, rfl⟩
abbrev main_v285 : Ref sig .tc := ⟨.hbm, 494, rfl⟩
abbrev main_cst_137 : Ref sig .tc := ⟨.hbm, 495, rfl⟩
abbrev main_v286 : Ref sig .tc := ⟨.hbm, 496, rfl⟩
abbrev main_v287 : Ref sig .tc := ⟨.hbm, 497, rfl⟩
abbrev main_v288 : Ref sig .tc := ⟨.hbm, 498, rfl⟩
abbrev main_v289 : Ref sig .tc := ⟨.hbm, 499, rfl⟩
abbrev main_cst_138 : Ref sig .tc := ⟨.hbm, 500, rfl⟩
abbrev main_v290 : Ref sig .tc := ⟨.hbm, 501, rfl⟩
abbrev main_v291 : Ref sig .tc := ⟨.hbm, 502, rfl⟩
abbrev main_v292 : Ref sig .tc := ⟨.hbm, 503, rfl⟩
abbrev main_v293 : Ref sig .tc := ⟨.hbm, 504, rfl⟩
abbrev main_cst_139 : Ref sig .tc := ⟨.hbm, 505, rfl⟩
abbrev main_v294 : Ref sig .tc := ⟨.hbm, 506, rfl⟩
abbrev main_v295 : Ref sig .tc := ⟨.hbm, 507, rfl⟩
abbrev main_v296 : Ref sig .tc := ⟨.hbm, 508, rfl⟩
abbrev main_v297 : Ref sig .tc := ⟨.hbm, 509, rfl⟩
abbrev main_cst_140 : Ref sig .tc := ⟨.hbm, 510, rfl⟩
abbrev main_v298 : Ref sig .tc := ⟨.hbm, 511, rfl⟩
abbrev main_v299 : Ref sig .tc := ⟨.hbm, 512, rfl⟩
abbrev main_v300 : Ref sig .tc := ⟨.hbm, 513, rfl⟩
abbrev main_v301 : Ref sig .tc := ⟨.hbm, 514, rfl⟩
abbrev main_cst_141 : Ref sig .tc := ⟨.hbm, 515, rfl⟩
abbrev main_v302 : Ref sig .tc := ⟨.hbm, 516, rfl⟩
abbrev main_v303 : Ref sig .tc := ⟨.hbm, 517, rfl⟩
abbrev main_v304 : Ref sig .tc := ⟨.hbm, 518, rfl⟩
abbrev main_v305 : Ref sig .tc := ⟨.hbm, 519, rfl⟩
abbrev main_v306 : Ref sig .tc := ⟨.hbm, 520, rfl⟩
abbrev main_v307 : Ref sig .tc := ⟨.hbm, 521, rfl⟩
abbrev main_v308 : Ref sig .tc := ⟨.hbm, 522, rfl⟩
abbrev main_c_142 : Ref sig .tc := ⟨.hbm, 523, rfl⟩
abbrev main_v309 : Ref sig .tc := ⟨.hbm, 524, rfl⟩
abbrev main_cst_143 : Ref sig .tc := ⟨.hbm, 525, rfl⟩
abbrev main_v310 : Ref sig .tc := ⟨.hbm, 526, rfl⟩
abbrev main_v311 : Ref sig .tc := ⟨.hbm, 527, rfl⟩
abbrev main_v312 : Ref sig .tc := ⟨.hbm, 528, rfl⟩
abbrev main_v313 : Ref sig .tc := ⟨.hbm, 529, rfl⟩
abbrev main_cst_144 : Ref sig .tc := ⟨.hbm, 530, rfl⟩
abbrev main_v314 : Ref sig .tc := ⟨.hbm, 531, rfl⟩
abbrev main_v315 : Ref sig .tc := ⟨.hbm, 532, rfl⟩
abbrev main_v316 : Ref sig .tc := ⟨.hbm, 533, rfl⟩
abbrev main_v317 : Ref sig .tc := ⟨.hbm, 534, rfl⟩
abbrev main_cst_145 : Ref sig .tc := ⟨.hbm, 535, rfl⟩
abbrev main_v318 : Ref sig .tc := ⟨.hbm, 536, rfl⟩
abbrev main_v319 : Ref sig .tc := ⟨.hbm, 537, rfl⟩
abbrev main_v320 : Ref sig .tc := ⟨.hbm, 538, rfl⟩
abbrev main_v321 : Ref sig .tc := ⟨.hbm, 539, rfl⟩
abbrev main_cst_146 : Ref sig .tc := ⟨.hbm, 540, rfl⟩
abbrev main_v322 : Ref sig .tc := ⟨.hbm, 541, rfl⟩
abbrev main_v323 : Ref sig .tc := ⟨.hbm, 542, rfl⟩
abbrev main_v324 : Ref sig .tc := ⟨.hbm, 543, rfl⟩
abbrev main_v325 : Ref sig .tc := ⟨.hbm, 544, rfl⟩
abbrev main_cst_147 : Ref sig .tc := ⟨.hbm, 545, rfl⟩
abbrev main_v326 : Ref sig .tc := ⟨.hbm, 546, rfl⟩
abbrev main_v327 : Ref sig .tc := ⟨.hbm, 547, rfl⟩
abbrev main_v328 : Ref sig .tc := ⟨.hbm, 548, rfl⟩
abbrev main_v329 : Ref sig .tc := ⟨.hbm, 549, rfl⟩
abbrev main_cst_148 : Ref sig .tc := ⟨.hbm, 550, rfl⟩
abbrev main_v330 : Ref sig .tc := ⟨.hbm, 551, rfl⟩
abbrev main_v331 : Ref sig .tc := ⟨.hbm, 552, rfl⟩
abbrev main_v332 : Ref sig .tc := ⟨.hbm, 553, rfl⟩
abbrev main_v333 : Ref sig .tc := ⟨.hbm, 554, rfl⟩
abbrev main_cst_149 : Ref sig .tc := ⟨.hbm, 555, rfl⟩
abbrev main_v334 : Ref sig .tc := ⟨.hbm, 556, rfl⟩
abbrev main_v335 : Ref sig .tc := ⟨.hbm, 557, rfl⟩
abbrev main_v336 : Ref sig .tc := ⟨.hbm, 558, rfl⟩
abbrev main_v337 : Ref sig .tc := ⟨.hbm, 559, rfl⟩
abbrev main_cst_150 : Ref sig .tc := ⟨.hbm, 560, rfl⟩
abbrev main_v338 : Ref sig .tc := ⟨.hbm, 561, rfl⟩
abbrev main_v339 : Ref sig .tc := ⟨.hbm, 562, rfl⟩
abbrev main_v340 : Ref sig .tc := ⟨.hbm, 563, rfl⟩
abbrev main_v341 : Ref sig .tc := ⟨.hbm, 564, rfl⟩
abbrev main_cst_151 : Ref sig .tc := ⟨.hbm, 565, rfl⟩
abbrev main_v342 : Ref sig .tc := ⟨.hbm, 566, rfl⟩
abbrev main_v343 : Ref sig .tc := ⟨.hbm, 567, rfl⟩
abbrev main_v344 : Ref sig .tc := ⟨.hbm, 568, rfl⟩
abbrev main_v345 : Ref sig .tc := ⟨.hbm, 569, rfl⟩
abbrev main_cst_152 : Ref sig .tc := ⟨.hbm, 570, rfl⟩
abbrev main_v346 : Ref sig .tc := ⟨.hbm, 571, rfl⟩
abbrev main_v347 : Ref sig .tc := ⟨.hbm, 572, rfl⟩
abbrev main_v348 : Ref sig .tc := ⟨.hbm, 573, rfl⟩
abbrev main_v349 : Ref sig .tc := ⟨.hbm, 574, rfl⟩
abbrev main_cst_153 : Ref sig .tc := ⟨.hbm, 575, rfl⟩
abbrev main_v350 : Ref sig .tc := ⟨.hbm, 576, rfl⟩
abbrev main_v351 : Ref sig .tc := ⟨.hbm, 577, rfl⟩
abbrev main_v352 : Ref sig .tc := ⟨.hbm, 578, rfl⟩
abbrev main_v353 : Ref sig .tc := ⟨.hbm, 579, rfl⟩
abbrev main_cst_154 : Ref sig .tc := ⟨.hbm, 580, rfl⟩
abbrev main_v354 : Ref sig .tc := ⟨.hbm, 581, rfl⟩
abbrev main_v355 : Ref sig .tc := ⟨.hbm, 582, rfl⟩
abbrev main_v356 : Ref sig .tc := ⟨.hbm, 583, rfl⟩
abbrev main_v357 : Ref sig .tc := ⟨.hbm, 584, rfl⟩
abbrev main_cst_155 : Ref sig .tc := ⟨.hbm, 585, rfl⟩
abbrev main_v358 : Ref sig .tc := ⟨.hbm, 586, rfl⟩
abbrev main_v359 : Ref sig .tc := ⟨.hbm, 587, rfl⟩
abbrev main_v360 : Ref sig .tc := ⟨.hbm, 588, rfl⟩
abbrev main_v361 : Ref sig .tc := ⟨.hbm, 589, rfl⟩
abbrev main_cst_156 : Ref sig .tc := ⟨.hbm, 590, rfl⟩
abbrev main_v362 : Ref sig .tc := ⟨.hbm, 591, rfl⟩
abbrev main_v363 : Ref sig .tc := ⟨.hbm, 592, rfl⟩
abbrev main_v364 : Ref sig .tc := ⟨.hbm, 593, rfl⟩
abbrev main_v365 : Ref sig .tc := ⟨.hbm, 594, rfl⟩
abbrev main_cst_157 : Ref sig .tc := ⟨.hbm, 595, rfl⟩
abbrev main_v366 : Ref sig .tc := ⟨.hbm, 596, rfl⟩
abbrev main_v367 : Ref sig .tc := ⟨.hbm, 597, rfl⟩
abbrev main_v368 : Ref sig .tc := ⟨.hbm, 598, rfl⟩
abbrev main_v369 : Ref sig .tc := ⟨.hbm, 599, rfl⟩
abbrev main_c_158 : Ref sig .tc := ⟨.hbm, 600, rfl⟩
abbrev main_v370 : Ref sig .tc := ⟨.hbm, 601, rfl⟩
abbrev main_v371 : Ref sig .tc := ⟨.hbm, 602, rfl⟩
abbrev main_v372 : Ref sig .tc := ⟨.hbm, 603, rfl⟩
abbrev main_v373 : Ref sig .tc := ⟨.hbm, 604, rfl⟩
abbrev main_v374 : Ref sig .tc := ⟨.hbm, 605, rfl⟩
abbrev main_v375 : Ref sig .tc := ⟨.hbm, 606, rfl⟩
abbrev main_v376 : Ref sig .tc := ⟨.hbm, 607, rfl⟩
abbrev main_v377 : Ref sig .tc := ⟨.hbm, 608, rfl⟩
abbrev main_v378 : Ref sig .tc := ⟨.hbm, 609, rfl⟩
abbrev main_v379 : Ref sig .tc := ⟨.hbm, 610, rfl⟩
abbrev main_cst_159 : Ref sig .tc := ⟨.hbm, 611, rfl⟩
abbrev main_v380 : Ref sig .tc := ⟨.hbm, 612, rfl⟩
abbrev main_v381 : Ref sig .tc := ⟨.hbm, 613, rfl⟩
abbrev main_cst_160 : Ref sig .tc := ⟨.hbm, 614, rfl⟩
abbrev main_v382 : Ref sig .tc := ⟨.hbm, 615, rfl⟩
abbrev main_v383 : Ref sig .tc := ⟨.hbm, 616, rfl⟩
abbrev main_cst_161 : Ref sig .tc := ⟨.hbm, 617, rfl⟩
abbrev main_v384 : Ref sig .tc := ⟨.hbm, 618, rfl⟩
abbrev main_v385 : Ref sig .tc := ⟨.hbm, 619, rfl⟩
abbrev main_cst_162 : Ref sig .tc := ⟨.hbm, 620, rfl⟩
abbrev main_call61_v0 : Ref sig .tc := ⟨.hbm, 621, rfl⟩
abbrev main_call61_v1 : Ref sig .tc := ⟨.hbm, 622, rfl⟩
abbrev main_v386 : Ref sig .tc := ⟨.hbm, 623, rfl⟩
abbrev main_v387 : Ref sig .tc := ⟨.hbm, 624, rfl⟩
abbrev main_v388 : Ref sig .tc := ⟨.hbm, 625, rfl⟩
abbrev main_v389 : Ref sig .tc := ⟨.hbm, 626, rfl⟩
abbrev main_c_163 : Ref sig .tc := ⟨.hbm, 627, rfl⟩
abbrev main_v390 : Ref sig .tc := ⟨.hbm, 628, rfl⟩
abbrev main_cst_164 : Ref sig .tc := ⟨.hbm, 629, rfl⟩
abbrev main_v391 : Ref sig .tc := ⟨.hbm, 630, rfl⟩
abbrev main_v392 : Ref sig .tc := ⟨.hbm, 631, rfl⟩
abbrev main_v393 : Ref sig .tc := ⟨.hbm, 632, rfl⟩
abbrev main_v394 : Ref sig .tc := ⟨.hbm, 633, rfl⟩
abbrev main_cst_165 : Ref sig .tc := ⟨.hbm, 634, rfl⟩
abbrev main_v395 : Ref sig .tc := ⟨.hbm, 635, rfl⟩
abbrev main_v396 : Ref sig .tc := ⟨.hbm, 636, rfl⟩
abbrev main_v397 : Ref sig .tc := ⟨.hbm, 637, rfl⟩
abbrev main_v398 : Ref sig .tc := ⟨.hbm, 638, rfl⟩
abbrev main_cst_166 : Ref sig .tc := ⟨.hbm, 639, rfl⟩
abbrev main_v399 : Ref sig .tc := ⟨.hbm, 640, rfl⟩
abbrev main_v400 : Ref sig .tc := ⟨.hbm, 641, rfl⟩
abbrev main_v401 : Ref sig .tc := ⟨.hbm, 642, rfl⟩
abbrev main_v402 : Ref sig .tc := ⟨.hbm, 643, rfl⟩
abbrev main_cst_167 : Ref sig .tc := ⟨.hbm, 644, rfl⟩
abbrev main_v403 : Ref sig .tc := ⟨.hbm, 645, rfl⟩
abbrev main_v404 : Ref sig .tc := ⟨.hbm, 646, rfl⟩
abbrev main_v405 : Ref sig .tc := ⟨.hbm, 647, rfl⟩
abbrev main_v406 : Ref sig .tc := ⟨.hbm, 648, rfl⟩
abbrev main_cst_168 : Ref sig .tc := ⟨.hbm, 649, rfl⟩
abbrev main_v407 : Ref sig .tc := ⟨.hbm, 650, rfl⟩
abbrev main_v408 : Ref sig .tc := ⟨.hbm, 651, rfl⟩
abbrev main_v409 : Ref sig .tc := ⟨.hbm, 652, rfl⟩
abbrev main_v410 : Ref sig .tc := ⟨.hbm, 653, rfl⟩
abbrev main_cst_169 : Ref sig .tc := ⟨.hbm, 654, rfl⟩
abbrev main_v411 : Ref sig .tc := ⟨.hbm, 655, rfl⟩
abbrev main_v412 : Ref sig .tc := ⟨.hbm, 656, rfl⟩
abbrev main_v413 : Ref sig .tc := ⟨.hbm, 657, rfl⟩
abbrev main_v414 : Ref sig .tc := ⟨.hbm, 658, rfl⟩
abbrev main_cst_170 : Ref sig .tc := ⟨.hbm, 659, rfl⟩
abbrev main_v415 : Ref sig .tc := ⟨.hbm, 660, rfl⟩
abbrev main_v416 : Ref sig .tc := ⟨.hbm, 661, rfl⟩
abbrev main_v417 : Ref sig .tc := ⟨.hbm, 662, rfl⟩
abbrev main_v418 : Ref sig .tc := ⟨.hbm, 663, rfl⟩
abbrev main_cst_171 : Ref sig .tc := ⟨.hbm, 664, rfl⟩
abbrev main_v419 : Ref sig .tc := ⟨.hbm, 665, rfl⟩
abbrev main_v420 : Ref sig .tc := ⟨.hbm, 666, rfl⟩
abbrev main_v421 : Ref sig .tc := ⟨.hbm, 667, rfl⟩
abbrev main_v422 : Ref sig .tc := ⟨.hbm, 668, rfl⟩
abbrev main_cst_172 : Ref sig .tc := ⟨.hbm, 669, rfl⟩
abbrev main_v423 : Ref sig .tc := ⟨.hbm, 670, rfl⟩
abbrev main_v424 : Ref sig .tc := ⟨.hbm, 671, rfl⟩
abbrev main_v425 : Ref sig .tc := ⟨.hbm, 672, rfl⟩
abbrev main_v426 : Ref sig .tc := ⟨.hbm, 673, rfl⟩
abbrev main_cst_173 : Ref sig .tc := ⟨.hbm, 674, rfl⟩
abbrev main_v427 : Ref sig .tc := ⟨.hbm, 675, rfl⟩
abbrev main_v428 : Ref sig .tc := ⟨.hbm, 676, rfl⟩
abbrev main_v429 : Ref sig .tc := ⟨.hbm, 677, rfl⟩
abbrev main_v430 : Ref sig .tc := ⟨.hbm, 678, rfl⟩
abbrev main_cst_174 : Ref sig .tc := ⟨.hbm, 679, rfl⟩
abbrev main_v431 : Ref sig .tc := ⟨.hbm, 680, rfl⟩
abbrev main_v432 : Ref sig .tc := ⟨.hbm, 681, rfl⟩
abbrev main_v433 : Ref sig .tc := ⟨.hbm, 682, rfl⟩
abbrev main_v434 : Ref sig .tc := ⟨.hbm, 683, rfl⟩
abbrev main_cst_175 : Ref sig .tc := ⟨.hbm, 684, rfl⟩
abbrev main_v435 : Ref sig .tc := ⟨.hbm, 685, rfl⟩
abbrev main_v436 : Ref sig .tc := ⟨.hbm, 686, rfl⟩
abbrev main_v437 : Ref sig .tc := ⟨.hbm, 687, rfl⟩
abbrev main_v438 : Ref sig .tc := ⟨.hbm, 688, rfl⟩
abbrev main_cst_176 : Ref sig .tc := ⟨.hbm, 689, rfl⟩
abbrev main_v439 : Ref sig .tc := ⟨.hbm, 690, rfl⟩
abbrev main_v440 : Ref sig .tc := ⟨.hbm, 691, rfl⟩
abbrev main_v441 : Ref sig .tc := ⟨.hbm, 692, rfl⟩
abbrev main_v442 : Ref sig .tc := ⟨.hbm, 693, rfl⟩
abbrev main_cst_177 : Ref sig .tc := ⟨.hbm, 694, rfl⟩
abbrev main_v443 : Ref sig .tc := ⟨.hbm, 695, rfl⟩
abbrev main_v444 : Ref sig .tc := ⟨.hbm, 696, rfl⟩
abbrev main_v445 : Ref sig .tc := ⟨.hbm, 697, rfl⟩
abbrev main_v446 : Ref sig .tc := ⟨.hbm, 698, rfl⟩
abbrev main_cst_178 : Ref sig .tc := ⟨.hbm, 699, rfl⟩
abbrev main_v447 : Ref sig .tc := ⟨.hbm, 700, rfl⟩
abbrev main_v448 : Ref sig .tc := ⟨.hbm, 701, rfl⟩
abbrev main_v449 : Ref sig .tc := ⟨.hbm, 702, rfl⟩
abbrev main_v450 : Ref sig .tc := ⟨.hbm, 703, rfl⟩
abbrev main_v451 : Ref sig .tc := ⟨.hbm, 704, rfl⟩
abbrev main_v452 : Ref sig .tc := ⟨.hbm, 705, rfl⟩
abbrev main_v453 : Ref sig .tc := ⟨.hbm, 706, rfl⟩
abbrev main_c_179 : Ref sig .tc := ⟨.hbm, 707, rfl⟩
abbrev main_v454 : Ref sig .tc := ⟨.hbm, 708, rfl⟩
abbrev main_cst_180 : Ref sig .tc := ⟨.hbm, 709, rfl⟩
abbrev main_v455 : Ref sig .tc := ⟨.hbm, 710, rfl⟩
abbrev main_v456 : Ref sig .tc := ⟨.hbm, 711, rfl⟩
abbrev main_v457 : Ref sig .tc := ⟨.hbm, 712, rfl⟩
abbrev main_v458 : Ref sig .tc := ⟨.hbm, 713, rfl⟩
abbrev main_cst_181 : Ref sig .tc := ⟨.hbm, 714, rfl⟩
abbrev main_v459 : Ref sig .tc := ⟨.hbm, 715, rfl⟩
abbrev main_v460 : Ref sig .tc := ⟨.hbm, 716, rfl⟩
abbrev main_v461 : Ref sig .tc := ⟨.hbm, 717, rfl⟩
abbrev main_v462 : Ref sig .tc := ⟨.hbm, 718, rfl⟩
abbrev main_cst_182 : Ref sig .tc := ⟨.hbm, 719, rfl⟩
abbrev main_v463 : Ref sig .tc := ⟨.hbm, 720, rfl⟩
abbrev main_v464 : Ref sig .tc := ⟨.hbm, 721, rfl⟩
abbrev main_v465 : Ref sig .tc := ⟨.hbm, 722, rfl⟩
abbrev main_v466 : Ref sig .tc := ⟨.hbm, 723, rfl⟩
abbrev main_cst_183 : Ref sig .tc := ⟨.hbm, 724, rfl⟩
abbrev main_v467 : Ref sig .tc := ⟨.hbm, 725, rfl⟩
abbrev main_v468 : Ref sig .tc := ⟨.hbm, 726, rfl⟩
abbrev main_v469 : Ref sig .tc := ⟨.hbm, 727, rfl⟩
abbrev main_v470 : Ref sig .tc := ⟨.hbm, 728, rfl⟩
abbrev main_cst_184 : Ref sig .tc := ⟨.hbm, 729, rfl⟩
abbrev main_v471 : Ref sig .tc := ⟨.hbm, 730, rfl⟩
abbrev main_v472 : Ref sig .tc := ⟨.hbm, 731, rfl⟩
abbrev main_v473 : Ref sig .tc := ⟨.hbm, 732, rfl⟩
abbrev main_v474 : Ref sig .tc := ⟨.hbm, 733, rfl⟩
abbrev main_cst_185 : Ref sig .tc := ⟨.hbm, 734, rfl⟩
abbrev main_v475 : Ref sig .tc := ⟨.hbm, 735, rfl⟩
abbrev main_v476 : Ref sig .tc := ⟨.hbm, 736, rfl⟩
abbrev main_v477 : Ref sig .tc := ⟨.hbm, 737, rfl⟩
abbrev main_v478 : Ref sig .tc := ⟨.hbm, 738, rfl⟩
abbrev main_cst_186 : Ref sig .tc := ⟨.hbm, 739, rfl⟩
abbrev main_v479 : Ref sig .tc := ⟨.hbm, 740, rfl⟩
abbrev main_v480 : Ref sig .tc := ⟨.hbm, 741, rfl⟩
abbrev main_v481 : Ref sig .tc := ⟨.hbm, 742, rfl⟩
abbrev main_v482 : Ref sig .tc := ⟨.hbm, 743, rfl⟩
abbrev main_cst_187 : Ref sig .tc := ⟨.hbm, 744, rfl⟩
abbrev main_v483 : Ref sig .tc := ⟨.hbm, 745, rfl⟩
abbrev main_v484 : Ref sig .tc := ⟨.hbm, 746, rfl⟩
abbrev main_v485 : Ref sig .tc := ⟨.hbm, 747, rfl⟩
abbrev main_v486 : Ref sig .tc := ⟨.hbm, 748, rfl⟩
abbrev main_cst_188 : Ref sig .tc := ⟨.hbm, 749, rfl⟩
abbrev main_v487 : Ref sig .tc := ⟨.hbm, 750, rfl⟩
abbrev main_v488 : Ref sig .tc := ⟨.hbm, 751, rfl⟩
abbrev main_v489 : Ref sig .tc := ⟨.hbm, 752, rfl⟩
abbrev main_v490 : Ref sig .tc := ⟨.hbm, 753, rfl⟩
abbrev main_cst_189 : Ref sig .tc := ⟨.hbm, 754, rfl⟩
abbrev main_v491 : Ref sig .tc := ⟨.hbm, 755, rfl⟩
abbrev main_v492 : Ref sig .tc := ⟨.hbm, 756, rfl⟩
abbrev main_v493 : Ref sig .tc := ⟨.hbm, 757, rfl⟩
abbrev main_v494 : Ref sig .tc := ⟨.hbm, 758, rfl⟩
abbrev main_cst_190 : Ref sig .tc := ⟨.hbm, 759, rfl⟩
abbrev main_v495 : Ref sig .tc := ⟨.hbm, 760, rfl⟩
abbrev main_v496 : Ref sig .tc := ⟨.hbm, 761, rfl⟩
abbrev main_v497 : Ref sig .tc := ⟨.hbm, 762, rfl⟩
abbrev main_v498 : Ref sig .tc := ⟨.hbm, 763, rfl⟩
abbrev main_cst_191 : Ref sig .tc := ⟨.hbm, 764, rfl⟩
abbrev main_v499 : Ref sig .tc := ⟨.hbm, 765, rfl⟩
abbrev main_v500 : Ref sig .tc := ⟨.hbm, 766, rfl⟩
abbrev main_v501 : Ref sig .tc := ⟨.hbm, 767, rfl⟩
abbrev main_v502 : Ref sig .tc := ⟨.hbm, 768, rfl⟩
abbrev main_cst_192 : Ref sig .tc := ⟨.hbm, 769, rfl⟩
abbrev main_v503 : Ref sig .tc := ⟨.hbm, 770, rfl⟩
abbrev main_v504 : Ref sig .tc := ⟨.hbm, 771, rfl⟩
abbrev main_v505 : Ref sig .tc := ⟨.hbm, 772, rfl⟩
abbrev main_v506 : Ref sig .tc := ⟨.hbm, 773, rfl⟩
abbrev main_cst_193 : Ref sig .tc := ⟨.hbm, 774, rfl⟩
abbrev main_v507 : Ref sig .tc := ⟨.hbm, 775, rfl⟩
abbrev main_v508 : Ref sig .tc := ⟨.hbm, 776, rfl⟩
abbrev main_v509 : Ref sig .tc := ⟨.hbm, 777, rfl⟩
abbrev main_v510 : Ref sig .tc := ⟨.hbm, 778, rfl⟩
abbrev main_cst_194 : Ref sig .tc := ⟨.hbm, 779, rfl⟩
abbrev main_v511 : Ref sig .tc := ⟨.hbm, 780, rfl⟩
abbrev main_v512 : Ref sig .tc := ⟨.hbm, 781, rfl⟩
abbrev main_v513 : Ref sig .tc := ⟨.hbm, 782, rfl⟩
abbrev main_v514 : Ref sig .tc := ⟨.hbm, 783, rfl⟩
abbrev main_c_195 : Ref sig .tc := ⟨.hbm, 784, rfl⟩
abbrev main_v515 : Ref sig .tc := ⟨.hbm, 785, rfl⟩
abbrev main_v516 : Ref sig .tc := ⟨.hbm, 786, rfl⟩
abbrev main_v517 : Ref sig .tc := ⟨.hbm, 787, rfl⟩
abbrev main_v518 : Ref sig .tc := ⟨.hbm, 788, rfl⟩
abbrev main_v519 : Ref sig .tc := ⟨.hbm, 789, rfl⟩

abbrev nD : Nat := 1
abbrev τ : Topo := Topo.v7x

variable {F : FTy → Type} [FloatOps F]
-- ==== Even.lean ====
abbrev S3x6144x2304 : Shape := ⟨3, ![3, 6144, 2304]⟩
abbrev S3x6144x3072 : Shape := ⟨3, ![3, 6144, 3072]⟩
abbrev S3x6144 : Shape := ⟨2, ![3, 6144]⟩
abbrev S_ : Shape := ⟨0, ![]⟩
abbrev S3x3072 : Shape := ⟨2, ![3, 3072]⟩
abbrev S3x3072x1 : Shape := ⟨3, ![3, 3072, 1]⟩
abbrev S3x3072x2304 : Shape := ⟨3, ![3, 3072, 2304]⟩
abbrev S1x1024x512 : Shape := ⟨3, ![1, 1024, 512]⟩
abbrev S1x1024x768 : Shape := ⟨3, ![1, 1024, 768]⟩
abbrev S1x512x1 : Shape := ⟨3, ![1, 512, 1]⟩
abbrev S1x512x768 : Shape := ⟨3, ![1, 512, 768]⟩
abbrev S512x768 : Shape := ⟨2, ![512, 768]⟩
abbrev S1024x512 : Shape := ⟨2, ![1024, 512]⟩
abbrev S1024x768 : Shape := ⟨2, ![1024, 768]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S3x6144x2304, .bf16⟩
  | .hbm, ⟨1, _⟩ => ⟨S3x6144x3072, .bf16⟩
  | .hbm, ⟨2, _⟩ => ⟨S3x6144, .f32⟩
  | .hbm, ⟨3, _⟩ => ⟨S_, .f32⟩
  | .hbm, ⟨4, _⟩ => ⟨S3x6144, .f32⟩
  | .hbm, ⟨5, _⟩ => ⟨S3x6144, .f32⟩
  | .hbm, ⟨6, _⟩ => ⟨S3x3072, .f32⟩
  | .hbm, ⟨7, _⟩ => ⟨S3x3072x1, .f32⟩
  | .hbm, ⟨8, _⟩ => ⟨S3x3072x2304, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x512x1, .f32⟩
  | .local _ .vmem, ⟨5, _⟩ => ⟨S1x512x1, .f32⟩
  | .local _ .vmem, ⟨6, _⟩ => ⟨S1x512x768, .bf16⟩
  | .local _ .vmem, ⟨7, _⟩ => ⟨S1x512x768, .bf16⟩
  | .local _ .vmem, ⟨8, _⟩ => ⟨S512x768, .f32⟩
  | _, _ => ⟨S3x6144x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![3, 6, 3, 6], ![false, false, false, false]⟩

def k0_cond2 (i : grid0.Coords) : BitVec 1 :=
  let arg3 : BitVec 32 := BitVec.ofNat 32 (i 3).val
  let c5_i32 : BitVec 32 := 5#32
  let v13 : BitVec 1 := Scalar.cmpi .eq arg3 c5_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceEvenIdeal.lean ====
abbrev S3x6144x2304 : Shape := ⟨3, ![3, 6144, 2304]⟩
abbrev S3x6144x3072 : Shape := ⟨3, ![3, 6144, 3072]⟩
abbrev S3x6144 : Shape := ⟨2, ![3, 6144]⟩
abbrev S_ : Shape := ⟨0, ![]⟩
abbrev S3x3072 : Shape := ⟨2, ![3, 3072]⟩
abbrev S3x3072x2304 : Shape := ⟨3, ![3, 3072, 2304]⟩
abbrev S3x3072x1 : Shape := ⟨3, ![3, 3072, 1]⟩

abbrev nBuf : Space → Nat
  | .hbm => 12
  | .vmem => 0
  | .smem => 0
  | _ => 0

abbrev bufTy : (tb : Table) → Fin (tcTables nBuf tb) → BufTy
  | .hbm, ⟨0, _⟩ => ⟨S3x6144x2304, .bf16⟩
  | .hbm, ⟨1, _⟩ => ⟨S3x6144x3072, .bf16⟩
  | .hbm, ⟨2, _⟩ => ⟨S3x6144, .f32⟩
  | .hbm, ⟨3, _⟩ => ⟨S_, .f32⟩
  | .hbm, ⟨4, _⟩ => ⟨S3x6144, .f32⟩
  | .hbm, ⟨5, _⟩ => ⟨S3x6144, .f32⟩
  | .hbm, ⟨6, _⟩ => ⟨S3x3072, .f32⟩
  | .hbm, ⟨7, _⟩ => ⟨S3x3072x2304, .f32⟩
  | .hbm, ⟨8, _⟩ => ⟨S3x3072x1, .f32⟩
  | .hbm, ⟨9, _⟩ => ⟨S3x3072x2304, .f32⟩
  | .hbm, ⟨10, _⟩ => ⟨S3x3072x2304, .f32⟩
  | .hbm, ⟨11, _⟩ => ⟨S3x3072x2304, .bf16⟩
  | _, _ => ⟨S3x6144x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Odd.lean ====
abbrev S3x6144x2304 : Shape := ⟨3, ![3, 6144, 2304]⟩
abbrev S3x6144x3072 : Shape := ⟨3, ![3, 6144, 3072]⟩
abbrev S3x6144 : Shape := ⟨2, ![3, 6144]⟩
abbrev S_ : Shape := ⟨0, ![]⟩
abbrev S3x3072 : Shape := ⟨2, ![3, 3072]⟩
abbrev S3x3072x1 : Shape := ⟨3, ![3, 3072, 1]⟩
abbrev S3x3072x2304 : Shape := ⟨3, ![3, 3072, 2304]⟩
abbrev S1x1024x512 : Shape := ⟨3, ![1, 1024, 512]⟩
abbrev S1x1024x768 : Shape := ⟨3, ![1, 1024, 768]⟩
abbrev S1x512x1 : Shape := ⟨3, ![1, 512, 1]⟩
abbrev S1x512x768 : Shape := ⟨3, ![1, 512, 768]⟩
abbrev S512x768 : Shape := ⟨2, ![512, 768]⟩
abbrev S1024x512 : Shape := ⟨2, ![1024, 512]⟩
abbrev S1024x768 : Shape := ⟨2, ![1024, 768]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S3x6144x2304, .bf16⟩
  | .hbm, ⟨1, _⟩ => ⟨S3x6144x3072, .bf16⟩
  | .hbm, ⟨2, _⟩ => ⟨S3x6144, .f32⟩
  | .hbm, ⟨3, _⟩ => ⟨S_, .f32⟩
  | .hbm, ⟨4, _⟩ => ⟨S3x6144, .f32⟩
  | .hbm, ⟨5, _⟩ => ⟨S3x6144, .f32⟩
  | .hbm, ⟨6, _⟩ => ⟨S3x3072, .f32⟩
  | .hbm, ⟨7, _⟩ => ⟨S3x3072x1, .f32⟩
  | .hbm, ⟨8, _⟩ => ⟨S3x3072x2304, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x512x1, .f32⟩
  | .local _ .vmem, ⟨5, _⟩ => ⟨S1x512x1, .f32⟩
  | .local _ .vmem, ⟨6, _⟩ => ⟨S1x512x768, .bf16⟩
  | .local _ .vmem, ⟨7, _⟩ => ⟨S1x512x768, .bf16⟩
  | .local _ .vmem, ⟨8, _⟩ => ⟨S512x768, .f32⟩
  | _, _ => ⟨S3x6144x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![3, 6, 3, 6], ![false, false, false, false]⟩

def k0_cond2 (i : grid0.Coords) : BitVec 1 :=
  let arg3 : BitVec 32 := BitVec.ofNat 32 (i 3).val
  let c5_i32 : BitVec 32 := 5#32
  let v13 : BitVec 1 := Scalar.cmpi .eq arg3 c5_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceOddIdeal.lean ====
abbrev S3x6144x2304 : Shape := ⟨3, ![3, 6144, 2304]⟩
abbrev S3x6144x3072 : Shape := ⟨3, ![3, 6144, 3072]⟩
abbrev S3x6144 : Shape := ⟨2, ![3, 6144]⟩
abbrev S_ : Shape := ⟨0, ![]⟩
abbrev S3x3072 : Shape := ⟨2, ![3, 3072]⟩
abbrev S3x3072x2304 : Shape := ⟨3, ![3, 3072, 2304]⟩
abbrev S3x3072x1 : Shape := ⟨3, ![3, 3072, 1]⟩

abbrev nBuf : Space → Nat
  | .hbm => 12
  | .vmem => 0
  | .smem => 0
  | _ => 0

abbrev bufTy : (tb : Table) → Fin (tcTables nBuf tb) → BufTy
  | .hbm, ⟨0, _⟩ => ⟨S3x6144x2304, .bf16⟩
  | .hbm, ⟨1, _⟩ => ⟨S3x6144x3072, .bf16⟩
  | .hbm, ⟨2, _⟩ => ⟨S3x6144, .f32⟩
  | .hbm, ⟨3, _⟩ => ⟨S_, .f32⟩
  | .hbm, ⟨4, _⟩ => ⟨S3x6144, .f32⟩
  | .hbm, ⟨5, _⟩ => ⟨S3x6144, .f32⟩
  | .hbm, ⟨6, _⟩ => ⟨S3x3072, .f32⟩
  | .hbm, ⟨7, _⟩ => ⟨S3x3072x2304, .f32⟩
  | .hbm, ⟨8, _⟩ => ⟨S3x3072x1, .f32⟩
  | .hbm, ⟨9, _⟩ => ⟨S3x3072x2304, .f32⟩
  | .hbm, ⟨10, _⟩ => ⟨S3x3072x2304, .f32⟩
  | .hbm, ⟨11, _⟩ => ⟨S3x3072x2304, .bf16⟩
  | _, _ => ⟨S3x6144x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Finish.lean ====
abbrev S3x6144x3072 : Shape := ⟨3, ![3, 6144, 3072]⟩
abbrev S3x3072x2304 : Shape := ⟨3, ![3, 3072, 2304]⟩
abbrev S3x2304x1152 : Shape := ⟨3, ![3, 2304, 1152]⟩
abbrev S3x2304 : Shape := ⟨2, ![3, 2304]⟩
abbrev S3x6144x2304 : Shape := ⟨3, ![3, 6144, 2304]⟩
abbrev S1x512x3072 : Shape := ⟨3, ![1, 512, 3072]⟩
abbrev S1x3072x768 : Shape := ⟨3, ![1, 3072, 768]⟩
abbrev S1x512x768 : Shape := ⟨3, ![1, 512, 768]⟩
abbrev S512x3072 : Shape := ⟨2, ![512, 3072]⟩
abbrev S3072x768 : Shape := ⟨2, ![3072, 768]⟩
abbrev S512x768 : Shape := ⟨2, ![512, 768]⟩
abbrev S_ : Shape := ⟨0, ![]⟩
abbrev S3x1152 : Shape := ⟨2, ![3, 1152]⟩
abbrev S3x1x1152 : Shape := ⟨3, ![3, 1, 1152]⟩
abbrev S3x6144x1152 : Shape := ⟨3, ![3, 6144, 1152]⟩
abbrev S1x512x2304 : Shape := ⟨3, ![1, 512, 2304]⟩
abbrev S1x2304x1152 : Shape := ⟨3, ![1, 2304, 1152]⟩
abbrev S1x1x1152 : Shape := ⟨3, ![1, 1, 1152]⟩
abbrev S1x512x1152 : Shape := ⟨3, ![1, 512, 1152]⟩
abbrev S512x2304 : Shape := ⟨2, ![512, 2304]⟩
abbrev S2304x1152 : Shape := ⟨2, ![2304, 1152]⟩
abbrev S512x1152 : Shape := ⟨2, ![512, 1152]⟩
abbrev S1x1152 : Shape := ⟨2, ![1, 1152]⟩
abbrev S1x768x1152 : Shape := ⟨3, ![1, 768, 1152]⟩
abbrev S768x1152 : Shape := ⟨2, ![768, 1152]⟩

abbrev nBuf : Space → Nat
  | .hbm => 18
  | .vmem => 36
  | .smem => 0
  | _ => 0

abbrev bufTy : (tb : Table) → Fin (tcTables nBuf tb) → BufTy
  | .hbm, ⟨0, _⟩ => ⟨S3x6144x3072, .bf16⟩
  | .hbm, ⟨1, _⟩ => ⟨S3x6144x3072, .bf16⟩
  | .hbm, ⟨2, _⟩ => ⟨S3x3072x2304, .bf16⟩
  | .hbm, ⟨3, _⟩ => ⟨S3x3072x2304, .bf16⟩
  | .hbm, ⟨4, _⟩ => ⟨S3x2304x1152, .bf16⟩
  | .hbm, ⟨5, _⟩ => ⟨S3x2304x1152, .bf16⟩
  | .hbm, ⟨6, _⟩ => ⟨S3x2304, .f32⟩
  | .hbm, ⟨7, _⟩ => ⟨S3x6144x2304, .bf16⟩
  | .hbm, ⟨8, _⟩ => ⟨S_, .f32⟩
  | .hbm, ⟨9, _⟩ => ⟨S3x2304, .f32⟩
  | .hbm, ⟨10, _⟩ => ⟨S3x2304, .f32⟩
  | .hbm, ⟨11, _⟩ => ⟨S3x1152, .f32⟩
  | .hbm, ⟨12, _⟩ => ⟨S3x1x1152, .f32⟩
  | .hbm, ⟨13, _⟩ => ⟨S3x6144x1152, .bf16⟩
  | .hbm, ⟨14, _⟩ => ⟨S3x1152, .f32⟩
  | .hbm, ⟨15, _⟩ => ⟨S3x1x1152, .f32⟩
  | .hbm, ⟨16, _⟩ => ⟨S3x6144x1152, .bf16⟩
  | .hbm, ⟨17, _⟩ => ⟨S3x6144x2304, .bf16⟩
  | .local _ .vmem, ⟨0, _⟩ => ⟨S1x512x3072, .bf16⟩
  | .local _ .vmem, ⟨1, _⟩ => ⟨S1x512x3072, .bf16⟩
  | .local _ .vmem, ⟨2, _⟩ => ⟨S1x512x3072, .bf16⟩
  | .local _ .vmem, ⟨3, _⟩ => ⟨S1x512x3072, .bf16⟩
  | .local _ .vmem, ⟨4, _⟩ => ⟨S1x3072x768, .bf16⟩
  | .local _ .vmem, ⟨5, _⟩ => ⟨S1x3072x768, .bf16⟩
  | .local _ .vmem, ⟨6, _⟩ => ⟨S1x3072x768, .bf16⟩
  | .local _ .vmem, ⟨7, _⟩ => ⟨S1x3072x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x2304, .bf16⟩
  | .local _ .vmem, ⟨11, _⟩ => ⟨S1x512x2304, .bf16⟩
  | .local _ .vmem, ⟨12, _⟩ => ⟨S1x2304x1152, .bf16⟩
  | .local _ .vmem, ⟨13, _⟩ => ⟨S1x2304x1152, .bf16⟩
  | .local _ .vmem, ⟨14, _⟩ => ⟨S1x1x1152, .f32⟩
  | .local _ .vmem, ⟨15, _⟩ => ⟨S1x1x1152, .f32⟩
  | .local _ .vmem, ⟨16, _⟩ => ⟨S1x512x1152, .bf16⟩
  | .local _ .vmem, ⟨17, _⟩ => ⟨S1x512x1152, .bf16⟩
  | .local _ .vmem, ⟨18, _⟩ => ⟨S1x512x2304, .bf16⟩
  | .local _ .vmem, ⟨19, _⟩ => ⟨S1x512x2304, .bf16⟩
  | .local _ .vmem, ⟨20, _⟩ => ⟨S1x2304x1152, .bf16⟩
  | .local _ .vmem, ⟨21, _⟩ => ⟨S1x2304x1152, .bf16⟩
  | .local _ .vmem, ⟨22, _⟩ => ⟨S1x1x1152, .f32⟩
  | .local _ .vmem, ⟨23, _⟩ => ⟨S1x1x1152, .f32⟩
  | .local _ .vmem, ⟨24, _⟩ => ⟨S1x512x1152, .bf16⟩
  | .local _ .vmem, ⟨25, _⟩ => ⟨S1x512x1152, .bf16⟩
  | .local _ .vmem, ⟨26, _⟩ => ⟨S1x512x1152, .bf16⟩
  | .local _ .vmem, ⟨27, _⟩ => ⟨S1x512x1152, .bf16⟩
  | .local _ .vmem, ⟨28, _⟩ => ⟨S1x512x1152, .bf16⟩
  | .local _ .vmem, ⟨29, _⟩ => ⟨S1x512x1152, .bf16⟩
  | .local _ .vmem, ⟨30, _⟩ => ⟨S1x768x1152, .bf16⟩
  | .local _ .vmem, ⟨31, _⟩ => ⟨S1x768x1152, .bf16⟩
  | .local _ .vmem, ⟨32, _⟩ => ⟨S1x768x1152, .bf16⟩
  | .local _ .vmem, ⟨33, _⟩ => ⟨S1x768x1152, .bf16⟩
  | .local _ .vmem, ⟨34, _⟩ => ⟨S1x512x768, .bf16⟩
  | .local _ .vmem, ⟨35, _⟩ => ⟨S1x512x768, .bf16⟩
  | _, _ => ⟨S3x6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨3, ![3, 12, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x3072x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x3072x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![3, 12, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2304x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1152 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![3, 12, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x2304x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x512x1152 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![3, 12, 3], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x512x1152 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1152 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x768x1152 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x768x1152 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 2 → Memref sig .tc .vmem S1x512x768 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]
-- ==== ReferenceFinishIdeal.lean ====
abbrev S3x6144x3072 : Shape := ⟨3, ![3, 6144, 3072]⟩
abbrev S3x3072x2304 : Shape := ⟨3, ![3, 3072, 2304]⟩
abbrev S3x2304x1152 : Shape := ⟨3, ![3, 2304, 1152]⟩
abbrev S3x2304 : Shape := ⟨2, ![3, 2304]⟩
abbrev S3x6144x2304 : Shape := ⟨3, ![3, 6144, 2304]⟩
abbrev S_ : Shape := ⟨0, ![]⟩
abbrev S3x1152 : Shape := ⟨2, ![3, 1152]⟩
abbrev S3x6144x1152 : Shape := ⟨3, ![3, 6144, 1152]⟩
abbrev S3x1x1152 : Shape := ⟨3, ![3, 1, 1152]⟩

abbrev nBuf : Space → Nat
  | .hbm => 30
  | .vmem => 0
  | .smem => 0
  | _ => 0

abbrev bufTy : (tb : Table) → Fin (tcTables nBuf tb) → BufTy
  | .hbm, ⟨0, _⟩ => ⟨S3x6144x3072, .bf16⟩
  | .hbm, ⟨1, _⟩ => ⟨S3x6144x3072, .bf16⟩
  | .hbm, ⟨2, _⟩ => ⟨S3x3072x2304, .bf16⟩
  | .hbm, ⟨3, _⟩ => ⟨S3x3072x2304, .bf16⟩
  | .hbm, ⟨4, _⟩ => ⟨S3x2304x1152, .bf16⟩
  | .hbm, ⟨5, _⟩ => ⟨S3x2304x1152, .bf16⟩
  | .hbm, ⟨6, _⟩ => ⟨S3x2304, .f32⟩
  | .hbm, ⟨7, _⟩ => ⟨S3x6144x2304, .f32⟩
  | .hbm, ⟨8, _⟩ => ⟨S3x6144x2304, .f32⟩
  | .hbm, ⟨9, _⟩ => ⟨S3x6144x2304, .f32⟩
  | .hbm, ⟨10, _⟩ => ⟨S3x6144x2304, .bf16⟩
  | .hbm, ⟨11, _⟩ => ⟨S_, .f32⟩
  | .hbm, ⟨12, _⟩ => ⟨S3x2304, .f32⟩
  | .hbm, ⟨13, _⟩ => ⟨S3x2304, .f32⟩
  | .hbm, ⟨14, _⟩ => ⟨S3x1152, .f32⟩
  | .hbm, ⟨15, _⟩ => ⟨S3x1152, .f32⟩
  | .hbm, ⟨16, _⟩ => ⟨S3x6144x1152, .f32⟩
  | .hbm, ⟨17, _⟩ => ⟨S3x1x1152, .f32⟩
  | .hbm, ⟨18, _⟩ => ⟨S3x6144x1152, .f32⟩
  | .hbm, ⟨19, _⟩ => ⟨S3x6144x1152, .f32⟩
  | .hbm, ⟨20, _⟩ => ⟨S3x6144x1152, .bf16⟩
  | .hbm, ⟨21, _⟩ => ⟨S3x6144x1152, .f32⟩
  | .hbm, ⟨22, _⟩ => ⟨S3x1x1152, .f32⟩
  | .hbm, ⟨23, _⟩ => ⟨S3x6144x1152, .f32⟩
  | .hbm, ⟨24, _⟩ => ⟨S3x6144x1152, .f32⟩
  | .hbm, ⟨25, _⟩ => ⟨S3x6144x1152, .bf16⟩
  | .hbm, ⟨26, _⟩ => ⟨S3x6144x2304, .f32⟩
  | .hbm, ⟨27, _⟩ => ⟨S3x6144x2304, .f32⟩
  | .hbm, ⟨28, _⟩ => ⟨S3x6144x2304, .f32⟩
  | .hbm, ⟨29, _⟩ => ⟨S3x6144x2304, .bf16⟩
  | _, _ => ⟨S3x6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Quant.lean ====
module

public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.KernelIdeal.Value

/-- A tile of `N` rows and 128 lanes. -/
abbrev Tl (N : Nat) : Shape := ⟨2, ![N, 128]⟩
abbrev Tl1 (N : Nat) : Shape := ⟨3, ![N, 128, 1]⟩

/-- How many of the fifteen midpoints lie below a value. -/
def near (x : EReal) : BitVec 32 :=
  IntOp.addi (IntOp.addi (IntOp.addi (IntOp.addi (IntOp.addi (IntOp.addi (IntOp.addi (IntOp.addi
    (IntOp.addi (IntOp.addi (IntOp.addi (IntOp.addi (IntOp.addi (IntOp.addi (IntOp.addi (0#32)
    ((FloatOps.cmpf (F := Ideal) (φ := .f32) .ogt x (Ideal.ofBits .f32 0xBF602468#32)).setWidth
    32)) ((FloatOps.cmpf (F := Ideal) (φ := .f32) .ogt x (Ideal.ofBits .f32
    0xBF24FA50#32)).setWidth 32)) ((FloatOps.cmpf (F := Ideal) (φ := .f32) .ogt x (Ideal.ofBits
    .f32 0xBEE5D4C4#32)).setWidth 32)) ((FloatOps.cmpf (F := Ideal) (φ := .f32) .ogt x
    (Ideal.ofBits .f32 0xBE93E93F#32)).setWidth 32)) ((FloatOps.cmpf (F := Ideal) (φ := .f32)
    .ogt x (Ideal.ofBits .f32 0xBE286420#32)).setWidth 32)) ((FloatOps.cmpf (F := Ideal) (φ :=
    .f32) .ogt x (Ideal.ofBits .f32 0xBD9ABCDF#32)).setWidth 32)) ((FloatOps.cmpf (F := Ideal)
    (φ := .f32) .ogt x (Ideal.ofBits .f32 0xBCA3D70A#32)).setWidth 32)) ((FloatOps.cmpf (F :=
    Ideal) (φ := .f32) .ogt x (Ideal.ofBits .f32 0x3B11A2B4#32)).setWidth 32)) ((FloatOps.cmpf
    (F := Ideal) (φ := .f32) .ogt x (Ideal.ofBits .f32 0x3CB60B60#32)).setWidth 32))
    ((FloatOps.cmpf (F := Ideal) (φ := .f32) .ogt x (Ideal.ofBits .f32 0x3D9ABCDF#32)).setWidth
    32)) ((FloatOps.cmpf (F := Ideal) (φ := .f32) .ogt x (Ideal.ofBits .f32
    0x3E286420#32)).setWidth 32)) ((FloatOps.cmpf (F := Ideal) (φ := .f32) .ogt x (Ideal.ofBits
    .f32 0x3E93E93F#32)).setWidth 32)) ((FloatOps.cmpf (F := Ideal) (φ := .f32) .ogt x
    (Ideal.ofBits .f32 0x3EE5D4C4#32)).setWidth 32)) ((FloatOps.cmpf (F := Ideal) (φ := .f32)
    .ogt x (Ideal.ofBits .f32 0x3F24FA50#32)).setWidth 32)) ((FloatOps.cmpf (F := Ideal) (φ :=
    .f32) .ogt x (Ideal.ofBits .f32 0x3F602468#32)).setWidth 32)

/-- A scale of zero is replaced by one. -/
def fixz (m : EReal) : EReal :=
  Scalar.select (FloatOps.cmpf (F := Ideal) (φ := .f32) .oeq m (Ideal.ofBits .f32 0#32)) (Ideal.ofBits .f32 0x3F800000#32) m

/-- A packed byte of the two codes of a pair, at a scale. -/
def codeOf (e o s : EReal) : BitVec 8 :=
  BitVec.setWidth 8 (IntOp.ori (near (Ideal.div e s)) (IntOp.shli .vector (near (Ideal.div o s)) 4#32))

section Tiles
variable {N : Nat}

theorem gather_at (x : FVec Ideal (Tl N) .f32) (I : IVec (Tl N) 32) (h1 : (Tl N).ShapeCasts (Tl1 N)) (h2 : (Tl1 N).ShapeCasts (Tl N))
    (r : Fin N) (l k : Fin 128) (hk : (I (ix2 r l)).toNat % 128 = k.val) :
    dynamicGather 1 x (shapeCast (Tl N) (shapeCast (Tl1 N) I h1) h2) (ix2 r l) = x (ix2 r k) := by
  have hI : shapeCast (Tl N) (shapeCast (Tl1 N) I h1) h2 = I := by
    exact shapeCast_shapeCast I h1 h2
  rw [hI]
  unfold dynamicGather
  refine congrArg x (funext fun b => ?_)
  fin_cases b
  · rfl
  · exact Fin.ext hk

theorem rot_at (d : Nat) (hd : d < 128) (x : FVec Ideal (Tl N) .f32) (h : (Tl N).Rotates 1 none) (r : Fin N) (l : Fin 128) :
    dynamicRotate 1 (BitVec.ofNat 32 d) none x h (ix2 r l) = x (ix2 r ⟨(l.val + 128 - d) % 128, Nat.mod_lt _ (by decide)⟩) := by
  refine dynamicRotate_apply 1 _ x h _ _ fun b => ?_
  fin_cases b
  · rfl
  · have : d % 4294967296 = d := Nat.mod_eq_of_lt (by omega)
    simp [this]
    show _ = (l.val + 128 - _) % 128
    rw [Nat.mod_eq_of_lt hd]

/-- The maximum over `n` lanes ending at a lane, going back around the end. -/
def win (n : Nat) (x : FVec Ideal (Tl N) .f32) (r : Fin N) (l : Nat) : EReal :=
  (Finset.range n).sup fun i => x (ix2 r ⟨(l + 128 - i) % 128, Nat.mod_lt _ (by decide)⟩)

theorem step_win (n : Nat) (hn : n + n ≤ 128) (x y : FVec Ideal (Tl N) .f32) (h : (Tl N).Rotates 1 none) (r : Fin N)
    (hy : ∀ l : Fin 128, y (ix2 r l) = win n x r l.val) (hpos : 0 < n) (l : Fin 128) :
    maximumf y (dynamicRotate 1 (BitVec.ofNat 32 n) none y h) (ix2 r l) = win (n + n) x r l.val := by
  show max (y (ix2 r l)) (dynamicRotate 1 (BitVec.ofNat 32 n) none y h (ix2 r l)) = _
  rw [rot_at n (by omega), hy, hy]
  have hl := l.isLt
  unfold win
  apply le_antisymm
  · apply max_le
    · refine Finset.sup_le fun i hi => ?_
      rw [Finset.mem_range] at hi
      exact Finset.le_sup (f := fun i => x (ix2 r ⟨(l.val + 128 - i) % 128, Nat.mod_lt _ (by decide)⟩)) (Finset.mem_range.mpr (by omega))
    · refine Finset.sup_le fun i hi => ?_
      rw [Finset.mem_range] at hi
      have e : ((l.val + 128 - n) % 128 + 128 - i) % 128 = (l.val + 128 - (n + i)) % 128 := by omega
      simp only [e]
      exact Finset.le_sup (f := fun i => x (ix2 r ⟨(l.val + 128 - i) % 128, Nat.mod_lt _ (by decide)⟩)) (Finset.mem_range.mpr (by omega))
  · refine Finset.sup_le fun i hi => ?_
    rw [Finset.mem_range] at hi
    by_cases hin : i < n
    · exact le_max_of_le_left (Finset.le_sup (f := fun i => x (ix2 r ⟨(l.val + 128 - i) % 128, Nat.mod_lt _ (by decide)⟩)) (Finset.mem_range.mpr hin))
    · refine le_max_of_le_right ?_
      have e : (l.val + 128 - i) % 128 = ((l.val + 128 - n) % 128 + 128 - (i - n)) % 128 := by omega
      simp only [e]
      exact Finset.le_sup (f := fun i => x (ix2 r ⟨((l.val + 128 - n) % 128 + 128 - i) % 128, Nat.mod_lt _ (by decide)⟩)) (Finset.mem_range.mpr (by omega))

/-- The scale tile the program computes: five rotations, each followed by a maximum. -/
def scV (h : (Tl N).Rotates 1 none) (e o : FVec Ideal (Tl N) .f32) : FVec Ideal (Tl N) .f32 :=
  have v33 : FVec Ideal (Tl N) .f32 := maximumf (absf e) (absf o)
  have v35 : FVec Ideal (Tl N) .f32 := maximumf v33 (dynamicRotate 1 1#32 none v33 h)
  have v37 : FVec Ideal (Tl N) .f32 := maximumf v35 (dynamicRotate 1 2#32 none v35 h)
  have v39 : FVec Ideal (Tl N) .f32 := maximumf v37 (dynamicRotate 1 4#32 none v37 h)
  have v41 : FVec Ideal (Tl N) .f32 := maximumf v39 (dynamicRotate 1 8#32 none v39 h)
  have v43 : FVec Ideal (Tl N) .f32 := maximumf v41 (dynamicRotate 1 16#32 none v41 h)
  select (cmpf .oeq v43 (broadcast (Tl N) (FloatOps.ofBits .f32 0#32))) (broadcast (Tl N) (FloatOps.ofBits .f32 0x3F800000#32)) v43

/-- The scale of the group of 32 pairs that starts at lane `32 g`. -/
def grpScale (E O : Fin 32 → EReal) : EReal :=
  fixz (Finset.univ.sup fun k => max (max (E k) (-(E k))) (max (O k) (-(O k))))

theorem scV_at (h : (Tl N).Rotates 1 none) (e o : FVec Ideal (Tl N) .f32) (r : Fin N) (l : Fin 128) (g : Fin 4) (hl : l.val = 32 * g.val + 31) :
    scV h e o (ix2 r l) = grpScale (fun k => e (ix2 r ⟨32 * g.val + k.val, by omega⟩)) (fun k => o (ix2 r ⟨32 * g.val + k.val, by omega⟩)) := by
  have h0 : ∀ l : Fin 128, (maximumf (absf e) (absf o) : FVec Ideal (Tl N) .f32) (ix2 r l) = win 1 (maximumf (absf e) (absf o)) r l.val := by
    intro l
    unfold win
    have hl := l.isLt
    simp only [Finset.range_one, Finset.sup_singleton, Nat.sub_zero, Nat.add_mod_right, Nat.mod_eq_of_lt hl]
  have h1 := step_win 1 (by decide) _ _ h r h0 (by decide)
  have h2 := step_win 2 (by decide) _ _ h r h1 (by decide)
  have h3 := step_win 4 (by decide) _ _ h r h2 (by decide)
  have h4 := step_win 8 (by decide) _ _ h r h3 (by decide)
  have h5 := step_win 16 (by decide) _ _ h r h4 (by decide) l
  refine (congrArg fixz h5 : _)|>.trans ?_
  unfold grpScale
  congr 1
  unfold win
  have key : ∀ i : Nat, (hi : i < 32) → (maximumf (absf e) (absf o) : FVec Ideal (Tl N) .f32) (ix2 r ⟨(l.val + 128 - (31 - i)) % 128, Nat.mod_lt _ (by decide)⟩)
      = max (max (e (ix2 r ⟨32 * g.val + i, by omega⟩)) (-(e (ix2 r ⟨32 * g.val + i, by omega⟩)))) (max (o (ix2 r ⟨32 * g.val + i, by omega⟩)) (-(o (ix2 r ⟨32 * g.val + i, by omega⟩)))) := by
    intro i hi
    have e1 : (l.val + 128 - (31 - i)) % 128 = 32 * g.val + i := by omega
    simp only [e1]
    rfl
  apply le_antisymm
  · refine Finset.sup_le fun i hi => ?_
    rw [Finset.mem_range] at hi
    have hk := key (31 - i) (by omega)
    rw [show 31 - (31 - i) = i by omega] at hk
    rw [hk]
    exact Finset.le_sup (f := fun k : Fin 32 => max (max (e (ix2 r ⟨32 * g.val + k.val, by omega⟩)) (-(e (ix2 r ⟨32 * g.val + k.val, by omega⟩)))) (max (o (ix2 r ⟨32 * g.val + k.val, by omega⟩)) (-(o (ix2 r ⟨32 * g.val + k.val, by omega⟩))))) (Finset.mem_univ (⟨31 - i, by omega⟩ : Fin 32))
  · refine Finset.sup_le fun k _ => ?_
    rw [← key k.val k.isLt]
    exact Finset.le_sup (f := fun i => (maximumf (absf e) (absf o) : FVec Ideal (Tl N) .f32) (ix2 r ⟨(l.val + 128 - i) % 128, Nat.mod_lt _ (by decide)⟩)) (Finset.mem_range.mpr (by omega : 31 - k.val < 16 + 16))

/-- The scale read back for every lane: that of the lane's group. -/
def scG (h : (Tl N).Rotates 1 none) (h1 : (Tl N).ShapeCasts (Tl1 N)) (h2 : (Tl1 N).ShapeCasts (Tl N)) (L : IVec (Tl N) 32)
    (e o : FVec Ideal (Tl N) .f32) : FVec Ideal (Tl N) .f32 :=
  have v49 : IVec (Tl N) 32 := ori L (broadcast (Tl N) 31#32)
  dynamicGather 1 (scV h e o) (shapeCast (Tl N) (shapeCast (Tl1 N)
    (select (cmpi .slt v49 (broadcast (Tl N) 0#32)) (addi v49 (broadcast (Tl N) 128#32)) v49) h1) h2)

theorem lane_or : ∀ l : Fin 128, (Scalar.select (IntOp.cmpi .slt (IntOp.ori (BitVec.ofNat 32 l.val) 31#32) 0#32)
    (IntOp.addi (IntOp.ori (BitVec.ofNat 32 l.val) 31#32) 128#32) (IntOp.ori (BitVec.ofNat 32 l.val) 31#32)).toNat % 128
    = 32 * (l.val / 32) + 31 := by decide +kernel

theorem scG_at (h : (Tl N).Rotates 1 none) (h1 : (Tl N).ShapeCasts (Tl1 N)) (h2 : (Tl1 N).ShapeCasts (Tl N)) (L : IVec (Tl N) 32)
    (hL : ∀ r l, L (ix2 r l) = BitVec.ofNat 32 l.val) (e o : FVec Ideal (Tl N) .f32) (r : Fin N) (l : Fin 128) :
    scG h h1 h2 L e o (ix2 r l)
    = grpScale (fun k => e (ix2 r ⟨32 * (l.val / 32) + k.val, by omega⟩)) (fun k => o (ix2 r ⟨32 * (l.val / 32) + k.val, by omega⟩)) := by
  refine (gather_at _ _ h1 h2 r l ⟨32 * (l.val / 32) + 31, by omega⟩ ?_).trans (scV_at h e o r _ ⟨l.val / 32, by omega⟩ rfl)
  have hh := lane_or l
  rw [← hL r l] at hh
  exact hh

/-- The midpoint count of every lane. -/
def nearV (natLt_1_32 : 1 < 32) (x : FVec Ideal (Tl N) .f32) : IVec (Tl N) 32 :=
  addi (addi (addi (addi (addi (addi (addi (addi (addi (addi (addi (addi (addi (addi (addi
    (broadcast (Tl N) 0#32) (extui 32 (cmpf .ogt x (broadcast (Tl N) (FloatOps.ofBits .f32
    0xBF602468#32))) natLt_1_32)) (extui 32 (cmpf .ogt x (broadcast (Tl N) (FloatOps.ofBits .f32
    0xBF24FA50#32))) natLt_1_32)) (extui 32 (cmpf .ogt x (broadcast (Tl N) (FloatOps.ofBits .f32
    0xBEE5D4C4#32))) natLt_1_32)) (extui 32 (cmpf .ogt x (broadcast (Tl N) (FloatOps.ofBits .f32
    0xBE93E93F#32))) natLt_1_32)) (extui 32 (cmpf .ogt x (broadcast (Tl N) (FloatOps.ofBits .f32
    0xBE286420#32))) natLt_1_32)) (extui 32 (cmpf .ogt x (broadcast (Tl N) (FloatOps.ofBits .f32
    0xBD9ABCDF#32))) natLt_1_32)) (extui 32 (cmpf .ogt x (broadcast (Tl N) (FloatOps.ofBits .f32
    0xBCA3D70A#32))) natLt_1_32)) (extui 32 (cmpf .ogt x (broadcast (Tl N) (FloatOps.ofBits .f32
    0x3B11A2B4#32))) natLt_1_32)) (extui 32 (cmpf .ogt x (broadcast (Tl N) (FloatOps.ofBits .f32
    0x3CB60B60#32))) natLt_1_32)) (extui 32 (cmpf .ogt x (broadcast (Tl N) (FloatOps.ofBits .f32
    0x3D9ABCDF#32))) natLt_1_32)) (extui 32 (cmpf .ogt x (broadcast (Tl N) (FloatOps.ofBits .f32
    0x3E286420#32))) natLt_1_32)) (extui 32 (cmpf .ogt x (broadcast (Tl N) (FloatOps.ofBits .f32
    0x3E93E93F#32))) natLt_1_32)) (extui 32 (cmpf .ogt x (broadcast (Tl N) (FloatOps.ofBits .f32
    0x3EE5D4C4#32))) natLt_1_32)) (extui 32 (cmpf .ogt x (broadcast (Tl N) (FloatOps.ofBits .f32
    0x3F24FA50#32))) natLt_1_32)) (extui 32 (cmpf .ogt x (broadcast (Tl N) (FloatOps.ofBits .f32
    0x3F602468#32))) natLt_1_32)

theorem nearV_at (h : 1 < 32) (x : FVec Ideal (Tl N) .f32) (j : (Tl N).Idx) : nearV h x j = near (x j) := rfl

/-- The packed bytes of a tile. -/
def codeV (hb : 1 < 32) (hc : 8 < 32) (h : (Tl N).Rotates 1 none) (h1 : (Tl N).ShapeCasts (Tl1 N)) (h2 : (Tl1 N).ShapeCasts (Tl N)) (L : IVec (Tl N) 32)
    (e o : FVec Ideal (Tl N) .f32) : IVec (Tl N) 8 :=
  trunci 8 (ori (nearV hb (divf e (scG h h1 h2 L e o))) (shli (nearV hb (divf o (scG h h1 h2 L e o))) (broadcast (Tl N) 4#32))) hc

theorem codeV_at (hb : 1 < 32) (hc : 8 < 32) (h : (Tl N).Rotates 1 none) (h1 : (Tl N).ShapeCasts (Tl1 N)) (h2 : (Tl1 N).ShapeCasts (Tl N)) (L : IVec (Tl N) 32)
    (hL : ∀ r l, L (ix2 r l) = BitVec.ofNat 32 l.val) (e o : FVec Ideal (Tl N) .f32) (r : Fin N) (l : Fin 128) :
    codeV hb hc h h1 h2 L e o (ix2 r l) = codeOf (e (ix2 r l)) (o (ix2 r l))
      (grpScale (fun k => e (ix2 r ⟨32 * (l.val / 32) + k.val, by omega⟩)) (fun k => o (ix2 r ⟨32 * (l.val / 32) + k.val, by omega⟩))) := by
  rw [← scG_at h h1 h2 L hL e o r l]
  rfl

/-- One chunk's four scales put at their lanes, the others kept. -/
def putV (h1 : (Tl N).ShapeCasts (Tl1 N)) (h2 : (Tl1 N).ShapeCasts (Tl N)) (L : IVec (Tl N) 32) (first : BitVec 32)
    (m prev : FVec Ideal (Tl N) .f32) : FVec Ideal (Tl N) .f32 :=
  have g : IVec (Tl N) 32 := subi L (broadcast (Tl N) first)
  have i : IVec (Tl N) 32 := subi (muli (addi (andi g (broadcast (Tl N) 3#32)) (broadcast (Tl N) 1#32)) (broadcast (Tl N) 32#32)) (broadcast (Tl N) 1#32)
  select (andi (cmpi .sge g (broadcast (Tl N) 0#32)) (cmpi .slt g (broadcast (Tl N) 4#32)))
    (dynamicGather 1 m (shapeCast (Tl N) (shapeCast (Tl1 N) (select (cmpi .slt i (broadcast (Tl N) 0#32)) (addi i (broadcast (Tl N) 128#32)) i) h1) h2)) prev

/-- The lane a chunk's scale is taken from. -/
def putIdx (g : BitVec 32) : BitVec 32 :=
  have i : BitVec 32 := IntOp.subi (IntOp.muli (IntOp.addi (IntOp.andi g 3#32) 1#32) 32#32) 1#32
  Scalar.select (IntOp.cmpi .slt i 0#32) (IntOp.addi i 128#32) i

theorem putIdx_eq : ∀ l : Fin 128, ∀ q : Fin 32, 4 * q.val ≤ l.val → l.val < 4 * q.val + 4 →
    (putIdx (IntOp.subi (BitVec.ofNat 32 l.val) (BitVec.ofNat 32 (4 * q.val)))).toNat % 128 = 32 * (l.val - 4 * q.val) + 31 := by
  decide +kernel

theorem put_hit : ∀ l : Fin 128, ∀ q : Fin 32,
    IntOp.andi (IntOp.cmpi .sge (IntOp.subi (BitVec.ofNat 32 l.val) (BitVec.ofNat 32 (4 * q.val))) 0#32)
      (IntOp.cmpi .slt (IntOp.subi (BitVec.ofNat 32 l.val) (BitVec.ofNat 32 (4 * q.val))) 4#32)
    = if 4 * q.val ≤ l.val ∧ l.val < 4 * q.val + 4 then 1#1 else 0#1 := by
  decide +kernel

theorem putV_in (h1 : (Tl N).ShapeCasts (Tl1 N)) (h2 : (Tl1 N).ShapeCasts (Tl N)) (L : IVec (Tl N) 32)
    (hL : ∀ r l, L (ix2 r l) = BitVec.ofNat 32 l.val) (first : BitVec 32) (q : Nat) (hq : q < 32) (hf : first = BitVec.ofNat 32 (4 * q))
    (m prev : FVec Ideal (Tl N) .f32) (r : Fin N) (l : Fin 128) (hl : 4 * q ≤ l.val ∧ l.val < 4 * q + 4) :
    putV h1 h2 L first m prev (ix2 r l) = m (ix2 r ⟨32 * (l.val - 4 * q) + 31, by omega⟩) := by
  subst hf
  have hh := put_hit l ⟨q, hq⟩
  rw [if_pos hl, ← hL r l] at hh
  refine (if_pos hh : _)|>.trans ?_
  refine gather_at _ _ h1 h2 r l _ ?_
  have hi := putIdx_eq l ⟨q, hq⟩ hl.1 hl.2
  rw [← hL r l] at hi
  exact hi

theorem putV_out (h1 : (Tl N).ShapeCasts (Tl1 N)) (h2 : (Tl1 N).ShapeCasts (Tl N)) (L : IVec (Tl N) 32)
    (hL : ∀ r l, L (ix2 r l) = BitVec.ofNat 32 l.val) (first : BitVec 32) (q : Nat) (hq : q < 32) (hf : first = BitVec.ofNat 32 (4 * q))
    (m prev : FVec Ideal (Tl N) .f32) (r : Fin N) (l : Fin 128) (hl : ¬ (4 * q ≤ l.val ∧ l.val < 4 * q + 4)) :
    putV h1 h2 L first m prev (ix2 r l) = prev (ix2 r l) := by
  subst hf
  have hh := put_hit l ⟨q, hq⟩
  rw [if_neg hl, ← hL r l] at hh
  have hn : ¬ (IntOp.andi (IntOp.cmpi .sge (IntOp.subi (L (ix2 r l)) (BitVec.ofNat 32 (4 * q))) 0#32)
      (IntOp.cmpi .slt (IntOp.subi (L (ix2 r l)) (BitVec.ofNat 32 (4 * q))) 4#32)) = 1#1 := by rw [hh]; decide
  exact (if_neg hn : _)

end Tiles

end Cert.KernelIdeal.Value
-- ==== Proof.BjR.lean ====
module

public import proofs.«01_k».proof.Proof.Gen.KernelIdeal.Frame.Region3
public import proofs.«01_k».proof.Proof.Quant

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- One step of the iteration on a right factor `U` with product `P`. -/
def newR (P U : FVec Ideal S3x2304x2304 .bf16) : FVec Ideal S3x2304x2304 .bf16 :=
  fun i => Ideal.ofBits .f32 0x3FC00000#32 * U i
    - Ideal.ofBits .f32 0x3F000000#32 * ∑ k : Fin 2304, P (ix3 (i 0) (i 1) k) * U (ix3 (i 0) k (i 2))

/-- The even columns of a dense right factor. -/
def evR (Q : FVec Ideal S3x2304x2304 .bf16) : FVec Ideal S3x2304x1152 .bf16 :=
  fun i => Q (ix3 (i 0) (i 1) ⟨(i 2).val / 128 * 256 + (i 2).val % 128, by idx_bounds_all; omega⟩)

/-- The odd columns. -/
def odR (Q : FVec Ideal S3x2304x2304 .bf16) : FVec Ideal S3x2304x1152 .bf16 :=
  fun i => Q (ix3 (i 0) (i 1) ⟨(i 2).val / 128 * 256 + 128 + (i 2).val % 128, by idx_bounds_all; omega⟩)

/-- The scale of every group of 32 column pairs. -/
def scR (E O : FVec Ideal S3x2304x1152 .bf16) : FVec Ideal S3x2304x36 .f32 :=
  fun i => grpScale (fun k => E (ix3 (i 0) (i 1) ⟨32 * (i 2).val + k.val, by idx_bounds_all; omega⟩))
    (fun k => O (ix3 (i 0) (i 1) ⟨32 * (i 2).val + k.val, by idx_bounds_all; omega⟩))

/-- The packed codes. -/
def cdR (E O : FVec Ideal S3x2304x1152 .bf16) : Vec Ideal S3x2304x1152 .i8 :=
  fun i => codeOf (E i) (O i) (grpScale (fun k => E (ix3 (i 0) (i 1) ⟨32 * ((i 2).val / 32) + k.val, by idx_bounds_all; omega⟩))
    (fun k => O (ix3 (i 0) (i 1) ⟨32 * ((i 2).val / 32) + k.val, by idx_bounds_all; omega⟩)))

theorem idx3 : ∀ t : Fin cfg3.N, win3_0.index t = ![(grid3.coords t 0).val, (grid3.coords t 1).val, 0]
    ∧ win3_1.index t = ![(grid3.coords t 0).val, 0, (grid3.coords t 2).val]
    ∧ win3_2.index t = ![(grid3.coords t 0).val, (grid3.coords t 1).val, (grid3.coords t 2).val]
    ∧ win3_3.index t = ![(grid3.coords t 0).val, (grid3.coords t 1).val, (grid3.coords t 2).val]
    ∧ win3_4.index t = ![(grid3.coords t 0).val, (grid3.coords t 1).val, (grid3.coords t 2).val]
    ∧ win3_5.index t = ![(grid3.coords t 0).val, (grid3.coords t 1).val, (grid3.coords t 2).val]
    ∧ win3_6.index t = ![(grid3.coords t 0).val, (grid3.coords t 1).val, 0] :=
  (by decide +kernel : ∀ t : Fin grid3.N, _)

theorem tile3 (c : Dev nD) (t : Fin cfg3.N) (r : Fin 256) (l : Fin 768) (a : S3x2304x2304.Idx)
    (h0 : (a 0).val = (grid3.coords t 0).val) (h1 : (a 1).val = (grid3.coords t 1).val * 256 + r.val)
    (h2 : (a 2).val = (grid3.coords t 2).val * 768 + l.val) :
    k3_pay2 (F := Ideal) (iblk3 V c 0 t) (iblk3 V c 1 t) (iblk3 V c 2 t) (ix2 r l) = newR (V c main_v2) (V c main_v1) a := by
  pointwise [k3_pay2, newR]
  blk_point [iblk3, idx3 t]

theorem slc3 (v : FVec Ideal S256x768 .bf16) (o : Nat) (h : S256x768.Slices ![0, o] S256x128) (h' : S256x128.ShapeCasts S1x256x128) (ho : o ≤ 640) (x : S1x256x128.Idx) :
    shapeCast S1x256x128 (extractStridedSlice S256x128 ![0, o] v h) h' x = v (ix2 (x 1) ⟨o + (x 2).val, by idx_bounds_all; omega⟩) := by
  pointwise

theorem e3 (c : Dev nD) (t : Fin cfg3.N) (y : S1x256x384.Idx) (a : S3x2304x1152.Idx)
    (h0 : (a 0).val = (grid3.coords t 0).val) (h1 : (a 1).val = (grid3.coords t 1).val * 256 + (y 1).val)
    (h2 : (a 2).val = (grid3.coords t 2).val * 384 + (y 2).val) :
    (outsAt3 V c t.val t.isLt).1 y = evR (newR (V c main_v2) (V c main_v1)) a := by
  by_cases h : t.val % 3 = 0
  · rw [outsAt3_A V c t h]
    dsimp only
    frame_out
    canon_tiles x hx
    · exact (slc3 _ 512 slices_S256x768_o0_512_S256x128 _ (by decide) x).trans (tile3 V c t _ _ _ h0 (show (a 1).val = _ by first | omega | (simp only; omega)) (show (a 2).val / 128 * 256 + (a 2).val % 128 = _ by first | omega | (simp only; omega)))
    · exact (slc3 _ 256 slices_S256x768_o0_256_S256x128 _ (by decide) x).trans (tile3 V c t _ _ _ h0 (show (a 1).val = _ by first | omega | (simp only; omega)) (show (a 2).val / 128 * 256 + (a 2).val % 128 = _ by first | omega | (simp only; omega)))
    · exact (slc3 _ 0 slices_S256x768_o0_0_S256x128 _ (by decide) x).trans (tile3 V c t _ _ _ h0 (show (a 1).val = _ by first | omega | (simp only; omega)) (show (a 2).val / 128 * 256 + (a 2).val % 128 = _ by first | omega | (simp only; omega)))
  · rw [outsAt3_B V c t h]
    dsimp only
    frame_out
    canon_tiles x hx
    · exact (slc3 _ 512 slices_S256x768_o0_512_S256x128 _ (by decide) x).trans (tile3 V c t _ _ _ h0 (show (a 1).val = _ by first | omega | (simp only; omega)) (show (a 2).val / 128 * 256 + (a 2).val % 128 = _ by first | omega | (simp only; omega)))
    · exact (slc3 _ 256 slices_S256x768_o0_256_S256x128 _ (by decide) x).trans (tile3 V c t _ _ _ h0 (show (a 1).val = _ by first | omega | (simp only; omega)) (show (a 2).val / 128 * 256 + (a 2).val % 128 = _ by first | omega | (simp only; omega)))
    · exact (slc3 _ 0 slices_S256x768_o0_0_S256x128 _ (by decide) x).trans (tile3 V c t _ _ _ h0 (show (a 1).val = _ by first | omega | (simp only; omega)) (show (a 2).val / 128 * 256 + (a 2).val % 128 = _ by first | omega | (simp only; omega)))

theorem o3 (c : Dev nD) (t : Fin cfg3.N) (y : S1x256x384.Idx) (a : S3x2304x1152.Idx)
    (h0 : (a 0).val = (grid3.coords t 0).val) (h1 : (a 1).val = (grid3.coords t 1).val * 256 + (y 1).val)
    (h2 : (a 2).val = (grid3.coords t 2).val * 384 + (y 2).val) :
    (outsAt3 V c t.val t.isLt).2.1 y = odR (newR (V c main_v2) (V c main_v1)) a := by
  by_cases h : t.val % 3 = 0
  · rw [outsAt3_A V c t h]
    dsimp only
    frame_out
    canon_tiles x hx
    · exact (slc3 _ 640 slices_S256x768_o0_640_S256x128 _ (by decide) x).trans (tile3 V c t _ _ _ h0 (show (a 1).val = _ by first | omega | (simp only; omega)) (show (a 2).val / 128 * 256 + 128 + (a 2).val % 128 = _ by first | omega | (simp only; omega)))
    · exact (slc3 _ 384 slices_S256x768_o0_384_S256x128 _ (by decide) x).trans (tile3 V c t _ _ _ h0 (show (a 1).val = _ by first | omega | (simp only; omega)) (show (a 2).val / 128 * 256 + 128 + (a 2).val % 128 = _ by first | omega | (simp only; omega)))
    · exact (slc3 _ 128 slices_S256x768_o0_128_S256x128 _ (by decide) x).trans (tile3 V c t _ _ _ h0 (show (a 1).val = _ by first | omega | (simp only; omega)) (show (a 2).val / 128 * 256 + 128 + (a 2).val % 128 = _ by first | omega | (simp only; omega)))
  · rw [outsAt3_B V c t h]
    dsimp only
    frame_out
    canon_tiles x hx
    · exact (slc3 _ 640 slices_S256x768_o0_640_S256x128 _ (by decide) x).trans (tile3 V c t _ _ _ h0 (show (a 1).val = _ by first | omega | (simp only; omega)) (show (a 2).val / 128 * 256 + 128 + (a 2).val % 128 = _ by first | omega | (simp only; omega)))
    · exact (slc3 _ 384 slices_S256x768_o0_384_S256x128 _ (by decide) x).trans (tile3 V c t _ _ _ h0 (show (a 1).val = _ by first | omega | (simp only; omega)) (show (a 2).val / 128 * 256 + 128 + (a 2).val % 128 = _ by first | omega | (simp only; omega)))
    · exact (slc3 _ 128 slices_S256x768_o0_128_S256x128 _ (by decide) x).trans (tile3 V c t _ _ _ h0 (show (a 1).val = _ by first | omega | (simp only; omega)) (show (a 2).val / 128 * 256 + 128 + (a 2).val % 128 = _ by first | omega | (simp only; omega)))

/-- Codes of the chunk that starts at lane `o` of the step's tile. -/
theorem cd3 (v : FVec Ideal S256x768 .bf16) (o : Nat) (h : S256x768.Slices ![0, o] S256x128) (hp : S256x768.Slices ![0, o + 128] S256x128) (h' : S256x128.ShapeCasts S1x256x128)
    (ho : o + 128 ≤ 640) (x : S1x256x128.Idx) :
    shapeCast S1x256x128 (codeV natLt_1_32 natLt_8_32 rotates_S256x128_d1 shapeCasts_S256x128_S256x128x1 shapeCasts_S256x128x1_S256x128
      (iota Kind.tc S256x128 32 [1] iota_S256x128_d1_w32) (extf .f32 (extractStridedSlice S256x128 ![0, o] v h) bitsLt_bf16_f32)
      (extf .f32 (extractStridedSlice S256x128 ![0, o + 128] v hp) bitsLt_bf16_f32)) h' x
    = codeOf (v (ix2 (x 1) ⟨o + (x 2).val, by idx_bounds_all; omega⟩)) (v (ix2 (x 1) ⟨o + 128 + (x 2).val, by idx_bounds_all; omega⟩))
      (grpScale (fun k => v (ix2 (x 1) ⟨o + (32 * ((x 2).val / 32) + k.val), by idx_bounds_all; omega⟩))
        (fun k => v (ix2 (x 1) ⟨o + 128 + (32 * ((x 2).val / 32) + k.val), by idx_bounds_all; omega⟩))) := by
  have hc : ∀ w : IVec S256x128 8, shapeCast S1x256x128 w h' x = w (ix2 (x 1) (x 2)) := by
    intro w; pointwise
  rw [hc]
  refine (codeV_at _ _ _ _ _ _ (fun r l => ?_) _ _ _ _).trans ?_
  · pointwise
  · pointwise

theorem codeOf_congr {e e' o o' s s' : EReal} (h1 : e = e') (h2 : o = o') (h3 : s = s') : codeOf e o s = codeOf e' o' s' := by
  rw [h1, h2, h3]

theorem grpScale_congr {E E' O O' : Fin 32 → EReal} (h1 : ∀ k, E k = E' k) (h2 : ∀ k, O k = O' k) : grpScale E O = grpScale E' O' := by
  rw [funext h1, funext h2]

theorem code3 (c : Dev nD) (t : Fin cfg3.N) (y : S1x256x384.Idx) (a : S3x2304x1152.Idx)
    (h0 : (a 0).val = (grid3.coords t 0).val) (h1 : (a 1).val = (grid3.coords t 1).val * 256 + (y 1).val)
    (h2 : (a 2).val = (grid3.coords t 2).val * 384 + (y 2).val) (x : S1x256x128.Idx) (hx1 : (y 1).val = (x 1).val)
    (o : Nat) (ho : o % 256 = 0 ∧ o ≤ 512) (hx2 : (y 2).val = o / 2 + (x 2).val) :
    codeOf (k3_pay2 (F := Ideal) (iblk3 V c 0 t) (iblk3 V c 1 t) (iblk3 V c 2 t) (ix2 (x 1) ⟨o + (x 2).val, by idx_bounds_all; omega⟩))
      (k3_pay2 (F := Ideal) (iblk3 V c 0 t) (iblk3 V c 1 t) (iblk3 V c 2 t) (ix2 (x 1) ⟨o + 128 + (x 2).val, by idx_bounds_all; omega⟩))
      (grpScale (fun k => k3_pay2 (F := Ideal) (iblk3 V c 0 t) (iblk3 V c 1 t) (iblk3 V c 2 t) (ix2 (x 1) ⟨o + (32 * ((x 2).val / 32) + k.val), by idx_bounds_all; omega⟩))
        (fun k => k3_pay2 (F := Ideal) (iblk3 V c 0 t) (iblk3 V c 1 t) (iblk3 V c 2 t) (ix2 (x 1) ⟨o + 128 + (32 * ((x 2).val / 32) + k.val), by idx_bounds_all; omega⟩)))
    = cdR (evR (newR (V c main_v2) (V c main_v1))) (odR (newR (V c main_v2) (V c main_v1))) a := by
  have hx : (x 2).val < 128 := (x 2).isLt
  exact codeOf_congr
    (tile3 V c t (x 1) ⟨o + (x 2).val, by omega⟩ (ix3 (a 0) (a 1) ⟨(a 2).val / 128 * 256 + (a 2).val % 128, by idx_bounds_all; omega⟩) h0 (by show (a 1).val = _; omega) (by show (a 2).val / 128 * 256 + (a 2).val % 128 = _ * 768 + (o + (x 2).val); omega))
    (tile3 V c t (x 1) ⟨o + 128 + (x 2).val, by omega⟩ (ix3 (a 0) (a 1) ⟨(a 2).val / 128 * 256 + 128 + (a 2).val % 128, by idx_bounds_all; omega⟩) h0 (by show (a 1).val = _; omega) (by show (a 2).val / 128 * 256 + 128 + (a 2).val % 128 = _ * 768 + (o + 128 + (x 2).val); omega))
    (grpScale_congr
      (fun k => tile3 V c t (x 1) ⟨o + (32 * ((x 2).val / 32) + k.val), by omega⟩ (ix3 (a 0) (a 1) ⟨(32 * ((a 2).val / 32) + k.val) / 128 * 256 + (32 * ((a 2).val / 32) + k.val) % 128, by idx_bounds_all; omega⟩) h0 (by show (a 1).val = _; omega) (by show (32 * ((a 2).val / 32) + k.val) / 128 * 256 + (32 * ((a 2).val / 32) + k.val) % 128 = _ * 768 + (o + (32 * ((x 2).val / 32) + k.val)); omega))
      (fun k => tile3 V c t (x 1) ⟨o + 128 + (32 * ((x 2).val / 32) + k.val), by omega⟩ (ix3 (a 0) (a 1) ⟨(32 * ((a 2).val / 32) + k.val) / 128 * 256 + 128 + (32 * ((a 2).val / 32) + k.val) % 128, by idx_bounds_all; omega⟩) h0 (by show (a 1).val = _; omega) (by show (32 * ((a 2).val / 32) + k.val) / 128 * 256 + 128 + (32 * ((a 2).val / 32) + k.val) % 128 = _ * 768 + (o + 128 + (32 * ((x 2).val / 32) + k.val)); omega)))

theorem c3 (c : Dev nD) (t : Fin cfg3.N) (y : S1x256x384.Idx) (a : S3x2304x1152.Idx)
    (h0 : (a 0).val = (grid3.coords t 0).val) (h1 : (a 1).val = (grid3.coords t 1).val * 256 + (y 1).val)
    (h2 : (a 2).val = (grid3.coords t 2).val * 384 + (y 2).val) :
    (outsAt3 V c t.val t.isLt).2.2.1 y = cdR (evR (newR (V c main_v2) (V c main_v1))) (odR (newR (V c main_v2) (V c main_v1))) a := by
  by_cases h : t.val % 3 = 0
  · rw [outsAt3_A V c t h]
    dsimp only
    frame_out
    canon_tiles x hx
    · refine (cd3 (k3_pay2 (iblk3 V c 0 t) (iblk3 V c 1 t) (iblk3 V c 2 t)) 512 slices_S256x768_o0_512_S256x128 slices_S256x768_o0_640_S256x128 shapeCasts_S256x128_S1x256x128 (by decide) x).trans ?_
      exact code3 V c t y a h0 h1 h2 x hx1 512 (by decide) (by omega)
    · refine (cd3 (k3_pay2 (iblk3 V c 0 t) (iblk3 V c 1 t) (iblk3 V c 2 t)) 256 slices_S256x768_o0_256_S256x128 slices_S256x768_o0_384_S256x128 shapeCasts_S256x128_S1x256x128 (by decide) x).trans ?_
      exact code3 V c t y a h0 h1 h2 x hx1 256 (by decide) (by omega)
    · refine (cd3 (k3_pay2 (iblk3 V c 0 t) (iblk3 V c 1 t) (iblk3 V c 2 t)) 0 slices_S256x768_o0_0_S256x128 slices_S256x768_o0_128_S256x128 shapeCasts_S256x128_S1x256x128 (by decide) x).trans ?_
      exact code3 V c t y a h0 h1 h2 x hx1 0 (by decide) (by omega)
  · rw [outsAt3_B V c t h]
    dsimp only
    frame_out
    canon_tiles x hx
    · refine (cd3 (k3_pay2 (iblk3 V c 0 t) (iblk3 V c 1 t) (iblk3 V c 2 t)) 512 slices_S256x768_o0_512_S256x128 slices_S256x768_o0_640_S256x128 shapeCasts_S256x128_S1x256x128 (by decide) x).trans ?_
      exact code3 V c t y a h0 h1 h2 x hx1 512 (by decide) (by omega)
    · refine (cd3 (k3_pay2 (iblk3 V c 0 t) (iblk3 V c 1 t) (iblk3 V c 2 t)) 256 slices_S256x768_o0_256_S256x128 slices_S256x768_o0_384_S256x128 shapeCasts_S256x128_S1x256x128 (by decide) x).trans ?_
      exact code3 V c t y a h0 h1 h2 x hx1 256 (by decide) (by omega)
    · refine (cd3 (k3_pay2 (iblk3 V c 0 t) (iblk3 V c 1 t) (iblk3 V c 2 t)) 0 slices_S256x768_o0_0_S256x128 slices_S256x768_o0_128_S256x128 shapeCasts_S256x128_S1x256x128 (by decide) x).trans ?_
      exact code3 V c t y a h0 h1 h2 x hx1 0 (by decide) (by omega)

end Cert.KernelIdeal.Value
-- ==== Proof.BjL.lean ====
module

public import proofs.«01_k».proof.Proof.Gen.KernelIdeal.Frame.Region5
public import proofs.«01_k».proof.Proof.BjR

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- One step of the iteration on a left factor `U` with product `P`. -/
def newL (P U : FVec Ideal S3x6144x6144 .bf16) : FVec Ideal S3x6144x6144 .bf16 :=
  fun i => Ideal.ofBits .f32 0x3FC00000#32 * U i
    - Ideal.ofBits .f32 0x3F000000#32 * ∑ k : Fin 6144, P (ix3 (i 0) (i 1) k) * U (ix3 (i 0) k (i 2))

/-- The even columns of a dense left factor. -/
def evL (Q : FVec Ideal S3x6144x6144 .bf16) : FVec Ideal S3x6144x3072 .bf16 :=
  fun i => Q (ix3 (i 0) (i 1) ⟨(i 2).val / 128 * 256 + (i 2).val % 128, by idx_bounds_all; omega⟩)

/-- The odd columns. -/
def odL (Q : FVec Ideal S3x6144x6144 .bf16) : FVec Ideal S3x6144x3072 .bf16 :=
  fun i => Q (ix3 (i 0) (i 1) ⟨(i 2).val / 128 * 256 + 128 + (i 2).val % 128, by idx_bounds_all; omega⟩)

/-- The scale of every group of 32 column pairs. -/
def scL (E O : FVec Ideal S3x6144x3072 .bf16) : FVec Ideal S3x6144x96 .f32 :=
  fun i => grpScale (fun k => E (ix3 (i 0) (i 1) ⟨32 * (i 2).val + k.val, by idx_bounds_all; omega⟩))
    (fun k => O (ix3 (i 0) (i 1) ⟨32 * (i 2).val + k.val, by idx_bounds_all; omega⟩))

/-- The packed codes. -/
def cdL (E O : FVec Ideal S3x6144x3072 .bf16) : Vec Ideal S3x6144x3072 .i8 :=
  fun i => codeOf (E i) (O i) (grpScale (fun k => E (ix3 (i 0) (i 1) ⟨32 * ((i 2).val / 32) + k.val, by idx_bounds_all; omega⟩))
    (fun k => O (ix3 (i 0) (i 1) ⟨32 * ((i 2).val / 32) + k.val, by idx_bounds_all; omega⟩)))

theorem idx5 : ∀ t : Fin cfg5.N, win5_0.index t = ![(grid5.coords t 0).val, (grid5.coords t 1).val, 0]
    ∧ win5_1.index t = ![(grid5.coords t 0).val, 0, (grid5.coords t 2).val]
    ∧ win5_2.index t = ![(grid5.coords t 0).val, (grid5.coords t 1).val, (grid5.coords t 2).val]
    ∧ win5_3.index t = ![(grid5.coords t 0).val, (grid5.coords t 1).val, (grid5.coords t 2).val]
    ∧ win5_4.index t = ![(grid5.coords t 0).val, (grid5.coords t 1).val, (grid5.coords t 2).val]
    ∧ win5_5.index t = ![(grid5.coords t 0).val, (grid5.coords t 1).val, (grid5.coords t 2).val]
    ∧ win5_6.index t = ![(grid5.coords t 0).val, (grid5.coords t 1).val, 0] :=
  (by decide +kernel : ∀ t : Fin grid5.N, _)

theorem tile5 (c : Dev nD) (t : Fin cfg5.N) (r : Fin 512) (l : Fin 512) (a : S3x6144x6144.Idx)
    (h0 : (a 0).val = (grid5.coords t 0).val) (h1 : (a 1).val = (grid5.coords t 1).val * 512 + r.val)
    (h2 : (a 2).val = (grid5.coords t 2).val * 512 + l.val) :
    k5_pay2 (F := Ideal) (iblk5 V c 0 t) (iblk5 V c 1 t) (iblk5 V c 2 t) (ix2 r l) = newL (V c main_v4) (V c main_v0) a := by
  pointwise [k5_pay2, newL]
  blk_point [iblk5, idx5 t]

theorem slc5 (v : FVec Ideal S512x512 .bf16) (o : Nat) (h : S512x512.Slices ![0, o] S512x128) (h' : S512x128.ShapeCasts S1x512x128) (ho : o ≤ 384) (x : S1x512x128.Idx) :
    shapeCast S1x512x128 (extractStridedSlice S512x128 ![0, o] v h) h' x = v (ix2 (x 1) ⟨o + (x 2).val, by idx_bounds_all; omega⟩) := by
  pointwise

theorem e5 (c : Dev nD) (t : Fin cfg5.N) (y : S1x512x256.Idx) (a : S3x6144x3072.Idx)
    (h0 : (a 0).val = (grid5.coords t 0).val) (h1 : (a 1).val = (grid5.coords t 1).val * 512 + (y 1).val)
    (h2 : (a 2).val = (grid5.coords t 2).val * 256 + (y 2).val) :
    (outsAt5 V c t.val t.isLt).1 y = evL (newL (V c main_v4) (V c main_v0)) a := by
  by_cases h : t.val % 12 = 0
  · rw [outsAt5_A V c t h]
    dsimp only
    frame_out
    canon_tiles x hx
    · exact (slc5 _ 256 slices_S512x512_o0_256_S512x128 _ (by decide) x).trans (tile5 V c t _ _ _ h0 (show (a 1).val = _ by first | omega | (simp only; omega)) (show (a 2).val / 128 * 256 + (a 2).val % 128 = _ by first | omega | (simp only; omega)))
    · exact (slc5 _ 0 slices_S512x512_o0_0_S512x128 _ (by decide) x).trans (tile5 V c t _ _ _ h0 (show (a 1).val = _ by first | omega | (simp only; omega)) (show (a 2).val / 128 * 256 + (a 2).val % 128 = _ by first | omega | (simp only; omega)))
  · rw [outsAt5_B V c t h]
    dsimp only
    frame_out
    canon_tiles x hx
    · exact (slc5 _ 256 slices_S512x512_o0_256_S512x128 _ (by decide) x).trans (tile5 V c t _ _ _ h0 (show (a 1).val = _ by first | omega | (simp only; omega)) (show (a 2).val / 128 * 256 + (a 2).val % 128 = _ by first | omega | (simp only; omega)))
    · exact (slc5 _ 0 slices_S512x512_o0_0_S512x128 _ (by decide) x).trans (tile5 V c t _ _ _ h0 (show (a 1).val = _ by first | omega | (simp only; omega)) (show (a 2).val / 128 * 256 + (a 2).val % 128 = _ by first | omega | (simp only; omega)))

theorem o5 (c : Dev nD) (t : Fin cfg5.N) (y : S1x512x256.Idx) (a : S3x6144x3072.Idx)
    (h0 : (a 0).val = (grid5.coords t 0).val) (h1 : (a 1).val = (grid5.coords t 1).val * 512 + (y 1).val)
    (h2 : (a 2).val = (grid5.coords t 2).val * 256 + (y 2).val) :
    (outsAt5 V c t.val t.isLt).2.1 y = odL (newL (V c main_v4) (V c main_v0)) a := by
  by_cases h : t.val % 12 = 0
  · rw [outsAt5_A V c t h]
    dsimp only
    frame_out
    canon_tiles x hx
    · exact (slc5 _ 384 slices_S512x512_o0_384_S512x128 _ (by decide) x).trans (tile5 V c t _ _ _ h0 (show (a 1).val = _ by first | omega | (simp only; omega)) (show (a 2).val / 128 * 256 + 128 + (a 2).val % 128 = _ by first | omega | (simp only; omega)))
    · exact (slc5 _ 128 slices_S512x512_o0_128_S512x128 _ (by decide) x).trans (tile5 V c t _ _ _ h0 (show (a 1).val = _ by first | omega | (simp only; omega)) (show (a 2).val / 128 * 256 + 128 + (a 2).val % 128 = _ by first | omega | (simp only; omega)))
  · rw [outsAt5_B V c t h]
    dsimp only
    frame_out
    canon_tiles x hx
    · exact (slc5 _ 384 slices_S512x512_o0_384_S512x128 _ (by decide) x).trans (tile5 V c t _ _ _ h0 (show (a 1).val = _ by first | omega | (simp only; omega)) (show (a 2).val / 128 * 256 + 128 + (a 2).val % 128 = _ by first | omega | (simp only; omega)))
    · exact (slc5 _ 128 slices_S512x512_o0_128_S512x128 _ (by decide) x).trans (tile5 V c t _ _ _ h0 (show (a 1).val = _ by first | omega | (simp only; omega)) (show (a 2).val / 128 * 256 + 128 + (a 2).val % 128 = _ by first | omega | (simp only; omega)))

/-- Codes of the chunk that starts at lane `o` of the step's tile. -/
theorem cd5 (v : FVec Ideal S512x512 .bf16) (o : Nat) (h : S512x512.Slices ![0, o] S512x128) (hp : S512x512.Slices ![0, o + 128] S512x128) (h' : S512x128.ShapeCasts S1x512x128)
    (ho : o + 128 ≤ 384) (x : S1x512x128.Idx) :
    shapeCast S1x512x128 (codeV natLt_1_32 natLt_8_32 rotates_S512x128_d1 shapeCasts_S512x128_S512x128x1 shapeCasts_S512x128x1_S512x128
      (iota Kind.tc S512x128 32 [1] iota_S512x128_d1_w32) (extf .f32 (extractStridedSlice S512x128 ![0, o] v h) bitsLt_bf16_f32)
      (extf .f32 (extractStridedSlice S512x128 ![0, o + 128] v hp) bitsLt_bf16_f32)) h' x
    = codeOf (v (ix2 (x 1) ⟨o + (x 2).val, by idx_bounds_all; omega⟩)) (v (ix2 (x 1) ⟨o + 128 + (x 2).val, by idx_bounds_all; omega⟩))
      (grpScale (fun k => v (ix2 (x 1) ⟨o + (32 * ((x 2).val / 32) + k.val), by idx_bounds_all; omega⟩))
        (fun k => v (ix2 (x 1) ⟨o + 128 + (32 * ((x 2).val / 32) + k.val), by idx_bounds_all; omega⟩))) := by
  have hc : ∀ w : IVec S512x128 8, shapeCast S1x512x128 w h' x = w (ix2 (x 1) (x 2)) := by
    intro w; pointwise
  rw [hc]
  refine (codeV_at _ _ _ _ _ _ (fun r l => ?_) _ _ _ _).trans ?_
  · pointwise
  · pointwise

theorem code5 (c : Dev nD) (t : Fin cfg5.N) (y : S1x512x256.Idx) (a : S3x6144x3072.Idx)
    (h0 : (a 0).val = (grid5.coords t 0).val) (h1 : (a 1).val = (grid5.coords t 1).val * 512 + (y 1).val)
    (h2 : (a 2).val = (grid5.coords t 2).val * 256 + (y 2).val) (x : S1x512x128.Idx) (hx1 : (y 1).val = (x 1).val)
    (o : Nat) (ho : o % 256 = 0 ∧ o ≤ 256) (hx2 : (y 2).val = o / 2 + (x 2).val) :
    codeOf (k5_pay2 (F := Ideal) (iblk5 V c 0 t) (iblk5 V c 1 t) (iblk5 V c 2 t) (ix2 (x 1) ⟨o + (x 2).val, by idx_bounds_all; omega⟩))
      (k5_pay2 (F := Ideal) (iblk5 V c 0 t) (iblk5 V c 1 t) (iblk5 V c 2 t) (ix2 (x 1) ⟨o + 128 + (x 2).val, by idx_bounds_all; omega⟩))
      (grpScale (fun k => k5_pay2 (F := Ideal) (iblk5 V c 0 t) (iblk5 V c 1 t) (iblk5 V c 2 t) (ix2 (x 1) ⟨o + (32 * ((x 2).val / 32) + k.val), by idx_bounds_all; omega⟩))
        (fun k => k5_pay2 (F := Ideal) (iblk5 V c 0 t) (iblk5 V c 1 t) (iblk5 V c 2 t) (ix2 (x 1) ⟨o + 128 + (32 * ((x 2).val / 32) + k.val), by idx_bounds_all; omega⟩)))
    = cdL (evL (newL (V c main_v4) (V c main_v0))) (odL (newL (V c main_v4) (V c main_v0))) a := by
  have hx : (x 2).val < 128 := (x 2).isLt
  exact codeOf_congr
    (tile5 V c t (x 1) ⟨o + (x 2).val, by omega⟩ (ix3 (a 0) (a 1) ⟨(a 2).val / 128 * 256 + (a 2).val % 128, by idx_bounds_all; omega⟩) h0 (by show (a 1).val = _; omega) (by show (a 2).val / 128 * 256 + (a 2).val % 128 = _ * 512 + (o + (x 2).val); omega))
    (tile5 V c t (x 1) ⟨o + 128 + (x 2).val, by omega⟩ (ix3 (a 0) (a 1) ⟨(a 2).val / 128 * 256 + 128 + (a 2).val % 128, by idx_bounds_all; omega⟩) h0 (by show (a 1).val = _; omega) (by show (a 2).val / 128 * 256 + 128 + (a 2).val % 128 = _ * 512 + (o + 128 + (x 2).val); omega))
    (grpScale_congr
      (fun k => tile5 V c t (x 1) ⟨o + (32 * ((x 2).val / 32) + k.val), by omega⟩ (ix3 (a 0) (a 1) ⟨(32 * ((a 2).val / 32) + k.val) / 128 * 256 + (32 * ((a 2).val / 32) + k.val) % 128, by idx_bounds_all; omega⟩) h0 (by show (a 1).val = _; omega) (by show (32 * ((a 2).val / 32) + k.val) / 128 * 256 + (32 * ((a 2).val / 32) + k.val) % 128 = _ * 512 + (o + (32 * ((x 2).val / 32) + k.val)); omega))
      (fun k => tile5 V c t (x 1) ⟨o + 128 + (32 * ((x 2).val / 32) + k.val), by omega⟩ (ix3 (a 0) (a 1) ⟨(32 * ((a 2).val / 32) + k.val) / 128 * 256 + 128 + (32 * ((a 2).val / 32) + k.val) % 128, by idx_bounds_all; omega⟩) h0 (by show (a 1).val = _; omega) (by show (32 * ((a 2).val / 32) + k.val) / 128 * 256 + 128 + (32 * ((a 2).val / 32) + k.val) % 128 = _ * 512 + (o + 128 + (32 * ((x 2).val / 32) + k.val)); omega)))

theorem c5 (c : Dev nD) (t : Fin cfg5.N) (y : S1x512x256.Idx) (a : S3x6144x3072.Idx)
    (h0 : (a 0).val = (grid5.coords t 0).val) (h1 : (a 1).val = (grid5.coords t 1).val * 512 + (y 1).val)
    (h2 : (a 2).val = (grid5.coords t 2).val * 256 + (y 2).val) :
    (outsAt5 V c t.val t.isLt).2.2.1 y = cdL (evL (newL (V c main_v4) (V c main_v0))) (odL (newL (V c main_v4) (V c main_v0))) a := by
  by_cases h : t.val % 12 = 0
  · rw [outsAt5_A V c t h]
    dsimp only
    frame_out
    canon_tiles x hx
    · refine (cd5 (k5_pay2 (iblk5 V c 0 t) (iblk5 V c 1 t) (iblk5 V c 2 t)) 256 slices_S512x512_o0_256_S512x128 slices_S512x512_o0_384_S512x128 shapeCasts_S512x128_S1x512x128 (by decide) x).trans ?_
      exact code5 V c t y a h0 h1 h2 x hx1 256 (by decide) (by omega)
    · refine (cd5 (k5_pay2 (iblk5 V c 0 t) (iblk5 V c 1 t) (iblk5 V c 2 t)) 0 slices_S512x512_o0_0_S512x128 slices_S512x512_o0_128_S512x128 shapeCasts_S512x128_S1x512x128 (by decide) x).trans ?_
      exact code5 V c t y a h0 h1 h2 x hx1 0 (by decide) (by omega)
  · rw [outsAt5_B V c t h]
    dsimp only
    frame_out
    canon_tiles x hx
    · refine (cd5 (k5_pay2 (iblk5 V c 0 t) (iblk5 V c 1 t) (iblk5 V c 2 t)) 256 slices_S512x512_o0_256_S512x128 slices_S512x512_o0_384_S512x128 shapeCasts_S512x128_S1x512x128 (by decide) x).trans ?_
      exact code5 V c t y a h0 h1 h2 x hx1 256 (by decide) (by omega)
    · refine (cd5 (k5_pay2 (iblk5 V c 0 t) (iblk5 V c 1 t) (iblk5 V c 2 t)) 0 slices_S512x512_o0_0_S512x128 slices_S512x512_o0_128_S512x128 shapeCasts_S512x128_S1x512x128 (by decide) x).trans ?_
      exact code5 V c t y a h0 h1 h2 x hx1 0 (by decide) (by omega)

end Cert.KernelIdeal.Value
-- ==== Proof.ScL.lean ====
module

public import proofs.«01_k».proof.Proof.BjL

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The lanes' own numbers. -/
abbrev lanL : IVec S512x128 32 := iota Kind.tc S512x128 32 [1] iota_S512x128_d1_w32

theorem lanL_at (r : Fin 512) (l : Fin 128) : lanL (ix2 r l) = BitVec.ofNat 32 l.val := by pointwise

/-- The scales of the chunk at lane `o` of a step's tile. -/
def mL (v : FVec Ideal S512x512 .bf16) (o : Nat) (h : S512x512.Slices ![0, o] S512x128) (p : Nat) (hp : S512x512.Slices ![0, p] S512x128) : FVec Ideal S512x128 .f32 :=
  scV rotates_S512x128_d1 (extf .f32 (extractStridedSlice S512x128 ![0, o] v h) bitsLt_bf16_f32)
    (extf .f32 (extractStridedSlice S512x128 ![0, p] v hp) bitsLt_bf16_f32)

theorem mL_at (v : FVec Ideal S512x512 .bf16) (o : Nat) (h : S512x512.Slices ![0, o] S512x128) (hp : S512x512.Slices ![0, o + 128] S512x128)
    (ho : o ≤ 256) (r : Fin 512) (l : Fin 128) (g : Fin 4) (hl : l.val = 32 * g.val + 31) :
    mL v o h (o + 128) hp (ix2 r l) = grpScale (fun k => v (ix2 r ⟨o + (32 * g.val + k.val), by omega⟩)) (fun k => v (ix2 r ⟨o + 128 + (32 * g.val + k.val), by omega⟩)) := by
  refine (scV_at _ _ _ r l g hl).trans ?_
  pointwise

theorem first5 : ∀ j : Fin 12, ∀ q : Fin 2, Scalar.muli 4#32 (Scalar.addi (Scalar.muli (BitVec.ofNat 32 j.val) 2#32) (BitVec.ofNat 32 q.val))
    = BitVec.ofNat 32 (4 * (2 * j.val + q.val)) := by decide +kernel

/-- The scale tile after a step, from the one before it. -/
def stepL (v : FVec Ideal S512x512 .bf16) (j : BitVec 32) (prev : FVec Ideal S1x512x128 .f32) : FVec Ideal S1x512x128 .f32 :=
  shapeCast S1x512x128 (putV shapeCasts_S512x128_S512x128x1 shapeCasts_S512x128x1_S512x128 lanL (Scalar.muli 4#32 (Scalar.addi (Scalar.muli j 2#32) 1#32))
      (mL v 256 slices_S512x512_o0_256_S512x128 384 slices_S512x512_o0_384_S512x128)
    (putV shapeCasts_S512x128_S512x128x1 shapeCasts_S512x128x1_S512x128 lanL (Scalar.muli 4#32 (Scalar.addi (Scalar.muli j 2#32) 0#32))
      (mL v 0 slices_S512x512_o0_0_S512x128 128 slices_S512x512_o0_128_S512x128)
    (shapeCast S512x128 prev shapeCasts_S1x512x128_S512x128))) shapeCasts_S512x128_S1x512x128

theorem castL (w : FVec Ideal S512x128 .f32) (y : S1x512x128.Idx) : shapeCast S1x512x128 w shapeCasts_S512x128_S1x512x128 y = w (ix2 (y 1) (y 2)) := by
  pointwise

/-- A step keeps the lanes of the steps before it. -/
theorem stepL_keep (v : FVec Ideal S512x512 .bf16) (j : Fin 12) (prev : FVec Ideal S1x512x128 .f32) (y : S1x512x128.Idx)
    (hl : (y 2).val < 8 * j.val) : stepL v (BitVec.ofNat 32 j.val) prev y = prev (ix3 0 (y 1) (y 2)) := by
  have hj := j.isLt
  have hy : (y 2).val < 128 := (y 2).isLt
  refine (castL _ y).trans ?_
  refine (putV_out _ _ _ lanL_at _ (2 * j.val + 1) (by omega) (first5 j 1) _ _ (y 1) (y 2) (by omega)).trans ?_
  refine (putV_out _ _ _ lanL_at _ (2 * j.val + 0) (by omega) (first5 j 0) _ _ (y 1) (y 2) (by omega)).trans ?_
  pointwise
  have h0 : (y 0).val < 1 := (y 0).isLt
  have e : y 0 = (0 : Fin 1) := Fin.ext (show (y 0).val = 0 by omega)
  exact congrArg prev ((eq_ix3 y).trans (congrArg (fun z : Fin 1 => ix3 z (y 1) (y 2)) e))

/-- A step writes its own lanes. -/
theorem stepL_own (v : FVec Ideal S512x512 .bf16) (j : Fin 12) (prev : FVec Ideal S1x512x128 .f32) (y : S1x512x128.Idx)
    (hl : 8 * j.val ≤ (y 2).val) (hu : (y 2).val < 8 * j.val + 8) :
    stepL v (BitVec.ofNat 32 j.val) prev y
    = grpScale (fun k => v (ix2 (y 1) ⟨((y 2).val / 4 - 2 * j.val) * 256 + (32 * ((y 2).val % 4) + k.val), by omega⟩))
      (fun k => v (ix2 (y 1) ⟨((y 2).val / 4 - 2 * j.val) * 256 + 128 + (32 * ((y 2).val % 4) + k.val), by omega⟩)) := by
  have hj := j.isLt
  have hy : (y 2).val < 128 := (y 2).isLt
  refine (castL _ y).trans ?_
  have fin : ∀ (q : Nat) (hq : q < 2) (h : S512x512.Slices ![0, 256 * q] S512x128) (hp : S512x512.Slices ![0, 256 * q + 128] S512x128)
      (hin : 4 * (2 * j.val + q) ≤ (y 2).val ∧ (y 2).val < 4 * (2 * j.val + q) + 4),
      mL v (256 * q) h (256 * q + 128) hp (ix2 (y 1) ⟨32 * ((y 2).val - 4 * (2 * j.val + q)) + 31, by omega⟩)
      = grpScale (fun k => v (ix2 (y 1) ⟨((y 2).val / 4 - 2 * j.val) * 256 + (32 * ((y 2).val % 4) + k.val), by omega⟩))
        (fun k => v (ix2 (y 1) ⟨((y 2).val / 4 - 2 * j.val) * 256 + 128 + (32 * ((y 2).val % 4) + k.val), by omega⟩)) := by
    intro q hq h hp hin
    refine (mL_at v (256 * q) h hp (by omega) (y 1) _ ⟨(y 2).val - 4 * (2 * j.val + q), by omega⟩ rfl).trans ?_
    refine grpScale_congr (fun k => congrArg v (congrArg (ix2 (y 1)) (Fin.ext ?_))) (fun k => congrArg v (congrArg (ix2 (y 1)) (Fin.ext ?_)))
    · simp only; omega
    · simp only; omega
  by_cases h1 : 4 * (2 * j.val + 1) ≤ (y 2).val
  · exact (putV_in _ _ _ lanL_at _ (2 * j.val + 1) (by omega) (first5 j 1) _ _ (y 1) (y 2) (by omega)).trans (fin 1 (by omega) _ _ (by omega))
  refine (putV_out _ _ _ lanL_at _ (2 * j.val + 1) (by omega) (first5 j 1) _ _ (y 1) (y 2) (by omega)).trans ?_
  exact (putV_in _ _ _ lanL_at _ (2 * j.val + 0) (by omega) (first5 j 0) _ _ (y 1) (y 2) (by omega)).trans (fin 0 (by omega) _ _ (by omega))

theorem coords5 : ∀ t : Fin cfg5.N, (grid5.coords t 2).val = t.val % 12 ∧ (grid5.coords t 1).val = t.val / 12 % 12 ∧ (grid5.coords t 0).val = t.val / 144 :=
  (by decide +kernel : ∀ t : Fin grid5.N, _)

theorem outs5_A (c : Dev nD) (t : Fin cfg5.N) (h : t.val % 12 = 0) : ∃ prev : FVec Ideal S1x512x128 .f32, ∀ y,
    (outsAt5 V c t.val t.isLt).2.2.2 y = stepL (k5_pay2 (iblk5 V c 0 t) (iblk5 V c 1 t) (iblk5 V c 2 t)) (BitVec.ofNat 32 (grid5.coords t 2).val) prev y := by
  refine ⟨k5_pay3, fun y => ?_⟩
  rw [outsAt5_A V c t h]
  dsimp only
  frame_out
  rfl

theorem outs5_B (c : Dev nD) (t : Fin cfg5.N) (h : ¬ t.val % 12 = 0) (y) :
    (outsAt5 V c t.val t.isLt).2.2.2 y = stepL (k5_pay2 (iblk5 V c 0 t) (iblk5 V c 1 t) (iblk5 V c 2 t)) (BitVec.ofNat 32 (grid5.coords t 2).val)
      (outsAt5 V c (t.val - 1) (Nat.lt_of_le_of_lt (Nat.sub_le _ _) t.isLt)).2.2.2 y := by
  rw [outsAt5_B V c t h]
  dsimp only
  frame_out
  rfl

/-- A step's own lanes hold the scales of the array. -/
theorem own5 (c : Dev nD) (t : Fin cfg5.N) (prev : FVec Ideal S1x512x128 .f32) (y : S1x512x128.Idx) (a : S3x6144x96.Idx)
    (h0 : (a 0).val = (grid5.coords t 0).val) (h1 : (a 1).val = (grid5.coords t 1).val * 512 + (y 1).val) (h2 : (a 2).val = (y 2).val)
    (hl : 8 * (grid5.coords t 2).val ≤ (y 2).val) (hu : (y 2).val < 8 * (grid5.coords t 2).val + 8) :
    stepL (k5_pay2 (iblk5 V c 0 t) (iblk5 V c 1 t) (iblk5 V c 2 t)) (BitVec.ofNat 32 (grid5.coords t 2).val) prev y
    = scL (evL (newL (V c main_v4) (V c main_v0))) (odL (newL (V c main_v4) (V c main_v0))) a := by
  refine (stepL_own _ (grid5.coords t 2) prev y hl hu).trans ?_
  have ha : (a 2).val < 96 := (a 2).isLt
  refine grpScale_congr
    (fun k => tile5 V c t (y 1) _ (ix3 (a 0) (a 1) ⟨(32 * (a 2).val + k.val) / 128 * 256 + (32 * (a 2).val + k.val) % 128, by omega⟩) h0 h1 ?_)
    (fun k => tile5 V c t (y 1) _ (ix3 (a 0) (a 1) ⟨(32 * (a 2).val + k.val) / 128 * 256 + 128 + (32 * (a 2).val + k.val) % 128, by omega⟩) h0 h1 ?_)
  · show (32 * (a 2).val + k.val) / 128 * 256 + (32 * (a 2).val + k.val) % 128 = _
    simp only
    omega
  · show (32 * (a 2).val + k.val) / 128 * 256 + 128 + (32 * (a 2).val + k.val) % 128 = _
    simp only
    omega

/-- After every step, the lanes written so far hold the scales of the array. -/
theorem s5 (c : Dev nD) : ∀ (n : Nat) (hn : n < cfg5.N) (y : S1x512x128.Idx) (a : S3x6144x96.Idx)
    (h0 : (a 0).val = (grid5.coords ⟨n, hn⟩ 0).val) (h1 : (a 1).val = (grid5.coords ⟨n, hn⟩ 1).val * 512 + (y 1).val) (h2 : (a 2).val = (y 2).val)
    (hu : (y 2).val < 8 * (n % 12) + 8),
    (outsAt5 V c n hn).2.2.2 y = scL (evL (newL (V c main_v4) (V c main_v0))) (odL (newL (V c main_v4) (V c main_v0))) a := by
  intro n
  induction n with
  | zero =>
    intro hn y a h0 h1 h2 hu
    obtain ⟨prev, hp⟩ := outs5_A V c ⟨0, hn⟩ rfl
    have e := (coords5 ⟨0, hn⟩).1
    simp only at e
    exact (hp y).trans (own5 V c ⟨0, hn⟩ prev y a h0 h1 h2 (by omega) (by omega))
  | succ n ih =>
    intro hn y a h0 h1 h2 hu
    obtain ⟨e2, e1, e0⟩ := coords5 ⟨n + 1, hn⟩
    simp only at e2 e1 e0
    by_cases h : (n + 1) % 12 = 0
    · obtain ⟨prev, hp⟩ := outs5_A V c ⟨n + 1, hn⟩ h
      exact (hp y).trans (own5 V c ⟨n + 1, hn⟩ prev y a h0 h1 h2 (by omega) (by omega))
    · refine (outs5_B V c ⟨n + 1, hn⟩ h y).trans ?_
      by_cases hl : 8 * (grid5.coords ⟨n + 1, hn⟩ 2).val ≤ (y 2).val
      · exact own5 V c ⟨n + 1, hn⟩ _ y a h0 h1 h2 hl (by omega)
      · refine (stepL_keep _ (grid5.coords ⟨n + 1, hn⟩ 2) _ y (by omega)).trans ?_
        obtain ⟨d2, d1, d0⟩ := coords5 ⟨n, by omega⟩
        simp only at d2 d1 d0
        exact ih (by omega) (ix3 0 (y 1) (y 2)) a (by omega) (by show (a 1).val = _ * 512 + (y 1).val; omega) h2 (by show (y 2).val < _; omega)

theorem evL5 (c : Dev nD) : (dat5 V c).arrAt 3 cfg5.N = evL (newL (V c main_v4) (V c main_v0)) := by
  refine (dat5 V c).arrAt_eq_of_covers 3 _ (by decide +kernel) fun t _ y => ?_
  blk_simp
  rw [after5_3]
  exact e5 V c t y _ (by blk_simp [idx5 t]) (by blk_simp [idx5 t]) (by blk_simp [idx5 t])

theorem odL5 (c : Dev nD) : (dat5 V c).arrAt 4 cfg5.N = odL (newL (V c main_v4) (V c main_v0)) := by
  refine (dat5 V c).arrAt_eq_of_covers 4 _ (by decide +kernel) fun t _ y => ?_
  blk_simp
  rw [after5_4]
  exact o5 V c t y _ (by blk_simp [idx5 t]) (by blk_simp [idx5 t]) (by blk_simp [idx5 t])

theorem cdL5 (c : Dev nD) : (dat5 V c).arrAt 5 cfg5.N
    = cdL (evL (newL (V c main_v4) (V c main_v0))) (odL (newL (V c main_v4) (V c main_v0))) := by
  refine (dat5 V c).arrAt_eq_of_covers 5 _ (by decide +kernel) fun t _ y => ?_
  blk_simp
  rw [after5_5]
  exact c5 V c t y _ (by blk_simp [idx5 t]) (by blk_simp [idx5 t]) (by blk_simp [idx5 t])

theorem flush5 : ∀ t : Fin cfg5.N, win5_6.flush t = true → t.val % 12 = 11 := (by decide +kernel : ∀ t : Fin grid5.N, _)

theorem scL5 (c : Dev nD) (i : S3x6144x128.Idx) (a : S3x6144x96.Idx) (h0 : (a 0).val = (i 0).val) (h1 : (a 1).val = (i 1).val) (h2 : (a 2).val = (i 2).val) :
    (dat5 V c).arrAt 6 cfg5.N i = scL (evL (newL (V c main_v4) (V c main_v0))) (odL (newL (V c main_v4) (V c main_v0))) a := by
  refine (dat5 V c).arrAt_forall_of_covers 6 (fun i v => ∀ a : S3x6144x96.Idx, (a 0).val = (i 0).val → (a 1).val = (i 1).val → (a 2).val = (i 2).val →
    v = scL (evL (newL (V c main_v4) (V c main_v0))) (odL (newL (V c main_v4) (V c main_v0))) a) (by decide +kernel) (fun t hf y => ?_) i (Memref.isWhole_whole _) a h0 h1 h2
  have hm := flush5 t hf
  intro a
  blk_simp [idx5 t]
  rw [after5_6]
  intro h0 h1 h2
  have ha : (a 2).val < 96 := (a 2).isLt
  exact s5 V c t.val t.isLt y a (by omega) h1 (by omega) (by omega)

end Cert.KernelIdeal.Value
-- ==== Proof.Gram.lean ====
module

public import proofs.«01_k».proof.Proof.Gen.KernelIdeal.Frame.Region2
public import proofs.«01_k».proof.Proof.Gen.KernelIdeal.Frame.Region4
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The product of a right factor with its own transpose. -/
def gramR (U : FVec Ideal S3x2304x2304 .bf16) : FVec Ideal S3x2304x2304 .bf16 :=
  fun i => ∑ k : Fin 2304, U (ix3 (i 0) (i 1) k) * U (ix3 (i 0) (i 2) k)

theorem idx2 : ∀ t : Fin cfg2.N, win2_0.index t = ![(grid2.coords t 0).val, (grid2.coords t 1).val, 0]
    ∧ win2_1.index t = ![(grid2.coords t 0).val, (grid2.coords t 2).val, 0]
    ∧ win2_2.index t = ![(grid2.coords t 0).val, (grid2.coords t 1).val, (grid2.coords t 2).val] :=
  (by decide +kernel : ∀ t : Fin grid2.N, _)

theorem gram2 (c : Dev nD) : (dat2 V c).arrAt 2 cfg2.N = gramR (V c main_v1) := by
  refine (dat2 V c).arrAt_eq_of_covers 2 _ (by decide +kernel) fun t _ y => ?_
  blk_simp
  rw [after2_2]; frame_out
  pointwise [k2_pay1, gramR]
  blk_point [iblk2, idx2 t]

/-- The product of a left factor with its own transpose. -/
def gramL (U : FVec Ideal S3x6144x6144 .bf16) : FVec Ideal S3x6144x6144 .bf16 :=
  fun i => ∑ k : Fin 6144, U (ix3 (i 0) (i 1) k) * U (ix3 (i 0) (i 2) k)

theorem idx4 : ∀ t : Fin cfg4.N, win4_0.index t = ![(grid4.coords t 0).val, (grid4.coords t 1).val, 0]
    ∧ win4_1.index t = ![(grid4.coords t 0).val, (grid4.coords t 2).val, 0]
    ∧ win4_2.index t = ![(grid4.coords t 0).val, (grid4.coords t 1).val, (grid4.coords t 2).val] :=
  (by decide +kernel : ∀ t : Fin grid4.N, _)

theorem gram4 (c : Dev nD) : (dat4 V c).arrAt 2 cfg4.N = gramL (V c main_v0) := by
  refine (dat4 V c).arrAt_eq_of_covers 2 _ (by decide +kernel) fun t _ y => ?_
  blk_simp
  rw [after4_2]; frame_out
  pointwise [k4_pay1, gramL]
  blk_point [iblk4, idx4 t]

end Cert.KernelIdeal.Value
-- ==== Proof.Lut.lean ====
module

public import proofs.«01_k».proof.Proof.Gen.KernelIdeal.Frame.Region1
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

/-- The code table as a choice on the four bits of a code. -/
def lut (w : BitVec 32) : EReal :=
  (Scalar.select (IntOp.cmpi CmpIPredicate.eq (IntOp.andi (IntOp.shrsi .vector w 3#32) 1#32) 1#32)
    (Scalar.select (IntOp.cmpi CmpIPredicate.eq (IntOp.andi (IntOp.shrsi .vector w 2#32) 1#32)
    1#32) (Scalar.select (IntOp.cmpi CmpIPredicate.eq (IntOp.andi (IntOp.shrsi .vector w 1#32)
    1#32) 1#32) (Scalar.select (IntOp.cmpi CmpIPredicate.eq (IntOp.andi (IntOp.shrsi .vector w
    0#32) 1#32) 1#32) (Ideal.ofBits FTy.f32 1065353216#32) (Ideal.ofBits FTy.f32 1061177553#32))
    (Scalar.select (IntOp.cmpi CmpIPredicate.eq (IntOp.andi (IntOp.shrsi .vector w 0#32) 1#32)
    1#32) (Ideal.ofBits FTy.f32 1057598414#32) (Ideal.ofBits FTy.f32 1052266988#32)))
    (Scalar.select (IntOp.cmpi CmpIPredicate.eq (IntOp.andi (IntOp.shrsi .vector w 1#32) 1#32)
    1#32) (Scalar.select (IntOp.cmpi CmpIPredicate.eq (IntOp.andi (IntOp.shrsi .vector w 0#32)
    1#32) 1#32) (Ideal.ofBits FTy.f32 1046413603#32) (Ideal.ofBits FTy.f32 1038323257#32))
    (Scalar.select (IntOp.cmpi CmpIPredicate.eq (IntOp.andi (IntOp.shrsi .vector w 0#32) 1#32)
    1#32) (Ideal.ofBits FTy.f32 1025758986#32) (Ideal.ofBits FTy.f32 999400116#32))))
    (Scalar.select (IntOp.cmpi CmpIPredicate.eq (IntOp.andi (IntOp.shrsi .vector w 2#32) 1#32)
    1#32) (Scalar.select (IntOp.cmpi CmpIPredicate.eq (IntOp.andi (IntOp.shrsi .vector w 1#32)
    1#32) 1#32) (Scalar.select (IntOp.cmpi CmpIPredicate.eq (IntOp.andi (IntOp.shrsi .vector w
    0#32) 1#32) 1#32) (Ideal.ofBits FTy.f32 0#32) (Ideal.ofBits FTy.f32 3173242634#32))
    (Scalar.select (IntOp.cmpi CmpIPredicate.eq (IntOp.andi (IntOp.shrsi .vector w 0#32) 1#32)
    1#32) (Ideal.ofBits FTy.f32 3185806905#32) (Ideal.ofBits FTy.f32 3193897251#32)))
    (Scalar.select (IntOp.cmpi CmpIPredicate.eq (IntOp.andi (IntOp.shrsi .vector w 1#32) 1#32)
    1#32) (Scalar.select (IntOp.cmpi CmpIPredicate.eq (IntOp.andi (IntOp.shrsi .vector w 0#32)
    1#32) 1#32) (Ideal.ofBits FTy.f32 3199750636#32) (Ideal.ofBits FTy.f32 3205082062#32))
    (Scalar.select (IntOp.cmpi CmpIPredicate.eq (IntOp.andi (IntOp.shrsi .vector w 0#32) 1#32)
    1#32) (Ideal.ofBits FTy.f32 3208661201#32) (Ideal.ofBits FTy.f32 3212836864#32)))))

/-- The kernel's choice tree over a tile, times a scale tile, at one place. -/
theorem tile_eq (w : IVec S256x128 32) (s : FVec Ideal S256x128 .f32)
    (h : FTy.bits .bf16 < FTy.bits .f32) (h' : S256x128.ShapeCasts S1x256x128) (x : S1x256x128.Idx) :
    (shapeCast S1x256x128 (truncf .bf16 (mulf
      (select (cmpi CmpIPredicate.eq (andi (shrsi w (broadcast S256x128 3#32)) (broadcast S256x128
    1#32)) (broadcast S256x128 1#32)) (select (cmpi CmpIPredicate.eq (andi (shrsi w (broadcast
    S256x128 2#32)) (broadcast S256x128 1#32)) (broadcast S256x128 1#32)) (select (cmpi
    CmpIPredicate.eq (andi (shrsi w (broadcast S256x128 1#32)) (broadcast S256x128 1#32))
    (broadcast S256x128 1#32)) (select (cmpi CmpIPredicate.eq (andi (shrsi w (broadcast S256x128
    0#32)) (broadcast S256x128 1#32)) (broadcast S256x128 1#32)) (broadcast S256x128
    (FloatOps.ofBits FTy.f32 1065353216#32)) (broadcast S256x128 (FloatOps.ofBits FTy.f32
    1061177553#32))) (select (cmpi CmpIPredicate.eq (andi (shrsi w (broadcast S256x128 0#32))
    (broadcast S256x128 1#32)) (broadcast S256x128 1#32)) (broadcast S256x128 (FloatOps.ofBits
    FTy.f32 1057598414#32)) (broadcast S256x128 (FloatOps.ofBits FTy.f32 1052266988#32))))
    (select (cmpi CmpIPredicate.eq (andi (shrsi w (broadcast S256x128 1#32)) (broadcast S256x128
    1#32)) (broadcast S256x128 1#32)) (select (cmpi CmpIPredicate.eq (andi (shrsi w (broadcast
    S256x128 0#32)) (broadcast S256x128 1#32)) (broadcast S256x128 1#32)) (broadcast S256x128
    (FloatOps.ofBits FTy.f32 1046413603#32)) (broadcast S256x128 (FloatOps.ofBits FTy.f32
    1038323257#32))) (select (cmpi CmpIPredicate.eq (andi (shrsi w (broadcast S256x128 0#32))
    (broadcast S256x128 1#32)) (broadcast S256x128 1#32)) (broadcast S256x128 (FloatOps.ofBits
    FTy.f32 1025758986#32)) (broadcast S256x128 (FloatOps.ofBits FTy.f32 999400116#32)))))
    (select (cmpi CmpIPredicate.eq (andi (shrsi w (broadcast S256x128 2#32)) (broadcast S256x128
    1#32)) (broadcast S256x128 1#32)) (select (cmpi CmpIPredicate.eq (andi (shrsi w (broadcast
    S256x128 1#32)) (broadcast S256x128 1#32)) (broadcast S256x128 1#32)) (select (cmpi
    CmpIPredicate.eq (andi (shrsi w (broadcast S256x128 0#32)) (broadcast S256x128 1#32))
    (broadcast S256x128 1#32)) (broadcast S256x128 (FloatOps.ofBits FTy.f32 0#32)) (broadcast
    S256x128 (FloatOps.ofBits FTy.f32 3173242634#32))) (select (cmpi CmpIPredicate.eq (andi
    (shrsi w (broadcast S256x128 0#32)) (broadcast S256x128 1#32)) (broadcast S256x128 1#32))
    (broadcast S256x128 (FloatOps.ofBits FTy.f32 3185806905#32)) (broadcast S256x128
    (FloatOps.ofBits FTy.f32 3193897251#32)))) (select (cmpi CmpIPredicate.eq (andi (shrsi w
    (broadcast S256x128 1#32)) (broadcast S256x128 1#32)) (broadcast S256x128 1#32)) (select
    (cmpi CmpIPredicate.eq (andi (shrsi w (broadcast S256x128 0#32)) (broadcast S256x128 1#32))
    (broadcast S256x128 1#32)) (broadcast S256x128 (FloatOps.ofBits FTy.f32 3199750636#32))
    (broadcast S256x128 (FloatOps.ofBits FTy.f32 3205082062#32))) (select (cmpi CmpIPredicate.eq
    (andi (shrsi w (broadcast S256x128 0#32)) (broadcast S256x128 1#32)) (broadcast S256x128
    1#32)) (broadcast S256x128 (FloatOps.ofBits FTy.f32 3208661201#32)) (broadcast S256x128
    (FloatOps.ofBits FTy.f32 3212836864#32)))))) s) h : FVec Ideal S256x128 .bf16) h' : FVec Ideal S1x256x128 .bf16) x
    = lut (w (ix2 (x 1) (x 2))) * s (ix2 (x 1) (x 2)) := by
  unfold lut
  pointwise

/-- The lane a scale is read from, as the program computes it. -/
def laneIdx (l k : Nat) : BitVec 32 :=
  (Scalar.select (IntOp.cmpi CmpIPredicate.slt (IntOp.addi (Scalar.select (IntOp.andi (IntOp.cmpi
    CmpIPredicate.ne (IntOp.subi (BitVec.setWidth 32 (IntOp.cmpi CmpIPredicate.sgt (BitVec.ofNat
    32 l) 0#32)) (BitVec.setWidth 32 (IntOp.cmpi CmpIPredicate.slt (BitVec.ofNat 32 l) 0#32)))
    (Scalar.subi (Scalar.extui (Scalar.cmpi CmpIPredicate.sgt 32#32 0#32)) (Scalar.extui
    (Scalar.cmpi CmpIPredicate.slt 32#32 0#32)))) (IntOp.cmpi CmpIPredicate.ne (IntOp.remsi
    .vector (BitVec.ofNat 32 l) 32#32) 0#32)) (IntOp.subi (IntOp.divsi .vector (BitVec.ofNat 32
    l) 32#32) 1#32) (IntOp.divsi .vector (BitVec.ofNat 32 l) 32#32)) (BitVec.ofNat 32 k)) 0#32)
    (IntOp.addi (IntOp.addi (Scalar.select (IntOp.andi (IntOp.cmpi CmpIPredicate.ne (IntOp.subi
    (BitVec.setWidth 32 (IntOp.cmpi CmpIPredicate.sgt (BitVec.ofNat 32 l) 0#32))
    (BitVec.setWidth 32 (IntOp.cmpi CmpIPredicate.slt (BitVec.ofNat 32 l) 0#32))) (Scalar.subi
    (Scalar.extui (Scalar.cmpi CmpIPredicate.sgt 32#32 0#32)) (Scalar.extui (Scalar.cmpi
    CmpIPredicate.slt 32#32 0#32)))) (IntOp.cmpi CmpIPredicate.ne (IntOp.remsi .vector
    (BitVec.ofNat 32 l) 32#32) 0#32)) (IntOp.subi (IntOp.divsi .vector (BitVec.ofNat 32 l)
    32#32) 1#32) (IntOp.divsi .vector (BitVec.ofNat 32 l) 32#32)) (BitVec.ofNat 32 k)) 128#32)
    (IntOp.addi (Scalar.select (IntOp.andi (IntOp.cmpi CmpIPredicate.ne (IntOp.subi
    (BitVec.setWidth 32 (IntOp.cmpi CmpIPredicate.sgt (BitVec.ofNat 32 l) 0#32))
    (BitVec.setWidth 32 (IntOp.cmpi CmpIPredicate.slt (BitVec.ofNat 32 l) 0#32))) (Scalar.subi
    (Scalar.extui (Scalar.cmpi CmpIPredicate.sgt 32#32 0#32)) (Scalar.extui (Scalar.cmpi
    CmpIPredicate.slt 32#32 0#32)))) (IntOp.cmpi CmpIPredicate.ne (IntOp.remsi .vector
    (BitVec.ofNat 32 l) 32#32) 0#32)) (IntOp.subi (IntOp.divsi .vector (BitVec.ofNat 32 l)
    32#32) 1#32) (IntOp.divsi .vector (BitVec.ofNat 32 l) 32#32)) (BitVec.ofNat 32 k)))

theorem laneIdx_eq : ∀ l : Fin 128, ∀ c : Fin 24,
    (laneIdx l.val (4 * c.val)).toNat % 128 = l.val / 32 + 4 * c.val := by decide +kernel

/-- A scale gathered for its group of 32 lanes. -/
theorem gath_eq (T : FVec Ideal S256x128 .f32) (kb : BitVec 32) (hk : kb.toNat < 96 ∧ kb.toNat % 4 = 0)
    (r : Fin 256) (l : Fin 128) :
    (dynamicGather 1 T (shapeCast S256x128 (shapeCast S256x128x1 (select (cmpi CmpIPredicate.slt (addi (select (andi
    (cmpi CmpIPredicate.ne (subi (extui 32 (cmpi CmpIPredicate.sgt (iota Kind.tc S256x128 32 [1]
    iota_S256x128_d1_w32) (broadcast S256x128 0#32)) natLt_1_32) (extui 32 (cmpi
    CmpIPredicate.slt (iota Kind.tc S256x128 32 [1] iota_S256x128_d1_w32) (broadcast S256x128
    0#32)) natLt_1_32)) (broadcast S256x128 (Scalar.subi (Scalar.extui (Scalar.cmpi
    CmpIPredicate.sgt 32#32 0#32)) (Scalar.extui (Scalar.cmpi CmpIPredicate.slt 32#32 0#32)))))
    (cmpi CmpIPredicate.ne (remsi (iota Kind.tc S256x128 32 [1] iota_S256x128_d1_w32) (broadcast
    S256x128 32#32)) (broadcast S256x128 0#32))) (subi (divsi (iota Kind.tc S256x128 32 [1]
    iota_S256x128_d1_w32) (broadcast S256x128 32#32)) (broadcast S256x128 1#32)) (divsi (iota
    Kind.tc S256x128 32 [1] iota_S256x128_d1_w32) (broadcast S256x128 32#32))) (broadcast
    S256x128 kb)) (broadcast S256x128 0#32)) (addi (addi (select (andi (cmpi CmpIPredicate.ne
    (subi (extui 32 (cmpi CmpIPredicate.sgt (iota Kind.tc S256x128 32 [1] iota_S256x128_d1_w32)
    (broadcast S256x128 0#32)) natLt_1_32) (extui 32 (cmpi CmpIPredicate.slt (iota Kind.tc
    S256x128 32 [1] iota_S256x128_d1_w32) (broadcast S256x128 0#32)) natLt_1_32)) (broadcast
    S256x128 (Scalar.subi (Scalar.extui (Scalar.cmpi CmpIPredicate.sgt 32#32 0#32))
    (Scalar.extui (Scalar.cmpi CmpIPredicate.slt 32#32 0#32))))) (cmpi CmpIPredicate.ne (remsi
    (iota Kind.tc S256x128 32 [1] iota_S256x128_d1_w32) (broadcast S256x128 32#32)) (broadcast
    S256x128 0#32))) (subi (divsi (iota Kind.tc S256x128 32 [1] iota_S256x128_d1_w32) (broadcast
    S256x128 32#32)) (broadcast S256x128 1#32)) (divsi (iota Kind.tc S256x128 32 [1]
    iota_S256x128_d1_w32) (broadcast S256x128 32#32))) (broadcast S256x128 kb)) (broadcast
    S256x128 128#32)) (addi (select (andi (cmpi CmpIPredicate.ne (subi (extui 32 (cmpi
    CmpIPredicate.sgt (iota Kind.tc S256x128 32 [1] iota_S256x128_d1_w32) (broadcast S256x128
    0#32)) natLt_1_32) (extui 32 (cmpi CmpIPredicate.slt (iota Kind.tc S256x128 32 [1]
    iota_S256x128_d1_w32) (broadcast S256x128 0#32)) natLt_1_32)) (broadcast S256x128
    (Scalar.subi (Scalar.extui (Scalar.cmpi CmpIPredicate.sgt 32#32 0#32)) (Scalar.extui
    (Scalar.cmpi CmpIPredicate.slt 32#32 0#32))))) (cmpi CmpIPredicate.ne (remsi (iota Kind.tc
    S256x128 32 [1] iota_S256x128_d1_w32) (broadcast S256x128 32#32)) (broadcast S256x128
    0#32))) (subi (divsi (iota Kind.tc S256x128 32 [1] iota_S256x128_d1_w32) (broadcast S256x128
    32#32)) (broadcast S256x128 1#32)) (divsi (iota Kind.tc S256x128 32 [1]
    iota_S256x128_d1_w32) (broadcast S256x128 32#32))) (broadcast S256x128 kb)))
    shapeCasts_S256x128_S256x128x1) shapeCasts_S256x128x1_S256x128) : FVec Ideal S256x128 .f32) (ix2 r l) = T (ix2 r ⟨l.val / 32 + kb.toNat, by omega⟩) := by
  have h := laneIdx_eq l ⟨kb.toNat / 4, by omega⟩
  have hb : BitVec.ofNat 32 (4 * (kb.toNat / 4)) = kb := by
    apply BitVec.eq_of_toNat_eq
    simp only [BitVec.toNat_ofNat]
    omega
  unfold laneIdx at h
  simp only [hb] at h
  pointwise
  exact congrArg T (congrArg (ix2 r) (Fin.ext (h.trans (by simp only; omega))))

/-- A four-bit field of a packed byte: the low one (0) or the high one. -/
def fld (p : Nat) (w : BitVec 8) : BitVec 32 :=
  if p = 0 then IntOp.andi (BitVec.setWidth 32 w) 15#32 else IntOp.shrsi .vector (BitVec.setWidth 32 w) 4#32

end Cert.KernelIdeal.Value
-- ==== Proof.DecBlockL.lean ====
module

public import proofs.«01_k».proof.Proof.Gen.KernelIdeal.Frame.Region0
public import proofs.«01_k».proof.Proof.Lut

@[expose] public section

set_option maxRecDepth 16384

noncomputable section

open Idealize.ShloMosaic Idealize.ShloMosaic.TcCoe Idealize.SL.Sem

namespace Cert.KernelIdeal.Value

open Cert.KernelIdeal Cert.KernelIdeal.Gen

/-- The decoded block of the left factor: lane `256 c + 128 p + t` holds field `p` of byte `128 c + t`. -/
def decL (x0 : Vec Ideal S1x256x3072 .i8) (x1 : Vec Ideal S1x256x96 .f32) (y : S1x256x6144.Idx) : EReal :=
  lut (fld ((y 2).val / 128 % 2) (x0 (ix3 0 (y 1) ⟨(y 2).val / 256 * 128 + (y 2).val % 128, by idx_bounds_all; omega⟩)))
    * x1 (ix3 0 (y 1) ⟨((y 2).val / 256 * 128 + (y 2).val % 128) / 32, by idx_bounds_all; omega⟩)

theorem decL_of (x0 : Vec Ideal S1x256x3072 .i8) (x1 : Vec Ideal S1x256x96 .f32) (y : S1x256x6144.Idx)
    (r : Fin 256) (a : Fin 3072) (g : Fin 96) (p : Nat) (hr : (y 1).val = r.val)
    (ha : a.val = (y 2).val / 256 * 128 + (y 2).val % 128) (hg : g.val = a.val / 32) (hp : (y 2).val / 128 % 2 = p) :
    lut (fld p (x0 (ix3 0 r a))) * x1 (ix3 0 r g) = decL x0 x1 y := by
  have e1 : r = y 1 := Fin.ext hr.symm
  subst e1 hp
  unfold decL
  congr 2
  · congr 2
    exact congrArg _ (Fin.ext ha)
  · exact congrArg _ (Fin.ext (by rw [hg, ha]))

theorem decL_lo (x0 : Vec Ideal S1x256x3072 .i8) (x1 : Vec Ideal S1x256x96 .f32) (y : S1x256x6144.Idx)
    (r : Fin 256) (a : Fin 3072) (g : Fin 96) (hr : (y 1).val = r.val)
    (ha : a.val = (y 2).val / 256 * 128 + (y 2).val % 128) (hg : g.val = a.val / 32) (hp : (y 2).val / 128 % 2 = 0) :
    lut (IntOp.andi (BitVec.setWidth 32 (x0 (ix3 0 r a))) 15#32) * x1 (ix3 0 r g) = decL x0 x1 y := by
  have h := decL_of x0 x1 y r a g 0 hr ha hg hp
  simpa only [fld, if_true, if_neg one_ne_zero] using h

theorem decL_hi (x0 : Vec Ideal S1x256x3072 .i8) (x1 : Vec Ideal S1x256x96 .f32) (y : S1x256x6144.Idx)
    (r : Fin 256) (a : Fin 3072) (g : Fin 96) (hr : (y 1).val = r.val)
    (ha : a.val = (y 2).val / 256 * 128 + (y 2).val % 128) (hg : g.val = a.val / 32) (hp : (y 2).val / 128 % 2 = 1) :
    lut (IntOp.shrsi .vector (BitVec.setWidth 32 (x0 (ix3 0 r a))) 4#32) * x1 (ix3 0 r g) = decL x0 x1 y := by
  have h := decL_of x0 x1 y r a g 1 hr ha hg hp
  simpa only [fld, if_true, if_neg one_ne_zero] using h

set_option maxHeartbeats 2000000 in
theorem out0_2_eq (x0 : Vec Ideal S1x256x3072 .i8) (x1 : Vec Ideal S1x256x96 .f32) (y : S1x256x6144.Idx) :
    out0_2 (F := Ideal) x0 x1 y = decL x0 x1 y := by
  canon_tiles x h
  case piece47 =>
    open_payloads
    refine (tile_eq _ _ _ _ x).trans ?_
    refine (congrArg (_ * ·) (gath_eq _ _ (by decide) _ _)).trans ?_
    pointwise
    rw [dif_pos (by omega)]
    exact decL_lo x0 x1 y (x 1) ⟨(x 2).val, by omega⟩ ⟨(x 2).val / 32, by omega⟩ h1 (by first | omega | rfl | (simp only; omega)) (by first | omega | rfl | (simp only; omega)) (by omega)
  case piece46 =>
    open_payloads
    refine (tile_eq _ _ _ _ x).trans ?_
    refine (congrArg (_ * ·) (gath_eq _ _ (by decide) _ _)).trans ?_
    pointwise
    rw [dif_pos (by omega)]
    exact decL_hi x0 x1 y (x 1) ⟨(x 2).val, by omega⟩ ⟨(x 2).val / 32, by omega⟩ h1 (by first | omega | rfl | (simp only; omega)) (by first | omega | rfl | (simp only; omega)) (by omega)
  all_goals
    open_payloads
    refine (tile_eq _ _ _ _ x).trans ?_
    refine (congrArg (_ * ·) (gath_eq _ _ (by decide) _ _)).trans ?_
    pointwise
    rw [dif_pos (by omega)]
    first
    | have hp : (y 2).val / 128 % 2 = 0 := by omega
      exact decL_lo x0 x1 y _ _ _ h1 (by first | omega | rfl | (simp only; omega)) (by first | omega | rfl | (simp only; omega)) hp
    | have hp : (y 2).val / 128 % 2 = 1 := by omega
      exact decL_hi x0 x1 y _ _ _ h1 (by first | omega | rfl | (simp only; omega)) (by first | omega | rfl | (simp only; omega)) hp

end Cert.KernelIdeal.Value
-- ==== Proof.DecBlockR.lean ====
module

public import proofs.«01_k».proof.Proof.Gen.KernelIdeal.Frame.Region1
public import proofs.«01_k».proof.Proof.Lut

@[expose] public section

set_option maxRecDepth 16384

noncomputable section

open Idealize.ShloMosaic Idealize.ShloMosaic.TcCoe Idealize.SL.Sem

namespace Cert.KernelIdeal.Value

open Cert.KernelIdeal Cert.KernelIdeal.Gen

/-- The decoded block of the right factor: lane `256 c + 128 p + t` holds field `p` of byte `128 c + t`. -/
def decR (x0 : Vec Ideal S1x256x1152 .i8) (x1 : Vec Ideal S1x256x36 .f32) (y : S1x256x2304.Idx) : EReal :=
  lut (fld ((y 2).val / 128 % 2) (x0 (ix3 0 (y 1) ⟨(y 2).val / 256 * 128 + (y 2).val % 128, by idx_bounds_all; omega⟩)))
    * x1 (ix3 0 (y 1) ⟨((y 2).val / 256 * 128 + (y 2).val % 128) / 32, by idx_bounds_all; omega⟩)

theorem decR_of (x0 : Vec Ideal S1x256x1152 .i8) (x1 : Vec Ideal S1x256x36 .f32) (y : S1x256x2304.Idx)
    (r : Fin 256) (a : Fin 1152) (g : Fin 36) (p : Nat) (hr : (y 1).val = r.val)
    (ha : a.val = (y 2).val / 256 * 128 + (y 2).val % 128) (hg : g.val = a.val / 32) (hp : (y 2).val / 128 % 2 = p) :
    lut (fld p (x0 (ix3 0 r a))) * x1 (ix3 0 r g) = decR x0 x1 y := by
  have e1 : r = y 1 := Fin.ext hr.symm
  subst e1 hp
  unfold decR
  congr 2
  · congr 2
    exact congrArg _ (Fin.ext ha)
  · exact congrArg _ (Fin.ext (by rw [hg, ha]))

theorem decR_lo (x0 : Vec Ideal S1x256x1152 .i8) (x1 : Vec Ideal S1x256x36 .f32) (y : S1x256x2304.Idx)
    (r : Fin 256) (a : Fin 1152) (g : Fin 36) (hr : (y 1).val = r.val)
    (ha : a.val = (y 2).val / 256 * 128 + (y 2).val % 128) (hg : g.val = a.val / 32) (hp : (y 2).val / 128 % 2 = 0) :
    lut (IntOp.andi (BitVec.setWidth 32 (x0 (ix3 0 r a))) 15#32) * x1 (ix3 0 r g) = decR x0 x1 y := by
  have h := decR_of x0 x1 y r a g 0 hr ha hg hp
  simpa only [fld, if_true, if_neg one_ne_zero] using h

theorem decR_hi (x0 : Vec Ideal S1x256x1152 .i8) (x1 : Vec Ideal S1x256x36 .f32) (y : S1x256x2304.Idx)
    (r : Fin 256) (a : Fin 1152) (g : Fin 36) (hr : (y 1).val = r.val)
    (ha : a.val = (y 2).val / 256 * 128 + (y 2).val % 128) (hg : g.val = a.val / 32) (hp : (y 2).val / 128 % 2 = 1) :
    lut (IntOp.shrsi .vector (BitVec.setWidth 32 (x0 (ix3 0 r a))) 4#32) * x1 (ix3 0 r g) = decR x0 x1 y := by
  have h := decR_of x0 x1 y r a g 1 hr ha hg hp
  simpa only [fld, if_true, if_neg one_ne_zero] using h

set_option maxHeartbeats 1000000 in
theorem out1_2_eq (x0 : Vec Ideal S1x256x1152 .i8) (x1 : Vec Ideal S1x256x36 .f32) (y : S1x256x2304.Idx) :
    out1_2 (F := Ideal) x0 x1 y = decR x0 x1 y := by
  canon_tiles x h
  case piece17 =>
    open_payloads
    refine (tile_eq _ _ _ _ x).trans ?_
    refine (congrArg (_ * ·) (gath_eq _ _ (by decide) _ _)).trans ?_
    pointwise
    rw [dif_pos (by omega)]
    exact decR_lo x0 x1 y (x 1) ⟨(x 2).val, by omega⟩ ⟨(x 2).val / 32, by omega⟩ h1 (by first | omega | rfl | (simp only; omega)) (by first | omega | rfl | (simp only; omega)) (by omega)
  case piece16 =>
    open_payloads
    refine (tile_eq _ _ _ _ x).trans ?_
    refine (congrArg (_ * ·) (gath_eq _ _ (by decide) _ _)).trans ?_
    pointwise
    rw [dif_pos (by omega)]
    exact decR_hi x0 x1 y (x 1) ⟨(x 2).val, by omega⟩ ⟨(x 2).val / 32, by omega⟩ h1 (by first | omega | rfl | (simp only; omega)) (by first | omega | rfl | (simp only; omega)) (by omega)
  all_goals
    open_payloads
    refine (tile_eq _ _ _ _ x).trans ?_
    refine (congrArg (_ * ·) (gath_eq _ _ (by decide) _ _)).trans ?_
    pointwise
    rw [dif_pos (by omega)]
    first
    | have hp : (y 2).val / 128 % 2 = 0 := by omega
      exact decR_lo x0 x1 y _ _ _ h1 (by first | omega | rfl | (simp only; omega)) (by first | omega | rfl | (simp only; omega)) hp
    | have hp : (y 2).val / 128 % 2 = 1 := by omega
      exact decR_hi x0 x1 y _ _ _ h1 (by first | omega | rfl | (simp only; omega)) (by first | omega | rfl | (simp only; omega)) hp

end Cert.KernelIdeal.Value
-- ==== Proof.Dec.lean ====
module

public import proofs.«01_k».proof.Proof.DecBlockL
public import proofs.«01_k».proof.Proof.DecBlockR

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The dense right factor of packed codes and scales. -/
def denR (C : Vec Ideal S3x2304x1152 .i8) (S : Vec Ideal S3x2304x36 .f32) : FVec Ideal S3x2304x2304 .bf16 := fun i =>
  lut (fld ((i 2).val / 128 % 2) (C (ix3 (i 0) (i 1) ⟨(i 2).val / 256 * 128 + (i 2).val % 128, by idx_bounds_all; omega⟩)))
    * S (ix3 (i 0) (i 1) ⟨((i 2).val / 256 * 128 + (i 2).val % 128) / 32, by idx_bounds_all; omega⟩)

theorem idx1 : ∀ t : Fin cfg1.N, win1_0.index t = ![(grid1.coords t 0).val, (grid1.coords t 1).val, 0]
    ∧ win1_1.index t = ![(grid1.coords t 0).val, (grid1.coords t 1).val, 0]
    ∧ win1_2.index t = ![(grid1.coords t 0).val, (grid1.coords t 1).val, 0] :=
  (by decide +kernel : ∀ t : Fin grid1.N, _)

theorem dec1 (c : Dev nD) : (dat1 V c).arrAt 2 cfg1.N = denR (V c main_arg2) (V c main_arg3) := by
  refine (dat1 V c).arrAt_eq_of_covers 2 _ (by decide +kernel) fun t _ y => ?_
  blk_simp
  rw [after1_2, out1_2_eq]
  unfold decR denR
  refine congr (congrArg _ (congrArg lut (congr (congrArg fld ?_) ?_))) ?_
  · blk_simp [idx1 t]
  · blk_point [iblk1, idx1 t]
  · blk_point [iblk1, idx1 t]

/-- The dense left factor of packed codes and scales. -/
def denL (C : Vec Ideal S3x6144x3072 .i8) (S : Vec Ideal S3x6144x96 .f32) : FVec Ideal S3x6144x6144 .bf16 := fun i =>
  lut (fld ((i 2).val / 128 % 2) (C (ix3 (i 0) (i 1) ⟨(i 2).val / 256 * 128 + (i 2).val % 128, by idx_bounds_all; omega⟩)))
    * S (ix3 (i 0) (i 1) ⟨((i 2).val / 256 * 128 + (i 2).val % 128) / 32, by idx_bounds_all; omega⟩)

theorem idx0 : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] :=
  (by decide +kernel : ∀ t : Fin grid0.N, _)

theorem dec0 (c : Dev nD) : (dat0 V c).arrAt 2 cfg0.N = denL (V c main_arg0) (V c main_arg1) := by
  refine (dat0 V c).arrAt_eq_of_covers 2 _ (by decide +kernel) fun t _ y => ?_
  blk_simp
  rw [after0_2, out0_2_eq]
  unfold decL denL
  refine congr (congrArg _ (congrArg lut (congr (congrArg fld ?_) ?_))) ?_
  · blk_simp [idx0 t]
  · blk_point [iblk0, idx0 t]
  · blk_point [iblk0, idx0 t]

end Cert.KernelIdeal.Value
-- ==== Proof.RefL.lean ====
module

public import proofs.«01_k».proof.Proof.Gen.ReferenceIdeal.Read
public import proofs.«01_k».proof.Proof.ScL
public import proofs.«01_k».proof.Proof.Gram
public import proofs.«01_k».proof.Proof.Dec

@[expose] public section

set_option maxRecDepth 16384

noncomputable section

open Idealize.ShloMosaic Idealize.ShloMosaic.TcCoe Idealize.SL.Sem

namespace Cert.KernelIdeal.Value

open Cert.KernelIdeal Cert.ReferenceIdeal.Read

variable (x0 : Vec Ideal S3x6144x3072 .i8) (x1 : Vec Ideal S3x6144x96 .f32)

theorem ix3_ext {n0 n1 n2 : Nat} {x y : (⟨3, ![n0, n1, n2]⟩ : Shape).Idx} (h0 : (x 0).val = (y 0).val) (h1 : (x 1).val = (y 1).val)
    (h2 : (x 2).val = (y 2).val) : x = y := by
  funext a; match a with | ⟨0, _⟩ => exact Fin.ext h0 | ⟨1, _⟩ => exact Fin.ext h1 | ⟨2, _⟩ => exact Fin.ext h2

/-- A sum over dense columns is the sum over the even and over the odd ones. -/
theorem sum_pair (n m : Nat) (hn : n % 128 = 0) (hm : m = 2 * n) (f : Fin m → EReal) :
    ∑ k, f k = (∑ k : Fin n, f ⟨k.val / 128 * 256 + k.val % 128, by omega⟩) + ∑ k : Fin n, f ⟨k.val / 128 * 256 + 128 + k.val % 128, by omega⟩ := by
  let e : Fin n ⊕ Fin n ≃ Fin m :=
    { toFun := Sum.elim (fun k => ⟨k.val / 128 * 256 + k.val % 128, by omega⟩) (fun k => ⟨k.val / 128 * 256 + 128 + k.val % 128, by omega⟩)
      invFun := fun k => if k.val / 128 % 2 = 0 then Sum.inl ⟨k.val / 256 * 128 + k.val % 128, by omega⟩ else Sum.inr ⟨k.val / 256 * 128 + k.val % 128, by omega⟩
      left_inv := by
        intro k
        rcases k with k | k
        · refine (if_pos (show (k.val / 128 * 256 + k.val % 128) / 128 % 2 = 0 by omega)).trans ?_
          exact congrArg Sum.inl (Fin.ext (show (k.val / 128 * 256 + k.val % 128) / 256 * 128 + (k.val / 128 * 256 + k.val % 128) % 128 = k.val by omega))
        · refine (if_neg (show ¬(k.val / 128 * 256 + 128 + k.val % 128) / 128 % 2 = 0 by omega)).trans ?_
          exact congrArg Sum.inr (Fin.ext (show (k.val / 128 * 256 + 128 + k.val % 128) / 256 * 128 + (k.val / 128 * 256 + 128 + k.val % 128) % 128 = k.val by omega))
      right_inv := by
        intro k
        by_cases h : k.val / 128 % 2 = 0
        · simp only [if_pos h, Sum.elim_inl]
          exact Fin.ext (by simp only; omega)
        · simp only [if_neg h, Sum.elim_inr]
          exact Fin.ext (by simp only; omega) }
  rw [← e.sum_comp f, Fintype.sum_sum_type]
  rfl

theorem bot_word : Ideal.ofBits .f32 0xFF800000#32 = (⊥ : EReal) := by
  simp [Ideal.ofBits, Ideal.ieee]

theorem redL (E : FVec Ideal Cert.ReferenceIdeal.S3x6144x96x32 .f32) (b : FVec Ideal Cert.ReferenceIdeal.S_ .f32) (hb : ∀ j, b j = (⊥ : EReal))
    (hR : Cert.ReferenceIdeal.S3x6144x96x32.ReducesTo [3] Cert.ReferenceIdeal.S3x6144x96) (h0) (i : Cert.ReferenceIdeal.S3x6144x96.Idx) :
    Host.reduce FloatOps.maximumf E b hR h0 i = Finset.univ.sup fun k : Fin 32 => E (ix4 (i 0) (i 1) (i 2) k) := by
  rw [Host.reduce_eq_fold_single FloatOps.maximumf E _ hR (by decide) h0, hb]
  refine (Finset.fold_congr (g := fun k : Fin 32 => E (ix4 (i 0) (i 1) (i 2) k)) fun k _ => congrArg E ?_).trans rfl
  funext a
  match a with | ⟨0, _⟩ => rfl | ⟨1, _⟩ => rfl | ⟨2, _⟩ => rfl | ⟨3, _⟩ => rfl

theorem shr_host (w k : BitVec 32) (hk : k.toNat < 32) : IntOp.shrsi .host w k = IntOp.shrsi .vector w k := by
  unfold IntOp.shrsi; rw [if_pos hk, if_pos hk]

theorem shl_host (w k : BitVec 32) (hk : k.toNat < 32) : IntOp.shli .host w k = IntOp.shli .vector w k := by
  unfold IntOp.shli; rw [if_pos hk, if_pos hk]

/-- The code table with the shifts of the reference. -/
theorem lut_host (w : BitVec 32) (s0 s1 s2 s3 : BitVec 32) (h0 : s0 = IntOp.shrsi .host w 0#32) (h1 : s1 = IntOp.shrsi .host w 1#32)
    (h2 : s2 = IntOp.shrsi .host w 2#32) (h3 : s3 = IntOp.shrsi .host w 3#32) :
    IntOp.shrsi .vector w 0#32 = s0 ∧ IntOp.shrsi .vector w 1#32 = s1 ∧ IntOp.shrsi .vector w 2#32 = s2 ∧ IntOp.shrsi .vector w 3#32 = s3 :=
  ⟨h0 ▸ (shr_host w _ (by decide)).symm, h1 ▸ (shr_host w _ (by decide)).symm, h2 ▸ (shr_host w _ (by decide)).symm, h3 ▸ (shr_host w _ (by decide)).symm⟩

theorem lookL_e (i : S3x6144x3072.Idx) : val_main_v41 (F := Ideal) x0 i = lut (IntOp.andi ((x0 i).setWidth 32) 15#32) := by
  obtain ⟨h0, h1, h2, h3⟩ := lut_host (IntOp.andi ((x0 i).setWidth 32) 15#32) _ _ _ _ rfl rfl rfl rfl
  unfold lut
  rw [h0, h1, h2, h3]
  rfl

theorem lookL_o (i : S3x6144x3072.Idx) : val_main_v88 (F := Ideal) x0 i = lut (IntOp.shrsi .vector ((x0 i).setWidth 32) 4#32) := by
  obtain ⟨h0, h1, h2, h3⟩ := lut_host (IntOp.shrsi .vector ((x0 i).setWidth 32) 4#32) _ _ _ _ rfl rfl rfl rfl
  unfold lut
  rw [h0, h1, h2, h3, ← shr_host _ 4#32 (by decide)]
  rfl

theorem nearL_e (i : Cert.ReferenceIdeal.S3x6144x96x32.Idx) : val_main_v305 (F := Ideal) x0 x1 i = near (val_main_v244 (F := Ideal) x0 x1 i) := by
  rw [val_main_v305_apply, val_main_v304_apply, val_main_v303_apply, val_main_v302_apply, val_main_cst_141_apply, Ideal.ofBits_def]
  rw [val_main_v301_apply, val_main_v300_apply, val_main_v299_apply, val_main_v298_apply, val_main_cst_140_apply, Ideal.ofBits_def]
  rw [val_main_v297_apply, val_main_v296_apply, val_main_v295_apply, val_main_v294_apply, val_main_cst_139_apply, Ideal.ofBits_def]
  rw [val_main_v293_apply, val_main_v292_apply, val_main_v291_apply, val_main_v290_apply, val_main_cst_138_apply, Ideal.ofBits_def]
  rw [val_main_v289_apply, val_main_v288_apply, val_main_v287_apply, val_main_v286_apply, val_main_cst_137_apply, Ideal.ofBits_def]
  rw [val_main_v285_apply, val_main_v284_apply, val_main_v283_apply, val_main_v282_apply, val_main_cst_136_apply, Ideal.ofBits_def]
  rw [val_main_v281_apply, val_main_v280_apply, val_main_v279_apply, val_main_v278_apply, val_main_cst_135_apply, Ideal.ofBits_def]
  rw [val_main_v277_apply, val_main_v276_apply, val_main_v275_apply, val_main_v274_apply, val_main_cst_134_apply, Ideal.ofBits_def]
  rw [val_main_v273_apply, val_main_v272_apply, val_main_v271_apply, val_main_v270_apply, val_main_cst_133_apply, Ideal.ofBits_def]
  rw [val_main_v269_apply, val_main_v268_apply, val_main_v267_apply, val_main_v266_apply, val_main_cst_132_apply, Ideal.ofBits_def]
  rw [val_main_v265_apply, val_main_v264_apply, val_main_v263_apply, val_main_v262_apply, val_main_cst_131_apply, Ideal.ofBits_def]
  rw [val_main_v261_apply, val_main_v260_apply, val_main_v259_apply, val_main_v258_apply, val_main_cst_130_apply, Ideal.ofBits_def]
  rw [val_main_v257_apply, val_main_v256_apply, val_main_v255_apply, val_main_v254_apply, val_main_cst_129_apply, Ideal.ofBits_def]
  rw [val_main_v253_apply, val_main_v252_apply, val_main_v251_apply, val_main_v250_apply, val_main_cst_128_apply, Ideal.ofBits_def]
  rw [val_main_v249_apply, val_main_v248_apply, val_main_v247_apply, val_main_v246_apply, val_main_cst_127_apply, Ideal.ofBits_def]
  rw [val_main_v245_apply, val_main_c_126_apply]
  rfl

theorem nearL_o (i : Cert.ReferenceIdeal.S3x6144x96x32.Idx) : val_main_v369 (F := Ideal) x0 x1 i = near (val_main_v308 (F := Ideal) x0 x1 i) := by
  rw [val_main_v369_apply, val_main_v368_apply, val_main_v367_apply, val_main_v366_apply, val_main_cst_157_apply, Ideal.ofBits_def]
  rw [val_main_v365_apply, val_main_v364_apply, val_main_v363_apply, val_main_v362_apply, val_main_cst_156_apply, Ideal.ofBits_def]
  rw [val_main_v361_apply, val_main_v360_apply, val_main_v359_apply, val_main_v358_apply, val_main_cst_155_apply, Ideal.ofBits_def]
  rw [val_main_v357_apply, val_main_v356_apply, val_main_v355_apply, val_main_v354_apply, val_main_cst_154_apply, Ideal.ofBits_def]
  rw [val_main_v353_apply, val_main_v352_apply, val_main_v351_apply, val_main_v350_apply, val_main_cst_153_apply, Ideal.ofBits_def]
  rw [val_main_v349_apply, val_main_v348_apply, val_main_v347_apply, val_main_v346_apply, val_main_cst_152_apply, Ideal.ofBits_def]
  rw [val_main_v345_apply, val_main_v344_apply, val_main_v343_apply, val_main_v342_apply, val_main_cst_151_apply, Ideal.ofBits_def]
  rw [val_main_v341_apply, val_main_v340_apply, val_main_v339_apply, val_main_v338_apply, val_main_cst_150_apply, Ideal.ofBits_def]
  rw [val_main_v337_apply, val_main_v336_apply, val_main_v335_apply, val_main_v334_apply, val_main_cst_149_apply, Ideal.ofBits_def]
  rw [val_main_v333_apply, val_main_v332_apply, val_main_v331_apply, val_main_v330_apply, val_main_cst_148_apply, Ideal.ofBits_def]
  rw [val_main_v329_apply, val_main_v328_apply, val_main_v327_apply, val_main_v326_apply, val_main_cst_147_apply, Ideal.ofBits_def]
  rw [val_main_v325_apply, val_main_v324_apply, val_main_v323_apply, val_main_v322_apply, val_main_cst_146_apply, Ideal.ofBits_def]
  rw [val_main_v321_apply, val_main_v320_apply, val_main_v319_apply, val_main_v318_apply, val_main_cst_145_apply, Ideal.ofBits_def]
  rw [val_main_v317_apply, val_main_v316_apply, val_main_v315_apply, val_main_v314_apply, val_main_cst_144_apply, Ideal.ofBits_def]
  rw [val_main_v313_apply, val_main_v312_apply, val_main_v311_apply, val_main_v310_apply, val_main_cst_143_apply, Ideal.ofBits_def]
  rw [val_main_v309_apply, val_main_c_142_apply]
  rfl

theorem decL_e : val_main_v47 (F := Ideal) x0 x1 = evL (denL x0 x1) := by
  funext i
  have hi : (i 2).val < 3072 := (i 2).isLt
  have hi1 : (i 1).val < 6144 := (i 1).isLt
  have hi0 : (i 0).val < 3 := (i 0).isLt
  rw [val_main_v47_apply, val_main_v46_apply, val_main_v45_apply, val_main_v42_apply, val_main_v44_apply, val_main_v43_apply, lookL_e]
  show lut _ * _ = lut _ * _
  refine congr (congrArg _ (congrArg lut ?_)) ?_
  · show _ = fld (((i 2).val / 128 * 256 + (i 2).val % 128) / 128 % 2) _
    rw [show ((i 2).val / 128 * 256 + (i 2).val % 128) / 128 % 2 = 0 by omega]
    unfold fld
    rw [if_pos rfl]
    refine congrArg (fun w => IntOp.andi (BitVec.setWidth 32 w) 15#32) (congrArg x0 ?_)
    refine ix3_ext ?_ ?_ ?_
    · show _ = (i 0).val; dsimp only; omega
    · show _ = (i 1).val; dsimp only; omega
    · show _ = ((i 2).val / 128 * 256 + (i 2).val % 128) / 256 * 128 + ((i 2).val / 128 * 256 + (i 2).val % 128) % 128; dsimp only; omega
  · refine congrArg x1 ?_
    refine ix3_ext ?_ ?_ ?_
    · show _ = (i 0).val; dsimp only; omega
    · show _ = (i 1).val; dsimp only; omega
    · show _ = (((i 2).val / 128 * 256 + (i 2).val % 128) / 256 * 128 + ((i 2).val / 128 * 256 + (i 2).val % 128) % 128) / 32; dsimp only; omega

theorem decL_o : val_main_v94 (F := Ideal) x0 x1 = odL (denL x0 x1) := by
  funext i
  have hi : (i 2).val < 3072 := (i 2).isLt
  have hi1 : (i 1).val < 6144 := (i 1).isLt
  have hi0 : (i 0).val < 3 := (i 0).isLt
  rw [val_main_v94_apply, val_main_v93_apply, val_main_v92_apply, val_main_v89_apply, val_main_v91_apply, val_main_v90_apply, lookL_o]
  show lut _ * _ = lut _ * _
  refine congr (congrArg _ (congrArg lut ?_)) ?_
  · show _ = fld (((i 2).val / 128 * 256 + 128 + (i 2).val % 128) / 128 % 2) _
    rw [show ((i 2).val / 128 * 256 + 128 + (i 2).val % 128) / 128 % 2 = 1 by omega]
    unfold fld
    rw [if_neg (by decide)]
    refine congrArg (fun w => IntOp.shrsi .vector (BitVec.setWidth 32 w) 4#32) (congrArg x0 ?_)
    refine ix3_ext ?_ ?_ ?_
    · show _ = (i 0).val; dsimp only; omega
    · show _ = (i 1).val; dsimp only; omega
    · show _ = ((i 2).val / 128 * 256 + 128 + (i 2).val % 128) / 256 * 128 + ((i 2).val / 128 * 256 + 128 + (i 2).val % 128) % 128; dsimp only; omega
  · refine congrArg x1 ?_
    refine ix3_ext ?_ ?_ ?_
    · show _ = (i 0).val; dsimp only; omega
    · show _ = (i 1).val; dsimp only; omega
    · show _ = (((i 2).val / 128 * 256 + 128 + (i 2).val % 128) / 256 * 128 + ((i 2).val / 128 * 256 + 128 + (i 2).val % 128) % 128) / 32; dsimp only; omega

theorem prodL : val_main_v193 (F := Ideal) x0 x1 = gramL (denL x0 x1) := by
  funext i
  rw [val_main_v193_apply, val_main_v192_apply, val_main_v190_apply, val_main_v191_apply, decL_e, decL_o, Ideal.truncf_def, Ideal.addf_def]
  unfold gramL
  rw [sum_pair 3072 6144 (by decide) (by decide)]
  refine congr (congrArg _ (Finset.sum_congr rfl fun k _ => ?_)) (Finset.sum_congr rfl fun k _ => ?_) <;> rfl

theorem newL_e : val_main_v201 (F := Ideal) x0 x1 = evL (newL (gramL (denL x0 x1)) (denL x0 x1)) := by
  funext i
  rw [val_main_v201_apply, val_main_v200_apply, val_main_v196_apply, val_main_v195_apply, val_main_cst_114_apply, val_main_v194_apply, val_main_v199_apply,
    val_main_v198_apply, val_main_cst_115_apply, val_main_v197_apply, prodL, decL_e, Ideal.truncf_def, Ideal.subf_def, Ideal.mulf_def, Ideal.mulf_def,
    Ideal.extf_def, Ideal.ofBits_def, Ideal.ofBits_def]
  unfold evL newL
  refine congr (congrArg _ rfl) (congrArg _ (Finset.sum_congr rfl fun k _ => congr (congrArg _ (congrArg _ ?_)) rfl))
  exact ix3_ext rfl rfl rfl

theorem newL_o : val_main_v209 (F := Ideal) x0 x1 = odL (newL (gramL (denL x0 x1)) (denL x0 x1)) := by
  funext i
  rw [val_main_v209_apply, val_main_v208_apply, val_main_v204_apply, val_main_v203_apply, val_main_cst_116_apply, val_main_v202_apply, val_main_v207_apply,
    val_main_v206_apply, val_main_cst_117_apply, val_main_v205_apply, prodL, decL_o, Ideal.truncf_def, Ideal.subf_def, Ideal.mulf_def, Ideal.mulf_def,
    Ideal.extf_def, Ideal.ofBits_def, Ideal.ofBits_def]
  unfold odL newL
  refine congr (congrArg _ rfl) (congrArg _ (Finset.sum_congr rfl fun k _ => congr (congrArg _ (congrArg _ ?_)) rfl))
  exact ix3_ext rfl rfl rfl

theorem supL_e (i : Cert.ReferenceIdeal.S3x6144x96.Idx) : val_main_v235 (F := Ideal) x0 x1 i
    = Finset.univ.sup fun k : Fin 32 => (fun v : EReal => max v (-v)) (val_main_v201 (F := Ideal) x0 x1 (ix3 (i 0) (i 1) ⟨32 * (i 2).val + k.val, by idx_bounds_all; omega⟩)) := by
  have hi : (i 2).val < 96 := (i 2).isLt
  have hi1 : (i 1).val < 6144 := (i 1).isLt
  have hi0 : (i 0).val < 3 := (i 0).isLt
  unfold val_main_v235
  refine (redL _ _ (fun j => bot_word) _ _ i).trans (Finset.sup_congr rfl fun k _ => ?_)
  rw [val_main_v234_apply, val_main_v231_apply, val_main_v230_apply, Ideal.extf_def, Ideal.hostAbsf_def]
  refine congrArg (fun w => (fun v : EReal => max v (-v)) (val_main_v201 (F := Ideal) x0 x1 w)) (ix3_ext ?_ ?_ ?_)
  · show ((((i 0).val * 6144 + (i 1).val) * 96 + (i 2).val) * 32 + k.val) / 18874368 = (i 0).val; omega
  · show ((((i 0).val * 6144 + (i 1).val) * 96 + (i 2).val) * 32 + k.val) / 3072 % 6144 = (i 1).val; omega
  · show ((((i 0).val * 6144 + (i 1).val) * 96 + (i 2).val) * 32 + k.val) % 3072 = 32 * (i 2).val + k.val; omega

theorem supL_o (i : Cert.ReferenceIdeal.S3x6144x96.Idx) : val_main_v237 (F := Ideal) x0 x1 i
    = Finset.univ.sup fun k : Fin 32 => (fun v : EReal => max v (-v)) (val_main_v209 (F := Ideal) x0 x1 (ix3 (i 0) (i 1) ⟨32 * (i 2).val + k.val, by idx_bounds_all; omega⟩)) := by
  have hi : (i 2).val < 96 := (i 2).isLt
  have hi1 : (i 1).val < 6144 := (i 1).isLt
  have hi0 : (i 0).val < 3 := (i 0).isLt
  unfold val_main_v237
  refine (redL _ _ (fun j => bot_word) _ _ i).trans (Finset.sup_congr rfl fun k _ => ?_)
  rw [val_main_v236_apply, val_main_v233_apply, val_main_v232_apply, Ideal.extf_def, Ideal.hostAbsf_def]
  refine congrArg (fun w => (fun v : EReal => max v (-v)) (val_main_v209 (F := Ideal) x0 x1 w)) (ix3_ext ?_ ?_ ?_)
  · show ((((i 0).val * 6144 + (i 1).val) * 96 + (i 2).val) * 32 + k.val) / 18874368 = (i 0).val; omega
  · show ((((i 0).val * 6144 + (i 1).val) * 96 + (i 2).val) * 32 + k.val) / 3072 % 6144 = (i 1).val; omega
  · show ((((i 0).val * 6144 + (i 1).val) * 96 + (i 2).val) * 32 + k.val) % 3072 = 32 * (i 2).val + k.val; omega

theorem scaleL : val_main_v241 (F := Ideal) x0 x1 = scL (val_main_v201 (F := Ideal) x0 x1) (val_main_v209 (F := Ideal) x0 x1) := by
  funext i
  rw [val_main_v241_apply, val_main_v240_apply, val_main_v239_apply, val_main_cst_124_apply, val_main_call60_v1_apply, val_main_call60_v0_apply,
    val_main_cst_125_apply, val_main_v238_apply, supL_e, supL_o, Ideal.maximumf_def, Ideal.ofBits_def, Ideal.ofBits_def]
  show fixz _ = fixz _
  exact congrArg fixz Finset.sup_sup.symm

theorem codesL : val_main_v374 (F := Ideal) x0 x1 = cdL (val_main_v201 (F := Ideal) x0 x1) (val_main_v209 (F := Ideal) x0 x1) := by
  funext i
  have hi : (i 2).val < 3072 := (i 2).isLt
  have hi1 : (i 1).val < 6144 := (i 1).isLt
  have hi0 : (i 0).val < 3 := (i 0).isLt
  rw [val_main_v374_apply, val_main_v373_apply, val_main_v372_apply, val_main_v371_apply, val_main_v370_apply, val_main_c_158_apply, nearL_e, nearL_o,
    val_main_v244_apply, val_main_v308_apply, val_main_v243_apply, val_main_v242_apply, val_main_v307_apply, val_main_v306_apply, val_main_v231_apply,
    val_main_v233_apply, val_main_v230_apply, val_main_v232_apply, scaleL, Ideal.hostDivf_def, Ideal.hostDivf_def, Ideal.extf_def, Ideal.extf_def,
    shl_host _ _ (by decide)]
  have h3 : ∀ w : S3x6144x3072.Idx, (w 0).val = (i 0).val → (w 1).val = (i 1).val → (w 2).val = (i 2).val → w = i := fun w a b c => ix3_ext a b c
  have hs : ∀ w : S3x6144x96.Idx, (w 0).val = (i 0).val → (w 1).val = (i 1).val → (w 2).val = (i 2).val / 32 →
      scL (val_main_v201 (F := Ideal) x0 x1) (val_main_v209 (F := Ideal) x0 x1) w = _ := fun w a b c => congrArg _ (show w = ix3 (i 0) (i 1) ⟨(i 2).val / 32, by omega⟩ from ix3_ext a b c)
  refine codeOf_congr (congrArg _ (h3 _ ?_ ?_ ?_)) (congrArg _ (h3 _ ?_ ?_ ?_)) (hs _ ?_ ?_ ?_)
  all_goals (dsimp only; omega)

end Cert.KernelIdeal.Value
-- ==== Proof.ScR.lean ====
module

public import proofs.«01_k».proof.Proof.BjR

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The lanes' own numbers. -/
abbrev lanR : IVec S256x128 32 := iota Kind.tc S256x128 32 [1] iota_S256x128_d1_w32

theorem lanR_at (r : Fin 256) (l : Fin 128) : lanR (ix2 r l) = BitVec.ofNat 32 l.val := by pointwise

/-- The scales of the chunk at lane `o` of a step's tile. -/
def mR (v : FVec Ideal S256x768 .bf16) (o : Nat) (h : S256x768.Slices ![0, o] S256x128) (p : Nat) (hp : S256x768.Slices ![0, p] S256x128) : FVec Ideal S256x128 .f32 :=
  scV rotates_S256x128_d1 (extf .f32 (extractStridedSlice S256x128 ![0, o] v h) bitsLt_bf16_f32)
    (extf .f32 (extractStridedSlice S256x128 ![0, p] v hp) bitsLt_bf16_f32)

theorem mR_at (v : FVec Ideal S256x768 .bf16) (o : Nat) (h : S256x768.Slices ![0, o] S256x128) (hp : S256x768.Slices ![0, o + 128] S256x128)
    (ho : o ≤ 512) (r : Fin 256) (l : Fin 128) (g : Fin 4) (hl : l.val = 32 * g.val + 31) :
    mR v o h (o + 128) hp (ix2 r l) = grpScale (fun k => v (ix2 r ⟨o + (32 * g.val + k.val), by omega⟩)) (fun k => v (ix2 r ⟨o + 128 + (32 * g.val + k.val), by omega⟩)) := by
  refine (scV_at _ _ _ r l g hl).trans ?_
  pointwise

theorem first3 : ∀ j : Fin 3, ∀ q : Fin 3, Scalar.muli 4#32 (Scalar.addi (Scalar.muli (BitVec.ofNat 32 j.val) 3#32) (BitVec.ofNat 32 q.val))
    = BitVec.ofNat 32 (4 * (3 * j.val + q.val)) := by decide +kernel

/-- The scale tile after a step, from the one before it. -/
def stepR (v : FVec Ideal S256x768 .bf16) (j : BitVec 32) (prev : FVec Ideal S1x256x128 .f32) : FVec Ideal S1x256x128 .f32 :=
  shapeCast S1x256x128 (putV shapeCasts_S256x128_S256x128x1 shapeCasts_S256x128x1_S256x128 lanR (Scalar.muli 4#32 (Scalar.addi (Scalar.muli j 3#32) 2#32))
      (mR v 512 slices_S256x768_o0_512_S256x128 640 slices_S256x768_o0_640_S256x128)
    (putV shapeCasts_S256x128_S256x128x1 shapeCasts_S256x128x1_S256x128 lanR (Scalar.muli 4#32 (Scalar.addi (Scalar.muli j 3#32) 1#32))
      (mR v 256 slices_S256x768_o0_256_S256x128 384 slices_S256x768_o0_384_S256x128)
    (putV shapeCasts_S256x128_S256x128x1 shapeCasts_S256x128x1_S256x128 lanR (Scalar.muli 4#32 (Scalar.addi (Scalar.muli j 3#32) 0#32))
      (mR v 0 slices_S256x768_o0_0_S256x128 128 slices_S256x768_o0_128_S256x128)
    (shapeCast S256x128 prev shapeCasts_S1x256x128_S256x128)))) shapeCasts_S256x128_S1x256x128

theorem castR (w : FVec Ideal S256x128 .f32) (y : S1x256x128.Idx) : shapeCast S1x256x128 w shapeCasts_S256x128_S1x256x128 y = w (ix2 (y 1) (y 2)) := by
  pointwise

/-- A step keeps the lanes of the steps before it. -/
theorem stepR_keep (v : FVec Ideal S256x768 .bf16) (j : Fin 3) (prev : FVec Ideal S1x256x128 .f32) (y : S1x256x128.Idx)
    (hl : (y 2).val < 12 * j.val) : stepR v (BitVec.ofNat 32 j.val) prev y = prev (ix3 0 (y 1) (y 2)) := by
  have hj := j.isLt
  have hy : (y 2).val < 128 := (y 2).isLt
  refine (castR _ y).trans ?_
  refine (putV_out _ _ _ lanR_at _ (3 * j.val + 2) (by omega) (first3 j 2) _ _ (y 1) (y 2) (by omega)).trans ?_
  refine (putV_out _ _ _ lanR_at _ (3 * j.val + 1) (by omega) (first3 j 1) _ _ (y 1) (y 2) (by omega)).trans ?_
  refine (putV_out _ _ _ lanR_at _ (3 * j.val + 0) (by omega) (first3 j 0) _ _ (y 1) (y 2) (by omega)).trans ?_
  pointwise
  have h0 : (y 0).val < 1 := (y 0).isLt
  have e : y 0 = (0 : Fin 1) := Fin.ext (show (y 0).val = 0 by omega)
  exact congrArg prev ((eq_ix3 y).trans (congrArg (fun z : Fin 1 => ix3 z (y 1) (y 2)) e))

/-- A step writes its own lanes. -/
theorem stepR_own (v : FVec Ideal S256x768 .bf16) (j : Fin 3) (prev : FVec Ideal S1x256x128 .f32) (y : S1x256x128.Idx)
    (hl : 12 * j.val ≤ (y 2).val) (hu : (y 2).val < 12 * j.val + 12) :
    stepR v (BitVec.ofNat 32 j.val) prev y
    = grpScale (fun k => v (ix2 (y 1) ⟨((y 2).val / 4 - 3 * j.val) * 256 + (32 * ((y 2).val % 4) + k.val), by omega⟩))
      (fun k => v (ix2 (y 1) ⟨((y 2).val / 4 - 3 * j.val) * 256 + 128 + (32 * ((y 2).val % 4) + k.val), by omega⟩)) := by
  have hj := j.isLt
  have hy : (y 2).val < 128 := (y 2).isLt
  refine (castR _ y).trans ?_
  have fin : ∀ (q : Nat) (hq : q < 3) (h : S256x768.Slices ![0, 256 * q] S256x128) (hp : S256x768.Slices ![0, 256 * q + 128] S256x128)
      (hin : 4 * (3 * j.val + q) ≤ (y 2).val ∧ (y 2).val < 4 * (3 * j.val + q) + 4),
      mR v (256 * q) h (256 * q + 128) hp (ix2 (y 1) ⟨32 * ((y 2).val - 4 * (3 * j.val + q)) + 31, by omega⟩)
      = grpScale (fun k => v (ix2 (y 1) ⟨((y 2).val / 4 - 3 * j.val) * 256 + (32 * ((y 2).val % 4) + k.val), by omega⟩))
        (fun k => v (ix2 (y 1) ⟨((y 2).val / 4 - 3 * j.val) * 256 + 128 + (32 * ((y 2).val % 4) + k.val), by omega⟩)) := by
    intro q hq h hp hin
    refine (mR_at v (256 * q) h hp (by omega) (y 1) _ ⟨(y 2).val - 4 * (3 * j.val + q), by omega⟩ rfl).trans ?_
    refine grpScale_congr (fun k => congrArg v (congrArg (ix2 (y 1)) (Fin.ext ?_))) (fun k => congrArg v (congrArg (ix2 (y 1)) (Fin.ext ?_)))
    · simp only; omega
    · simp only; omega
  by_cases h2 : 4 * (3 * j.val + 2) ≤ (y 2).val
  · exact (putV_in _ _ _ lanR_at _ (3 * j.val + 2) (by omega) (first3 j 2) _ _ (y 1) (y 2) (by omega)).trans (fin 2 (by omega) _ _ (by omega))
  refine (putV_out _ _ _ lanR_at _ (3 * j.val + 2) (by omega) (first3 j 2) _ _ (y 1) (y 2) (by omega)).trans ?_
  by_cases h1 : 4 * (3 * j.val + 1) ≤ (y 2).val
  · exact (putV_in _ _ _ lanR_at _ (3 * j.val + 1) (by omega) (first3 j 1) _ _ (y 1) (y 2) (by omega)).trans (fin 1 (by omega) _ _ (by omega))
  refine (putV_out _ _ _ lanR_at _ (3 * j.val + 1) (by omega) (first3 j 1) _ _ (y 1) (y 2) (by omega)).trans ?_
  exact (putV_in _ _ _ lanR_at _ (3 * j.val + 0) (by omega) (first3 j 0) _ _ (y 1) (y 2) (by omega)).trans (fin 0 (by omega) _ _ (by omega))

theorem coords3 : ∀ t : Fin cfg3.N, (grid3.coords t 2).val = t.val % 3 ∧ (grid3.coords t 1).val = t.val / 3 % 9 ∧ (grid3.coords t 0).val = t.val / 27 :=
  (by decide +kernel : ∀ t : Fin grid3.N, _)

theorem outs3_A (c : Dev nD) (t : Fin cfg3.N) (h : t.val % 3 = 0) : ∃ prev : FVec Ideal S1x256x128 .f32, ∀ y,
    (outsAt3 V c t.val t.isLt).2.2.2 y = stepR (k3_pay2 (iblk3 V c 0 t) (iblk3 V c 1 t) (iblk3 V c 2 t)) (BitVec.ofNat 32 (grid3.coords t 2).val) prev y := by
  refine ⟨k3_pay3, fun y => ?_⟩
  rw [outsAt3_A V c t h]
  dsimp only
  frame_out
  rfl

theorem outs3_B (c : Dev nD) (t : Fin cfg3.N) (h : ¬ t.val % 3 = 0) (y) :
    (outsAt3 V c t.val t.isLt).2.2.2 y = stepR (k3_pay2 (iblk3 V c 0 t) (iblk3 V c 1 t) (iblk3 V c 2 t)) (BitVec.ofNat 32 (grid3.coords t 2).val)
      (outsAt3 V c (t.val - 1) (Nat.lt_of_le_of_lt (Nat.sub_le _ _) t.isLt)).2.2.2 y := by
  rw [outsAt3_B V c t h]
  dsimp only
  frame_out
  rfl

/-- A step's own lanes hold the scales of the array. -/
theorem own3 (c : Dev nD) (t : Fin cfg3.N) (prev : FVec Ideal S1x256x128 .f32) (y : S1x256x128.Idx) (a : S3x2304x36.Idx)
    (h0 : (a 0).val = (grid3.coords t 0).val) (h1 : (a 1).val = (grid3.coords t 1).val * 256 + (y 1).val) (h2 : (a 2).val = (y 2).val)
    (hl : 12 * (grid3.coords t 2).val ≤ (y 2).val) (hu : (y 2).val < 12 * (grid3.coords t 2).val + 12) :
    stepR (k3_pay2 (iblk3 V c 0 t) (iblk3 V c 1 t) (iblk3 V c 2 t)) (BitVec.ofNat 32 (grid3.coords t 2).val) prev y
    = scR (evR (newR (V c main_v2) (V c main_v1))) (odR (newR (V c main_v2) (V c main_v1))) a := by
  refine (stepR_own _ (grid3.coords t 2) prev y hl hu).trans ?_
  have ha : (a 2).val < 36 := (a 2).isLt
  refine grpScale_congr
    (fun k => tile3 V c t (y 1) _ (ix3 (a 0) (a 1) ⟨(32 * (a 2).val + k.val) / 128 * 256 + (32 * (a 2).val + k.val) % 128, by omega⟩) h0 h1 ?_)
    (fun k => tile3 V c t (y 1) _ (ix3 (a 0) (a 1) ⟨(32 * (a 2).val + k.val) / 128 * 256 + 128 + (32 * (a 2).val + k.val) % 128, by omega⟩) h0 h1 ?_)
  · show (32 * (a 2).val + k.val) / 128 * 256 + (32 * (a 2).val + k.val) % 128 = _
    simp only
    omega
  · show (32 * (a 2).val + k.val) / 128 * 256 + 128 + (32 * (a 2).val + k.val) % 128 = _
    simp only
    omega

/-- After every step, the lanes written so far hold the scales of the array. -/
theorem s3 (c : Dev nD) : ∀ (n : Nat) (hn : n < cfg3.N) (y : S1x256x128.Idx) (a : S3x2304x36.Idx)
    (h0 : (a 0).val = (grid3.coords ⟨n, hn⟩ 0).val) (h1 : (a 1).val = (grid3.coords ⟨n, hn⟩ 1).val * 256 + (y 1).val) (h2 : (a 2).val = (y 2).val)
    (hu : (y 2).val < 12 * (n % 3) + 12),
    (outsAt3 V c n hn).2.2.2 y = scR (evR (newR (V c main_v2) (V c main_v1))) (odR (newR (V c main_v2) (V c main_v1))) a := by
  intro n
  induction n with
  | zero =>
    intro hn y a h0 h1 h2 hu
    obtain ⟨prev, hp⟩ := outs3_A V c ⟨0, hn⟩ rfl
    have e := (coords3 ⟨0, hn⟩).1
    simp only at e
    exact (hp y).trans (own3 V c ⟨0, hn⟩ prev y a h0 h1 h2 (by omega) (by omega))
  | succ n ih =>
    intro hn y a h0 h1 h2 hu
    obtain ⟨e2, e1, e0⟩ := coords3 ⟨n + 1, hn⟩
    simp only at e2 e1 e0
    by_cases h : (n + 1) % 3 = 0
    · obtain ⟨prev, hp⟩ := outs3_A V c ⟨n + 1, hn⟩ h
      exact (hp y).trans (own3 V c ⟨n + 1, hn⟩ prev y a h0 h1 h2 (by omega) (by omega))
    · refine (outs3_B V c ⟨n + 1, hn⟩ h y).trans ?_
      by_cases hl : 12 * (grid3.coords ⟨n + 1, hn⟩ 2).val ≤ (y 2).val
      · exact own3 V c ⟨n + 1, hn⟩ _ y a h0 h1 h2 hl (by omega)
      · refine (stepR_keep _ (grid3.coords ⟨n + 1, hn⟩ 2) _ y (by omega)).trans ?_
        obtain ⟨d2, d1, d0⟩ := coords3 ⟨n, by omega⟩
        simp only at d2 d1 d0
        exact ih (by omega) (ix3 0 (y 1) (y 2)) a (by omega) (by show (a 1).val = _ * 256 + (y 1).val; omega) h2 (by show (y 2).val < _; omega)

theorem evR3 (c : Dev nD) : (dat3 V c).arrAt 3 cfg3.N = evR (newR (V c main_v2) (V c main_v1)) := by
  refine (dat3 V c).arrAt_eq_of_covers 3 _ (by decide +kernel) fun t _ y => ?_
  blk_simp
  rw [after3_3]
  exact e3 V c t y _ (by blk_simp [idx3 t]) (by blk_simp [idx3 t]) (by blk_simp [idx3 t])

theorem odR3 (c : Dev nD) : (dat3 V c).arrAt 4 cfg3.N = odR (newR (V c main_v2) (V c main_v1)) := by
  refine (dat3 V c).arrAt_eq_of_covers 4 _ (by decide +kernel) fun t _ y => ?_
  blk_simp
  rw [after3_4]
  exact o3 V c t y _ (by blk_simp [idx3 t]) (by blk_simp [idx3 t]) (by blk_simp [idx3 t])

theorem cdR3 (c : Dev nD) : (dat3 V c).arrAt 5 cfg3.N
    = cdR (evR (newR (V c main_v2) (V c main_v1))) (odR (newR (V c main_v2) (V c main_v1))) := by
  refine (dat3 V c).arrAt_eq_of_covers 5 _ (by decide +kernel) fun t _ y => ?_
  blk_simp
  rw [after3_5]
  exact c3 V c t y _ (by blk_simp [idx3 t]) (by blk_simp [idx3 t]) (by blk_simp [idx3 t])

theorem flush3 : ∀ t : Fin cfg3.N, win3_6.flush t = true → t.val % 3 = 2 := (by decide +kernel : ∀ t : Fin grid3.N, _)

theorem scR3 (c : Dev nD) (i : S3x2304x128.Idx) (a : S3x2304x36.Idx) (h0 : (a 0).val = (i 0).val) (h1 : (a 1).val = (i 1).val) (h2 : (a 2).val = (i 2).val) :
    (dat3 V c).arrAt 6 cfg3.N i = scR (evR (newR (V c main_v2) (V c main_v1))) (odR (newR (V c main_v2) (V c main_v1))) a := by
  refine (dat3 V c).arrAt_forall_of_covers 6 (fun i v => ∀ a : S3x2304x36.Idx, (a 0).val = (i 0).val → (a 1).val = (i 1).val → (a 2).val = (i 2).val →
    v = scR (evR (newR (V c main_v2) (V c main_v1))) (odR (newR (V c main_v2) (V c main_v1))) a) (by decide +kernel) (fun t hf y => ?_) i (Memref.isWhole_whole _) a h0 h1 h2
  have hm := flush3 t hf
  intro a
  blk_simp [idx3 t]
  rw [after3_6]
  intro h0 h1 h2
  have ha : (a 2).val < 36 := (a 2).isLt
  exact s3 V c t.val t.isLt y a (by omega) h1 (by omega) (by omega)

end Cert.KernelIdeal.Value
-- ==== Proof.RefR.lean ====
module

public import proofs.«01_k».proof.Proof.Gen.ReferenceIdeal.Read
public import proofs.«01_k».proof.Proof.RefL
public import proofs.«01_k».proof.Proof.ScR

@[expose] public section

set_option maxRecDepth 16384

noncomputable section

open Idealize.ShloMosaic Idealize.ShloMosaic.TcCoe Idealize.SL.Sem

namespace Cert.KernelIdeal.Value

open Cert.KernelIdeal Cert.ReferenceIdeal.Read

variable (x0 : Vec Ideal S3x2304x1152 .i8) (x1 : Vec Ideal S3x2304x36 .f32)

theorem redR (E : FVec Ideal Cert.ReferenceIdeal.S3x2304x36x32 .f32) (b : FVec Ideal Cert.ReferenceIdeal.S_ .f32) (hb : ∀ j, b j = (⊥ : EReal))
    (hR : Cert.ReferenceIdeal.S3x2304x36x32.ReducesTo [3] Cert.ReferenceIdeal.S3x2304x36) (h0) (i : Cert.ReferenceIdeal.S3x2304x36.Idx) :
    Host.reduce FloatOps.maximumf E b hR h0 i = Finset.univ.sup fun k : Fin 32 => E (ix4 (i 0) (i 1) (i 2) k) := by
  rw [Host.reduce_eq_fold_single FloatOps.maximumf E _ hR (by decide) h0, hb]
  refine (Finset.fold_congr (g := fun k : Fin 32 => E (ix4 (i 0) (i 1) (i 2) k)) fun k _ => congrArg E ?_).trans rfl
  funext a
  match a with | ⟨0, _⟩ => rfl | ⟨1, _⟩ => rfl | ⟨2, _⟩ => rfl | ⟨3, _⟩ => rfl

theorem lookR_e (i : S3x2304x1152.Idx) : val_main_v136 (F := Ideal) x0 i = lut (IntOp.andi ((x0 i).setWidth 32) 15#32) := by
  obtain ⟨h0, h1, h2, h3⟩ := lut_host (IntOp.andi ((x0 i).setWidth 32) 15#32) _ _ _ _ rfl rfl rfl rfl
  unfold lut
  rw [h0, h1, h2, h3]
  rfl

theorem lookR_o (i : S3x2304x1152.Idx) : val_main_v183 (F := Ideal) x0 i = lut (IntOp.shrsi .vector ((x0 i).setWidth 32) 4#32) := by
  obtain ⟨h0, h1, h2, h3⟩ := lut_host (IntOp.shrsi .vector ((x0 i).setWidth 32) 4#32) _ _ _ _ rfl rfl rfl rfl
  unfold lut
  rw [h0, h1, h2, h3, ← shr_host _ 4#32 (by decide)]
  rfl

theorem nearR_e (i : Cert.ReferenceIdeal.S3x2304x36x32.Idx) : val_main_v450 (F := Ideal) x0 x1 i = near (val_main_v389 (F := Ideal) x0 x1 i) := by
  rw [val_main_v450_apply, val_main_v449_apply, val_main_v448_apply, val_main_v447_apply, val_main_cst_178_apply, Ideal.ofBits_def]
  rw [val_main_v446_apply, val_main_v445_apply, val_main_v444_apply, val_main_v443_apply, val_main_cst_177_apply, Ideal.ofBits_def]
  rw [val_main_v442_apply, val_main_v441_apply, val_main_v440_apply, val_main_v439_apply, val_main_cst_176_apply, Ideal.ofBits_def]
  rw [val_main_v438_apply, val_main_v437_apply, val_main_v436_apply, val_main_v435_apply, val_main_cst_175_apply, Ideal.ofBits_def]
  rw [val_main_v434_apply, val_main_v433_apply, val_main_v432_apply, val_main_v431_apply, val_main_cst_174_apply, Ideal.ofBits_def]
  rw [val_main_v430_apply, val_main_v429_apply, val_main_v428_apply, val_main_v427_apply, val_main_cst_173_apply, Ideal.ofBits_def]
  rw [val_main_v426_apply, val_main_v425_apply, val_main_v424_apply, val_main_v423_apply, val_main_cst_172_apply, Ideal.ofBits_def]
  rw [val_main_v422_apply, val_main_v421_apply, val_main_v420_apply, val_main_v419_apply, val_main_cst_171_apply, Ideal.ofBits_def]
  rw [val_main_v418_apply, val_main_v417_apply, val_main_v416_apply, val_main_v415_apply, val_main_cst_170_apply, Ideal.ofBits_def]
  rw [val_main_v414_apply, val_main_v413_apply, val_main_v412_apply, val_main_v411_apply, val_main_cst_169_apply, Ideal.ofBits_def]
  rw [val_main_v410_apply, val_main_v409_apply, val_main_v408_apply, val_main_v407_apply, val_main_cst_168_apply, Ideal.ofBits_def]
  rw [val_main_v406_apply, val_main_v405_apply, val_main_v404_apply, val_main_v403_apply, val_main_cst_167_apply, Ideal.ofBits_def]
  rw [val_main_v402_apply, val_main_v401_apply, val_main_v400_apply, val_main_v399_apply, val_main_cst_166_apply, Ideal.ofBits_def]
  rw [val_main_v398_apply, val_main_v397_apply, val_main_v396_apply, val_main_v395_apply, val_main_cst_165_apply, Ideal.ofBits_def]
  rw [val_main_v394_apply, val_main_v393_apply, val_main_v392_apply, val_main_v391_apply, val_main_cst_164_apply, Ideal.ofBits_def]
  rw [val_main_v390_apply, val_main_c_163_apply]
  rfl

theorem nearR_o (i : Cert.ReferenceIdeal.S3x2304x36x32.Idx) : val_main_v514 (F := Ideal) x0 x1 i = near (val_main_v453 (F := Ideal) x0 x1 i) := by
  rw [val_main_v514_apply, val_main_v513_apply, val_main_v512_apply, val_main_v511_apply, val_main_cst_194_apply, Ideal.ofBits_def]
  rw [val_main_v510_apply, val_main_v509_apply, val_main_v508_apply, val_main_v507_apply, val_main_cst_193_apply, Ideal.ofBits_def]
  rw [val_main_v506_apply, val_main_v505_apply, val_main_v504_apply, val_main_v503_apply, val_main_cst_192_apply, Ideal.ofBits_def]
  rw [val_main_v502_apply, val_main_v501_apply, val_main_v500_apply, val_main_v499_apply, val_main_cst_191_apply, Ideal.ofBits_def]
  rw [val_main_v498_apply, val_main_v497_apply, val_main_v496_apply, val_main_v495_apply, val_main_cst_190_apply, Ideal.ofBits_def]
  rw [val_main_v494_apply, val_main_v493_apply, val_main_v492_apply, val_main_v491_apply, val_main_cst_189_apply, Ideal.ofBits_def]
  rw [val_main_v490_apply, val_main_v489_apply, val_main_v488_apply, val_main_v487_apply, val_main_cst_188_apply, Ideal.ofBits_def]
  rw [val_main_v486_apply, val_main_v485_apply, val_main_v484_apply, val_main_v483_apply, val_main_cst_187_apply, Ideal.ofBits_def]
  rw [val_main_v482_apply, val_main_v481_apply, val_main_v480_apply, val_main_v479_apply, val_main_cst_186_apply, Ideal.ofBits_def]
  rw [val_main_v478_apply, val_main_v477_apply, val_main_v476_apply, val_main_v475_apply, val_main_cst_185_apply, Ideal.ofBits_def]
  rw [val_main_v474_apply, val_main_v473_apply, val_main_v472_apply, val_main_v471_apply, val_main_cst_184_apply, Ideal.ofBits_def]
  rw [val_main_v470_apply, val_main_v469_apply, val_main_v468_apply, val_main_v467_apply, val_main_cst_183_apply, Ideal.ofBits_def]
  rw [val_main_v466_apply, val_main_v465_apply, val_main_v464_apply, val_main_v463_apply, val_main_cst_182_apply, Ideal.ofBits_def]
  rw [val_main_v462_apply, val_main_v461_apply, val_main_v460_apply, val_main_v459_apply, val_main_cst_181_apply, Ideal.ofBits_def]
  rw [val_main_v458_apply, val_main_v457_apply, val_main_v456_apply, val_main_v455_apply, val_main_cst_180_apply, Ideal.ofBits_def]
  rw [val_main_v454_apply, val_main_c_179_apply]
  rfl

theorem decR_e : val_main_v142 (F := Ideal) x0 x1 = evR (denR x0 x1) := by
  funext i
  have hi : (i 2).val < 1152 := (i 2).isLt
  have hi1 : (i 1).val < 2304 := (i 1).isLt
  have hi0 : (i 0).val < 3 := (i 0).isLt
  rw [val_main_v142_apply, val_main_v141_apply, val_main_v140_apply, val_main_v137_apply, val_main_v139_apply, val_main_v138_apply, lookR_e]
  show lut _ * _ = lut _ * _
  refine congr (congrArg _ (congrArg lut ?_)) ?_
  · show _ = fld (((i 2).val / 128 * 256 + (i 2).val % 128) / 128 % 2) _
    rw [show ((i 2).val / 128 * 256 + (i 2).val % 128) / 128 % 2 = 0 by omega]
    unfold fld
    rw [if_pos rfl]
    refine congrArg (fun w => IntOp.andi (BitVec.setWidth 32 w) 15#32) (congrArg x0 ?_)
    refine ix3_ext ?_ ?_ ?_
    · show _ = (i 0).val; dsimp only; omega
    · show _ = (i 1).val; dsimp only; omega
    · show _ = ((i 2).val / 128 * 256 + (i 2).val % 128) / 256 * 128 + ((i 2).val / 128 * 256 + (i 2).val % 128) % 128; dsimp only; omega
  · refine congrArg x1 ?_
    refine ix3_ext ?_ ?_ ?_
    · show _ = (i 0).val; dsimp only; omega
    · show _ = (i 1).val; dsimp only; omega
    · show _ = (((i 2).val / 128 * 256 + (i 2).val % 128) / 256 * 128 + ((i 2).val / 128 * 256 + (i 2).val % 128) % 128) / 32; dsimp only; omega

theorem decR_o : val_main_v189 (F := Ideal) x0 x1 = odR (denR x0 x1) := by
  funext i
  have hi : (i 2).val < 1152 := (i 2).isLt
  have hi1 : (i 1).val < 2304 := (i 1).isLt
  have hi0 : (i 0).val < 3 := (i 0).isLt
  rw [val_main_v189_apply, val_main_v188_apply, val_main_v187_apply, val_main_v184_apply, val_main_v186_apply, val_main_v185_apply, lookR_o]
  show lut _ * _ = lut _ * _
  refine congr (congrArg _ (congrArg lut ?_)) ?_
  · show _ = fld (((i 2).val / 128 * 256 + 128 + (i 2).val % 128) / 128 % 2) _
    rw [show ((i 2).val / 128 * 256 + 128 + (i 2).val % 128) / 128 % 2 = 1 by omega]
    unfold fld
    rw [if_neg (by decide)]
    refine congrArg (fun w => IntOp.shrsi .vector (BitVec.setWidth 32 w) 4#32) (congrArg x0 ?_)
    refine ix3_ext ?_ ?_ ?_
    · show _ = (i 0).val; dsimp only; omega
    · show _ = (i 1).val; dsimp only; omega
    · show _ = ((i 2).val / 128 * 256 + 128 + (i 2).val % 128) / 256 * 128 + ((i 2).val / 128 * 256 + 128 + (i 2).val % 128) % 128; dsimp only; omega
  · refine congrArg x1 ?_
    refine ix3_ext ?_ ?_ ?_
    · show _ = (i 0).val; dsimp only; omega
    · show _ = (i 1).val; dsimp only; omega
    · show _ = (((i 2).val / 128 * 256 + 128 + (i 2).val % 128) / 256 * 128 + ((i 2).val / 128 * 256 + 128 + (i 2).val % 128) % 128) / 32; dsimp only; omega

theorem prodR : val_main_v213 (F := Ideal) x0 x1 = gramR (denR x0 x1) := by
  funext i
  rw [val_main_v213_apply, val_main_v212_apply, val_main_v210_apply, val_main_v211_apply, decR_e, decR_o, Ideal.truncf_def, Ideal.addf_def]
  unfold gramR
  rw [sum_pair 1152 2304 (by decide) (by decide)]
  refine congr (congrArg _ (Finset.sum_congr rfl fun k _ => ?_)) (Finset.sum_congr rfl fun k _ => ?_) <;> rfl

theorem newR_e : val_main_v221 (F := Ideal) x0 x1 = evR (newR (gramR (denR x0 x1)) (denR x0 x1)) := by
  funext i
  rw [val_main_v221_apply, val_main_v220_apply, val_main_v216_apply, val_main_v215_apply, val_main_cst_118_apply, val_main_v214_apply, val_main_v219_apply,
    val_main_v218_apply, val_main_cst_119_apply, val_main_v217_apply, prodR, decR_e, Ideal.truncf_def, Ideal.subf_def, Ideal.mulf_def, Ideal.mulf_def,
    Ideal.extf_def, Ideal.ofBits_def, Ideal.ofBits_def]
  unfold evR newR
  refine congr (congrArg _ rfl) (congrArg _ (Finset.sum_congr rfl fun k _ => congr (congrArg _ (congrArg _ ?_)) rfl))
  exact ix3_ext rfl rfl rfl

theorem newR_o : val_main_v229 (F := Ideal) x0 x1 = odR (newR (gramR (denR x0 x1)) (denR x0 x1)) := by
  funext i
  rw [val_main_v229_apply, val_main_v228_apply, val_main_v224_apply, val_main_v223_apply, val_main_cst_120_apply, val_main_v222_apply, val_main_v227_apply,
    val_main_v226_apply, val_main_cst_121_apply, val_main_v225_apply, prodR, decR_o, Ideal.truncf_def, Ideal.subf_def, Ideal.mulf_def, Ideal.mulf_def,
    Ideal.extf_def, Ideal.ofBits_def, Ideal.ofBits_def]
  unfold odR newR
  refine congr (congrArg _ rfl) (congrArg _ (Finset.sum_congr rfl fun k _ => congr (congrArg _ (congrArg _ ?_)) rfl))
  exact ix3_ext rfl rfl rfl

theorem supR_e (i : Cert.ReferenceIdeal.S3x2304x36.Idx) : val_main_v380 (F := Ideal) x0 x1 i
    = Finset.univ.sup fun k : Fin 32 => (fun v : EReal => max v (-v)) (val_main_v221 (F := Ideal) x0 x1 (ix3 (i 0) (i 1) ⟨32 * (i 2).val + k.val, by idx_bounds_all; omega⟩)) := by
  have hi : (i 2).val < 36 := (i 2).isLt
  have hi1 : (i 1).val < 2304 := (i 1).isLt
  have hi0 : (i 0).val < 3 := (i 0).isLt
  unfold val_main_v380
  refine (redR _ _ (fun j => bot_word) _ _ i).trans (Finset.sup_congr rfl fun k _ => ?_)
  rw [val_main_v379_apply, val_main_v376_apply, val_main_v375_apply, Ideal.extf_def, Ideal.hostAbsf_def]
  refine congrArg (fun w => (fun v : EReal => max v (-v)) (val_main_v221 (F := Ideal) x0 x1 w)) (ix3_ext ?_ ?_ ?_)
  · show ((((i 0).val * 2304 + (i 1).val) * 36 + (i 2).val) * 32 + k.val) / 2654208 = (i 0).val; omega
  · show ((((i 0).val * 2304 + (i 1).val) * 36 + (i 2).val) * 32 + k.val) / 1152 % 2304 = (i 1).val; omega
  · show ((((i 0).val * 2304 + (i 1).val) * 36 + (i 2).val) * 32 + k.val) % 1152 = 32 * (i 2).val + k.val; omega

theorem supR_o (i : Cert.ReferenceIdeal.S3x2304x36.Idx) : val_main_v382 (F := Ideal) x0 x1 i
    = Finset.univ.sup fun k : Fin 32 => (fun v : EReal => max v (-v)) (val_main_v229 (F := Ideal) x0 x1 (ix3 (i 0) (i 1) ⟨32 * (i 2).val + k.val, by idx_bounds_all; omega⟩)) := by
  have hi : (i 2).val < 36 := (i 2).isLt
  have hi1 : (i 1).val < 2304 := (i 1).isLt
  have hi0 : (i 0).val < 3 := (i 0).isLt
  unfold val_main_v382
  refine (redR _ _ (fun j => bot_word) _ _ i).trans (Finset.sup_congr rfl fun k _ => ?_)
  rw [val_main_v381_apply, val_main_v378_apply, val_main_v377_apply, Ideal.extf_def, Ideal.hostAbsf_def]
  refine congrArg (fun w => (fun v : EReal => max v (-v)) (val_main_v229 (F := Ideal) x0 x1 w)) (ix3_ext ?_ ?_ ?_)
  · show ((((i 0).val * 2304 + (i 1).val) * 36 + (i 2).val) * 32 + k.val) / 2654208 = (i 0).val; omega
  · show ((((i 0).val * 2304 + (i 1).val) * 36 + (i 2).val) * 32 + k.val) / 1152 % 2304 = (i 1).val; omega
  · show ((((i 0).val * 2304 + (i 1).val) * 36 + (i 2).val) * 32 + k.val) % 1152 = 32 * (i 2).val + k.val; omega

theorem scaleR : val_main_v386 (F := Ideal) x0 x1 = scR (val_main_v221 (F := Ideal) x0 x1) (val_main_v229 (F := Ideal) x0 x1) := by
  funext i
  rw [val_main_v386_apply, val_main_v385_apply, val_main_v384_apply, val_main_cst_161_apply, val_main_call61_v1_apply, val_main_call61_v0_apply,
    val_main_cst_162_apply, val_main_v383_apply, supR_e, supR_o, Ideal.maximumf_def, Ideal.ofBits_def, Ideal.ofBits_def]
  show fixz _ = fixz _
  exact congrArg fixz Finset.sup_sup.symm

theorem codesR : val_main_v519 (F := Ideal) x0 x1 = cdR (val_main_v221 (F := Ideal) x0 x1) (val_main_v229 (F := Ideal) x0 x1) := by
  funext i
  have hi : (i 2).val < 1152 := (i 2).isLt
  have hi1 : (i 1).val < 2304 := (i 1).isLt
  have hi0 : (i 0).val < 3 := (i 0).isLt
  rw [val_main_v519_apply, val_main_v518_apply, val_main_v517_apply, val_main_v516_apply, val_main_v515_apply, val_main_c_195_apply, nearR_e, nearR_o,
    val_main_v389_apply, val_main_v453_apply, val_main_v388_apply, val_main_v387_apply, val_main_v452_apply, val_main_v451_apply, val_main_v376_apply,
    val_main_v378_apply, val_main_v375_apply, val_main_v377_apply, scaleR, Ideal.hostDivf_def, Ideal.hostDivf_def, Ideal.extf_def, Ideal.extf_def,
    shl_host _ _ (by decide)]
  have h3 : ∀ w : S3x2304x1152.Idx, (w 0).val = (i 0).val → (w 1).val = (i 1).val → (w 2).val = (i 2).val → w = i := fun w a b c => ix3_ext a b c
  have hs : ∀ w : S3x2304x36.Idx, (w 0).val = (i 0).val → (w 1).val = (i 1).val → (w 2).val = (i 2).val / 32 →
      scR (val_main_v221 (F := Ideal) x0 x1) (val_main_v229 (F := Ideal) x0 x1) w = _ := fun w a b c => congrArg _ (show w = ix3 (i 0) (i 1) ⟨(i 2).val / 32, by omega⟩ from ix3_ext a b c)
  refine codeOf_congr (congrArg _ (h3 _ ?_ ?_ ?_)) (congrArg _ (h3 _ ?_ ?_ ?_)) (hs _ ?_ ?_ ?_)
  all_goals (dsimp only; omega)

end Cert.KernelIdeal.Value
-- ==== Proof.Run.lean ====
module

public import proofs.«01_k».proof.Proof.RefR
public import proofs.«01_k».proof.Proof.Gen.KernelIdeal.Frame

@[expose] public section

set_option maxRecDepth 16384

noncomputable section

open Idealize.ShloMosaic Idealize.ShloMosaic.TcCoe Idealize.SL.Sem Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.KernelIdeal.Value

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The decoded left factor of the launch's arguments. -/
abbrev xL : FVec Ideal S3x6144x6144 .bf16 := denL (m ((c : Thread nD τ).loc main_arg0)) (m ((c : Thread nD τ).loc main_arg1))
/-- The decoded right factor of the launch's arguments. -/
abbrev xR : FVec Ideal S3x2304x2304 .bf16 := denR (m ((c : Thread nD τ).loc main_arg2)) (m ((c : Thread nD τ).loc main_arg3))
/-- The left factor after the orthogonality step. -/
abbrev nL := newL (gramL (xL m c)) (xL m c)
/-- The right factor after the orthogonality step. -/
abbrev nR := newR (gramR (xR m c)) (xR m c)

/-! ### Each buffer, from the call that writes it to the call that reads it -/

theorem w1_v0 : W1 m ρ c (Proc.devRef .tc main_v0) = xL m c := (W1_arr m ρ c 2).trans (dec0 (V0 m ρ) c)

theorem w2_v1 : W2 m ρ c (Proc.devRef .tc main_v1) = xR m c := by
  refine (W2_arr m ρ c 2).trans ((dec1 (V1 m ρ) c).trans ?_)
  rw [show V1 m ρ c main_arg2 = m ((c : Thread nD τ).loc main_arg2) from W1_args m ρ c main_arg2 (by decide),
    show V1 m ρ c main_arg3 = m ((c : Thread nD τ).loc main_arg3) from W1_args m ρ c main_arg3 (by decide)]

theorem w3_v2 : W3 m ρ c (Proc.devRef .tc main_v2) = gramR (xR m c) := by
  refine (W3_arr m ρ c 2).trans ((gram2 (V2 m ρ) c).trans ?_)
  rw [show V2 m ρ c main_v1 = xR m c from w2_v1 m ρ c]

theorem w3_v1 : W3 m ρ c (Proc.devRef .tc main_v1) = xR m c := (W3_of m ρ c main_v1 (by decide +kernel)).trans (w2_v1 m ρ c)

theorem w4_v0 : W4 m ρ c (Proc.devRef .tc main_v0) = xL m c :=
  (W4_of m ρ c main_v0 (by decide +kernel)).trans ((W3_of m ρ c main_v0 (by decide +kernel)).trans
    ((W2_of m ρ c main_v0 (by decide +kernel)).trans (w1_v0 m ρ c)))

theorem w5_v4 : W5 m ρ c (Proc.devRef .tc main_v4) = gramL (xL m c) := by
  refine (W5_arr m ρ c 2).trans ((gram4 (V4 m ρ) c).trans ?_)
  rw [show V4 m ρ c main_v0 = xL m c from w4_v0 m ρ c]

theorem w5_v0 : W5 m ρ c (Proc.devRef .tc main_v0) = xL m c := (W5_of m ρ c main_v0 (by decide +kernel)).trans (w4_v0 m ρ c)

/-! ### The outputs of the two orthogonality calls -/

theorem w4_v3_0 : W4 m ρ c (Proc.devRef .tc main_v3_0) = evR (nR m c) := by
  refine (W4_arr m ρ c 3).trans ((evR3 (V3 m ρ) c).trans ?_)
  rw [show V3 m ρ c main_v2 = gramR (xR m c) from w3_v2 m ρ c, show V3 m ρ c main_v1 = xR m c from w3_v1 m ρ c]

theorem w4_v3_1 : W4 m ρ c (Proc.devRef .tc main_v3_1) = odR (nR m c) := by
  refine (W4_arr m ρ c 4).trans ((odR3 (V3 m ρ) c).trans ?_)
  rw [show V3 m ρ c main_v2 = gramR (xR m c) from w3_v2 m ρ c, show V3 m ρ c main_v1 = xR m c from w3_v1 m ρ c]

theorem w4_v3_2 : W4 m ρ c (Proc.devRef .tc main_v3_2) = cdR (evR (nR m c)) (odR (nR m c)) := by
  refine (W4_arr m ρ c 5).trans ((cdR3 (V3 m ρ) c).trans ?_)
  rw [show V3 m ρ c main_v2 = gramR (xR m c) from w3_v2 m ρ c, show V3 m ρ c main_v1 = xR m c from w3_v1 m ρ c]

theorem w4_v3_3 (i : S3x2304x128.Idx) (a : S3x2304x36.Idx) (h0 : (a 0).val = (i 0).val) (h1 : (a 1).val = (i 1).val) (h2 : (a 2).val = (i 2).val) :
    (W4 m ρ c (Proc.devRef .tc main_v3_3) : FVec Ideal S3x2304x128 .f32) i = scR (evR (nR m c)) (odR (nR m c)) a := by
  refine (congrFun (W4_arr m ρ c 6) i).trans ((scR3 (V3 m ρ) c i a h0 h1 h2).trans ?_)
  rw [show V3 m ρ c main_v2 = gramR (xR m c) from w3_v2 m ρ c, show V3 m ρ c main_v1 = xR m c from w3_v1 m ρ c]

theorem w6_v5_0 : W6 m ρ c (Proc.devRef .tc main_v5_0) = evL (nL m c) := by
  refine (W6_arr m ρ c 3).trans ((evL5 (V5 m ρ) c).trans ?_)
  rw [show V5 m ρ c main_v4 = gramL (xL m c) from w5_v4 m ρ c, show V5 m ρ c main_v0 = xL m c from w5_v0 m ρ c]

theorem w6_v5_1 : W6 m ρ c (Proc.devRef .tc main_v5_1) = odL (nL m c) := by
  refine (W6_arr m ρ c 4).trans ((odL5 (V5 m ρ) c).trans ?_)
  rw [show V5 m ρ c main_v4 = gramL (xL m c) from w5_v4 m ρ c, show V5 m ρ c main_v0 = xL m c from w5_v0 m ρ c]

theorem w6_v5_2 : W6 m ρ c (Proc.devRef .tc main_v5_2) = cdL (evL (nL m c)) (odL (nL m c)) := by
  refine (W6_arr m ρ c 5).trans ((cdL5 (V5 m ρ) c).trans ?_)
  rw [show V5 m ρ c main_v4 = gramL (xL m c) from w5_v4 m ρ c, show V5 m ρ c main_v0 = xL m c from w5_v0 m ρ c]

theorem w6_v5_3 (i : S3x6144x128.Idx) (a : S3x6144x96.Idx) (h0 : (a 0).val = (i 0).val) (h1 : (a 1).val = (i 1).val) (h2 : (a 2).val = (i 2).val) :
    (W6 m ρ c (Proc.devRef .tc main_v5_3) : FVec Ideal S3x6144x128 .f32) i = scL (evL (nL m c)) (odL (nL m c)) a := by
  refine (congrFun (W6_arr m ρ c 6) i).trans ((scL5 (V5 m ρ) c i a h0 h1 h2).trans ?_)
  rw [show V5 m ρ c main_v4 = gramL (xL m c) from w5_v4 m ρ c, show V5 m ρ c main_v0 = xL m c from w5_v0 m ρ c]

/-! ### What @main leaves -/

theorem w7_v5_0 : W7 m ρ c (Proc.devRef .tc main_v5_0) = evL (nL m c) :=
  (W7_of m ρ c main_v5_0 (by decide +kernel)).trans (w6_v5_0 m ρ c)

theorem w7_v5_1 : W7 m ρ c (Proc.devRef .tc main_v5_1) = odL (nL m c) :=
  (W7_of m ρ c main_v5_1 (by decide +kernel)).trans (w6_v5_1 m ρ c)

theorem w7_v5_2 : W7 m ρ c (Proc.devRef .tc main_v5_2) = cdL (evL (nL m c)) (odL (nL m c)) :=
  (W7_of m ρ c main_v5_2 (by decide +kernel)).trans (w6_v5_2 m ρ c)

theorem w7_v3_0 : W7 m ρ c (Proc.devRef .tc main_v3_0) = evR (nR m c) :=
  (W7_of m ρ c main_v3_0 (by decide +kernel)).trans ((W6_of m ρ c main_v3_0 (by decide +kernel)).trans ((W5_of m ρ c main_v3_0 (by decide +kernel)).trans (w4_v3_0 m ρ c)))

theorem w7_v3_1 : W7 m ρ c (Proc.devRef .tc main_v3_1) = odR (nR m c) :=
  (W7_of m ρ c main_v3_1 (by decide +kernel)).trans ((W6_of m ρ c main_v3_1 (by decide +kernel)).trans ((W5_of m ρ c main_v3_1 (by decide +kernel)).trans (w4_v3_1 m ρ c)))

theorem w7_v3_2 : W7 m ρ c (Proc.devRef .tc main_v3_2) = cdR (evR (nR m c)) (odR (nR m c)) :=
  (W7_of m ρ c main_v3_2 (by decide +kernel)).trans ((W6_of m ρ c main_v3_2 (by decide +kernel)).trans ((W5_of m ρ c main_v3_2 (by decide +kernel)).trans (w4_v3_2 m ρ c)))

theorem w7_v6 : W7 m ρ c (Proc.devRef .tc main_v6) = scL (evL (nL m c)) (odL (nL m c)) := by
  have e : W7 m ρ c (Proc.devRef .tc main_v6) = extractStridedSlice (s := S3x6144x128) (α := Ideal .f32) S3x6144x96 ![0, 0, 0] (W6 m ρ c (Proc.devRef .tc main_v5_3)) slices_S3x6144x128_S3x6144x96_0_0_0 := by
    show StableHlo.after hostOps6 (W6 m ρ c) (Proc.devRef .tc main_v6) = _
    simp only [StableHlo.after_cons, StableHlo.after_nil]
    after_results_simp
  rw [e]
  funext i
  have h0 := (i 0).isLt
  have h1 := (i 1).isLt
  have h2 : (i 2).val < 96 := (i 2).isLt
  refine (extractStridedSlice_apply _ _ _ _ (ix3 (i 0) (i 1) (⟨(i 2).val, by omega⟩ : Fin 128)) (fun a => ?_)).trans (w6_v5_3 m ρ c _ i rfl rfl rfl)
  match a with | ⟨0, _⟩ => exact (Nat.zero_add _).symm | ⟨1, _⟩ => exact (Nat.zero_add _).symm | ⟨2, _⟩ => exact (Nat.zero_add _).symm

theorem w7_v7 : W7 m ρ c (Proc.devRef .tc main_v7) = scR (evR (nR m c)) (odR (nR m c)) := by
  have e : W7 m ρ c (Proc.devRef .tc main_v7) = extractStridedSlice (s := S3x2304x128) (α := Ideal .f32) S3x2304x36 ![0, 0, 0] (W4 m ρ c (Proc.devRef .tc main_v3_3)) slices_S3x2304x128_S3x2304x36_0_0_0 := by
    rw [← (W6_of m ρ c main_v3_3 (by decide +kernel)).trans (W5_of m ρ c main_v3_3 (by decide +kernel))]
    show StableHlo.after hostOps6 (W6 m ρ c) (Proc.devRef .tc main_v7) = _
    simp only [StableHlo.after_cons, StableHlo.after_nil]
    after_results_simp
  rw [e]
  funext i
  have h0 := (i 0).isLt
  have h1 := (i 1).isLt
  have h2 : (i 2).val < 36 := (i 2).isLt
  refine (extractStridedSlice_apply _ _ _ _ (ix3 (i 0) (i 1) (⟨(i 2).val, by omega⟩ : Fin 128)) (fun a => ?_)).trans (w4_v3_3 m ρ c _ i rfl rfl rfl)
  match a with | ⟨0, _⟩ => exact (Nat.zero_add _).symm | ⟨1, _⟩ => exact (Nat.zero_add _).symm | ⟨2, _⟩ => exact (Nat.zero_add _).symm

set_option backward.isDefEq.respectTransparency.types false in
/-- Every run of @main ends with each result array at the value above and the arguments unchanged. -/
theorem run : θ_run (defs (F := Ideal)) (onTc (τ := τ) (main (F := Ideal))) ⟨m, fun _ => 0, ρ⟩ (fun r => ∀ c : Dev nD,
      r.2.mem ((c.tc : Thread nD τ).loc main_v5_0) = evL (nL m c)
      ∧ r.2.mem ((c.tc : Thread nD τ).loc main_v5_1) = odL (nL m c)
      ∧ r.2.mem ((c.tc : Thread nD τ).loc main_v3_0) = evR (nR m c)
      ∧ r.2.mem ((c.tc : Thread nD τ).loc main_v3_1) = odR (nR m c)
      ∧ r.2.mem ((c.tc : Thread nD τ).loc main_v5_2) = cdL (evL (nL m c)) (odL (nL m c))
      ∧ r.2.mem ((c.tc : Thread nD τ).loc main_v6) = scL (evL (nL m c)) (odL (nL m c))
      ∧ r.2.mem ((c.tc : Thread nD τ).loc main_v3_2) = cdR (evR (nR m c)) (odR (nR m c))
      ∧ r.2.mem ((c.tc : Thread nD τ).loc main_v7) = scR (evR (nR m c)) (odR (nR m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v5_0 (by decide))).trans (w7_v5_0 m ρ c),
       (h c _ (mem_uc main_v5_1 (by decide))).trans (w7_v5_1 m ρ c),
       (h c _ (mem_uc main_v3_0 (by decide))).trans (w7_v3_0 m ρ c),
       (h c _ (mem_uc main_v3_1 (by decide))).trans (w7_v3_1 m ρ c),
       (h c _ (mem_uc main_v5_2 (by decide))).trans (w7_v5_2 m ρ c),
       (h c _ (mem_uc main_v6 (by decide))).trans (w7_v6 m ρ c),
       (h c _ (mem_uc main_v3_2 (by decide))).trans (w7_v3_2 m ρ c),
       (h c _ (mem_uc main_v7 (by decide))).trans (w7_v7 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Value

end
-- ==== Proof.Even.lean ====
module

public import proofs.«01_k».proof.Proof.Gen.EvenIdeal.Value
public import proofs.«01_k».proof.Proof.Gen.ReferenceEvenIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EvenIdeal.Value

open Cert.EvenIdeal Cert.EvenIdeal.Gen

variable (m : (ℓ : Loc nD τ sig) → Buf (Elt Ideal) ℓ)

/-- A transposed factor times the gradient, every row times its own factor. -/
def proj (E : FVec Ideal S3x6144x3072 .bf16) (G : FVec Ideal S3x6144x2304 .bf16) (D : FVec Ideal S3x3072x1 .f32) : FVec Ideal S3x3072x2304 .bf16 :=
  fun i => (∑ k : Fin 6144, E (ix3 (i 0) k (i 1)) * G (ix3 (i 0) k (i 2))) * D (ix3 (i 0) (i 1) (0 : Fin 1))

/-- The part of the sum that one step of the grid adds. -/
def part (E : FVec Ideal S3x6144x3072 .bf16) (G : FVec Ideal S3x6144x2304 .bf16) (i : S3x3072x2304.Idx) (s : Fin 6) : Ideal .f32 :=
  ∑ k : Fin 1024, E (ix3 (i 0) ⟨s.val * 1024 + k.val, by omega⟩ (i 1)) * G (ix3 (i 0) ⟨s.val * 1024 + k.val, by omega⟩ (i 2))

/-- The six parts are the whole sum. -/
theorem parts (f : Fin 6144 → Ideal .f32) :
    (∑ s : Fin 6, ∑ k : Fin 1024, f ⟨s.val * 1024 + k.val, by omega⟩) = ∑ k : Fin 6144, f k := by
  rw [← Equiv.sum_comp (finProdFinEquiv (m := 6) (n := 1024)), Fintype.sum_prod_type]
  refine Finset.sum_congr rfl fun s _ => Finset.sum_congr rfl fun k _ => congrArg f (Fin.ext ?_)
  show s.val * 1024 + k.val = k.val + 1024 * s.val
  omega

theorem idx : ∀ t : Fin cfg0.N, win0_0.index t = ![t.val / 108, t.val % 6, t.val / 18 % 6]
    ∧ win0_1.index t = ![t.val / 108, t.val % 6, t.val / 6 % 3]
    ∧ win0_2.index t = ![t.val / 108, t.val / 18 % 6, 0]
    ∧ win0_3.index t = ![t.val / 108, t.val / 18 % 6, t.val / 6 % 3] :=
  (by decide +kernel : ∀ t : Fin grid0.N, _)

theorem pay2_at (c : Dev nD) (t : Fin cfg0.N) (acc : FVec Ideal S512x768 .f32) (r : Fin 512) (l : Fin 768) (i : S3x3072x2304.Idx)
    (h0 : (i 0).val = t.val / 108) (h1 : (i 1).val = t.val / 18 % 6 * 512 + r.val) (h2 : (i 2).val = t.val / 6 % 3 * 768 + l.val) :
    k0_pay2 (F := Ideal) acc (iblk m c 0 t) (iblk m c 1 t) (ix2 r l)
      = acc (ix2 r l) + part (V m c main_arg1) (V m c main_arg0) i ⟨t.val % 6, Nat.mod_lt _ (by decide)⟩ := by
  pointwise [k0_pay2, part]
  blk_point [iblk, idx t]

theorem pay3_at (c : Dev nD) (t : Fin cfg0.N) (acc : FVec Ideal S512x768 .f32) (y : S1x512x768.Idx) (i : S3x3072x2304.Idx)
    (h0 : (i 0).val = t.val / 108) (h1 : (i 1).val = t.val / 18 % 6 * 512 + (y 1).val) :
    k0_pay3 (F := Ideal) acc (iblk m c 2 t) y = acc (ix2 (y 1) (y 2)) * (V m c main_v3 : FVec Ideal S3x3072x1 .f32) (ix3 (i 0) (i 1) (0 : Fin 1)) := by
  pointwise [k0_pay3]
  blk_point [iblk, idx t]

theorem acc_A (c : Dev nD) (t : Fin cfg0.N) (h0 : t.val % 6 = 0) (h1 : ¬t.val % 6 = 5) :
    (outsAt0 m c t.val t.isLt).2 = k0_pay2 (k0_pay1 (F := Ideal)) (iblk m c 0 t) (iblk m c 1 t) := by
  rw [outsAt0_A m c t h0 h1]
  dsimp only
  frame_out

theorem acc_B (c : Dev nD) (t : Fin cfg0.N) (h0 : ¬t.val % 6 = 0) (h1 : ¬t.val % 6 = 5) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  frame_out
  exact congrArg (fun a => k0_pay2 a (iblk m c 0 t) (iblk m c 1 t)) ((Memref.isWhole_whole cc0_scratch0).read_unread _)

theorem out_C (c : Dev nD) (t : Fin cfg0.N) (h0 : ¬t.val % 6 = 0) (h1 : t.val % 6 = 5) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  frame_out
  exact congrArg (fun a => k0_pay3 (k0_pay2 a (iblk m c 0 t) (iblk m c 1 t)) (iblk m c 2 t)) ((Memref.isWhole_whole cc0_scratch0).read_unread _)

/-- What the carried array holds after step `j` of the run of steps that makes one block: the parts up to `j`. -/
theorem acc_at (c : Dev nD) (q : Nat) (r : Fin 512) (l : Fin 768) (i : S3x3072x2304.Idx)
    (h0 : (i 0).val = q / 18) (h1 : (i 1).val = q / 3 % 6 * 512 + r.val) (h2 : (i 2).val = q % 3 * 768 + l.val) :
    ∀ (j : Nat) (hj : j < 5) (h : 6 * q + j < cfg0.N), ((outsAt0 m c (6 * q + j) h).2 : FVec Ideal S512x768 .f32) (ix2 r l)
      = ∑ s : Fin (j + 1), part (V m c main_arg1) (V m c main_arg0) i ⟨s.val, by omega⟩ := by
  intro j
  induction j with
  | zero =>
    intro hj h
    rw [acc_A m c ⟨6 * q + 0, h⟩ (by dsimp only; omega) (by dsimp only; omega)]
    refine (pay2_at m c ⟨6 * q + 0, h⟩ _ r l i (by dsimp only; omega) (by dsimp only; omega) (by dsimp only; omega)).trans ?_
    rw [Fin.sum_univ_one, show (k0_pay1 (F := Ideal)) (ix2 r l) = 0 by pointwise [k0_pay1], zero_add]
    exact congrArg _ (Fin.ext (by dsimp only; omega))
  | succ j ih =>
    intro hj h
    rw [acc_B m c ⟨6 * q + (j + 1), h⟩ (by dsimp only; omega) (by dsimp only; omega)]
    refine (pay2_at m c ⟨6 * q + (j + 1), h⟩ _ r l i (by dsimp only; omega) (by dsimp only; omega) (by dsimp only; omega)).trans ?_
    rw [Fin.sum_univ_castSucc]
    refine congr (congrArg _ (ih (by omega) (by omega))) (congrArg _ (Fin.ext ?_))
    show (6 * q + (j + 1)) % 6 = j + 1
    omega

/-- The block that the last step of a run writes. -/
theorem out_at (c : Dev nD) (q : Nat) (h : 6 * q + 5 < cfg0.N) (y : S1x512x768.Idx) (i : S3x3072x2304.Idx)
    (h0 : (i 0).val = q / 18) (h1 : (i 1).val = q / 3 % 6 * 512 + (y 1).val) (h2 : (i 2).val = q % 3 * 768 + (y 2).val) :
    ((outsAt0 m c (6 * q + 5) h).1 : FVec Ideal S1x512x768 .bf16) y = proj (V m c main_arg1) (V m c main_arg0) (V m c main_v3) i := by
  rw [out_C m c ⟨6 * q + 5, h⟩ (by dsimp only; omega) (by dsimp only; omega)]
  refine (pay3_at m c ⟨6 * q + 5, h⟩ _ y i (by dsimp only; omega) (by dsimp only; omega)).trans ?_
  unfold proj
  refine congr (congrArg _ ?_) rfl
  refine (pay2_at m c ⟨6 * q + 5, h⟩ _ (y 1) (y 2) i (by dsimp only; omega) (by dsimp only; omega) (by dsimp only; omega)).trans ?_
  refine Eq.trans ?_ (parts fun k => (show FVec Ideal S3x6144x3072 .bf16 from V m c main_arg1) (ix3 (i 0) k (i 1)) * (show FVec Ideal S3x6144x2304 .bf16 from V m c main_arg0) (ix3 (i 0) k (i 2)))
  rw [Fin.sum_univ_castSucc]
  refine congr (congrArg _ (acc_at m c q (y 1) (y 2) i h0 h1 h2 4 (by decide) (by omega))) (congrArg (part _ _ i) (Fin.ext ?_))
  show (6 * q + 5) % 6 = 5
  omega

/-- The result array after the run. -/
theorem final (c : Dev nD) : G3 m c = proj (V m c main_arg1) (V m c main_arg0) (V m c main_v3) := by
  funext i
  have b0 : (i 0).val < 3 := (i 0).isLt
  have b1 : (i 1).val < 3072 := (i 1).isLt
  have b2 : (i 2).val < 2304 := (i 2).isLt
  have hN : cfg0.N = 324 := N_0
  have hq : run3Of i = 18 * (i 0).val + 3 * ((i 1).val / 512) + (i 2).val / 768 := by show 18 * ((i 0).val / 1 - 0) + 3 * ((i 1).val / 512 - 0) + 1 * ((i 2).val / 768 - 0) = _; omega
  have hp : 6 * run3Of i + 5 < cfg0.N := by omega
  unfold G3
  rw [dif_pos hp, ← outsAt0_sweep]
  refine out_at m c (run3Of i) hp (loc3Of i) i ?_ ?_ ?_
  · rw [hq]; omega
  · show _ = _ + (i 1).val % 512; rw [hq]; omega
  · show _ = _ + (i 2).val % 768; rw [hq]; omega

/-- The powers of the eigenvalues that scale the rows. -/
abbrev dRow (lam : FVec Ideal S3x6144 .f32) : FVec Ideal S3x3072x1 .f32 :=
  broadcastInDim S3x3072x1 ![0, 1] bcast_S3x3072_S3x3072x1_0_1
    (Host.slice S3x3072 ![0, 0] ![1, 2] (Host.powf lam (broadcastInDim S3x6144 ![] bcast_S_S3x6144 (constant (F := Ideal) S_ .f32 0xBE800000#32))) slicesBy_S3x6144_S3x3072_0s1_0s2)

theorem V_v3 (c : Dev nD) : V m c main_v3 = dRow (m ((c : Thread nD τ).loc main_arg2)) := by
  show StableHlo.after hostOps0 (fun b => m (c, b)) (Proc.devRef .tc main_v3) = _
  simp only [StableHlo.after_cons, StableHlo.after_nil]
  after_results_simp

/-- The result array after the run, from the launch's arguments. -/
theorem result (c : Dev nD) : G3 m c
    = proj (m ((c : Thread nD τ).loc main_arg1)) (m ((c : Thread nD τ).loc main_arg0)) (dRow (m ((c : Thread nD τ).loc main_arg2))) := by
  rw [final, V_main_arg0, V_main_arg1, V_v3]

/-- Two rank-three indices with equal coordinates are equal. -/
theorem ix3_ext {n₀ n₁ n₂ : Nat} {a b : (⟨3, ![n₀, n₁, n₂]⟩ : Shape).Idx} (h0 : (a 0).val = (b 0).val) (h1 : (a 1).val = (b 1).val)
    (h2 : (a 2).val = (b 2).val) : a = b :=
  funext fun d => Fin.ext (match d with | ⟨0, _⟩ => h0 | ⟨1, _⟩ => h1 | ⟨2, _⟩ => h2)

open Cert.ReferenceEvenIdeal.Read in
/-- The reference's result is the same function of the arguments. -/
theorem ref (x0 : FVec Ideal S3x6144x2304 .bf16) (x1 : FVec Ideal S3x6144x3072 .bf16) (x2 : FVec Ideal S3x6144 .f32) :
    val_main_v7 (F := Ideal) x0 x1 x2 = proj x1 x0 (dRow x2) := by
  funext i
  rw [val_main_v7_apply, val_main_v6_apply, val_main_v3_apply, val_main_v5_apply, Ideal.truncf_def, Ideal.mulf_def]
  unfold proj
  refine congr (congrArg _ (Finset.sum_congr rfl fun k _ => ?_)) (congrArg (dRow x2) (ix3_ext rfl rfl rfl))
  exact congr (congrArg _ (congrArg _ (ix3_ext rfl rfl rfl))) (congrArg _ (ix3_ext rfl rfl rfl))

end Cert.EvenIdeal.Value
-- ==== Proof.Odd.lean ====
module

public import proofs.«01_k».proof.Proof.Gen.OddIdeal.Value
public import proofs.«01_k».proof.Proof.Gen.ReferenceOddIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OddIdeal.Value

open Cert.OddIdeal Cert.OddIdeal.Gen

variable (m : (ℓ : Loc nD τ sig) → Buf (Elt Ideal) ℓ)

/-- A transposed factor times the gradient, every row times its own factor. -/
def proj (E : FVec Ideal S3x6144x3072 .bf16) (G : FVec Ideal S3x6144x2304 .bf16) (D : FVec Ideal S3x3072x1 .f32) : FVec Ideal S3x3072x2304 .bf16 :=
  fun i => (∑ k : Fin 6144, E (ix3 (i 0) k (i 1)) * G (ix3 (i 0) k (i 2))) * D (ix3 (i 0) (i 1) (0 : Fin 1))

/-- The part of the sum that one step of the grid adds. -/
def part (E : FVec Ideal S3x6144x3072 .bf16) (G : FVec Ideal S3x6144x2304 .bf16) (i : S3x3072x2304.Idx) (s : Fin 6) : Ideal .f32 :=
  ∑ k : Fin 1024, E (ix3 (i 0) ⟨s.val * 1024 + k.val, by omega⟩ (i 1)) * G (ix3 (i 0) ⟨s.val * 1024 + k.val, by omega⟩ (i 2))

/-- The six parts are the whole sum. -/
theorem parts (f : Fin 6144 → Ideal .f32) :
    (∑ s : Fin 6, ∑ k : Fin 1024, f ⟨s.val * 1024 + k.val, by omega⟩) = ∑ k : Fin 6144, f k := by
  rw [← Equiv.sum_comp (finProdFinEquiv (m := 6) (n := 1024)), Fintype.sum_prod_type]
  refine Finset.sum_congr rfl fun s _ => Finset.sum_congr rfl fun k _ => congrArg f (Fin.ext ?_)
  show s.val * 1024 + k.val = k.val + 1024 * s.val
  omega

theorem idx : ∀ t : Fin cfg0.N, win0_0.index t = ![t.val / 108, t.val % 6, t.val / 18 % 6]
    ∧ win0_1.index t = ![t.val / 108, t.val % 6, t.val / 6 % 3]
    ∧ win0_2.index t = ![t.val / 108, t.val / 18 % 6, 0]
    ∧ win0_3.index t = ![t.val / 108, t.val / 18 % 6, t.val / 6 % 3] :=
  (by decide +kernel : ∀ t : Fin grid0.N, _)

theorem pay2_at (c : Dev nD) (t : Fin cfg0.N) (acc : FVec Ideal S512x768 .f32) (r : Fin 512) (l : Fin 768) (i : S3x3072x2304.Idx)
    (h0 : (i 0).val = t.val / 108) (h1 : (i 1).val = t.val / 18 % 6 * 512 + r.val) (h2 : (i 2).val = t.val / 6 % 3 * 768 + l.val) :
    k0_pay2 (F := Ideal) acc (iblk m c 0 t) (iblk m c 1 t) (ix2 r l)
      = acc (ix2 r l) + part (V m c main_arg1) (V m c main_arg0) i ⟨t.val % 6, Nat.mod_lt _ (by decide)⟩ := by
  pointwise [k0_pay2, part]
  blk_point [iblk, idx t]

theorem pay3_at (c : Dev nD) (t : Fin cfg0.N) (acc : FVec Ideal S512x768 .f32) (y : S1x512x768.Idx) (i : S3x3072x2304.Idx)
    (h0 : (i 0).val = t.val / 108) (h1 : (i 1).val = t.val / 18 % 6 * 512 + (y 1).val) :
    k0_pay3 (F := Ideal) acc (iblk m c 2 t) y = acc (ix2 (y 1) (y 2)) * (V m c main_v3 : FVec Ideal S3x3072x1 .f32) (ix3 (i 0) (i 1) (0 : Fin 1)) := by
  pointwise [k0_pay3]
  blk_point [iblk, idx t]

theorem acc_A (c : Dev nD) (t : Fin cfg0.N) (h0 : t.val % 6 = 0) (h1 : ¬t.val % 6 = 5) :
    (outsAt0 m c t.val t.isLt).2 = k0_pay2 (k0_pay1 (F := Ideal)) (iblk m c 0 t) (iblk m c 1 t) := by
  rw [outsAt0_A m c t h0 h1]
  dsimp only
  frame_out

theorem acc_B (c : Dev nD) (t : Fin cfg0.N) (h0 : ¬t.val % 6 = 0) (h1 : ¬t.val % 6 = 5) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  frame_out
  exact congrArg (fun a => k0_pay2 a (iblk m c 0 t) (iblk m c 1 t)) ((Memref.isWhole_whole cc0_scratch0).read_unread _)

theorem out_C (c : Dev nD) (t : Fin cfg0.N) (h0 : ¬t.val % 6 = 0) (h1 : t.val % 6 = 5) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  frame_out
  exact congrArg (fun a => k0_pay3 (k0_pay2 a (iblk m c 0 t) (iblk m c 1 t)) (iblk m c 2 t)) ((Memref.isWhole_whole cc0_scratch0).read_unread _)

/-- What the carried array holds after step `j` of the run of steps that makes one block: the parts up to `j`. -/
theorem acc_at (c : Dev nD) (q : Nat) (r : Fin 512) (l : Fin 768) (i : S3x3072x2304.Idx)
    (h0 : (i 0).val = q / 18) (h1 : (i 1).val = q / 3 % 6 * 512 + r.val) (h2 : (i 2).val = q % 3 * 768 + l.val) :
    ∀ (j : Nat) (hj : j < 5) (h : 6 * q + j < cfg0.N), ((outsAt0 m c (6 * q + j) h).2 : FVec Ideal S512x768 .f32) (ix2 r l)
      = ∑ s : Fin (j + 1), part (V m c main_arg1) (V m c main_arg0) i ⟨s.val, by omega⟩ := by
  intro j
  induction j with
  | zero =>
    intro hj h
    rw [acc_A m c ⟨6 * q + 0, h⟩ (by dsimp only; omega) (by dsimp only; omega)]
    refine (pay2_at m c ⟨6 * q + 0, h⟩ _ r l i (by dsimp only; omega) (by dsimp only; omega) (by dsimp only; omega)).trans ?_
    rw [Fin.sum_univ_one, show (k0_pay1 (F := Ideal)) (ix2 r l) = 0 by pointwise [k0_pay1], zero_add]
    exact congrArg _ (Fin.ext (by dsimp only; omega))
  | succ j ih =>
    intro hj h
    rw [acc_B m c ⟨6 * q + (j + 1), h⟩ (by dsimp only; omega) (by dsimp only; omega)]
    refine (pay2_at m c ⟨6 * q + (j + 1), h⟩ _ r l i (by dsimp only; omega) (by dsimp only; omega) (by dsimp only; omega)).trans ?_
    rw [Fin.sum_univ_castSucc]
    refine congr (congrArg _ (ih (by omega) (by omega))) (congrArg _ (Fin.ext ?_))
    show (6 * q + (j + 1)) % 6 = j + 1
    omega

/-- The block that the last step of a run writes. -/
theorem out_at (c : Dev nD) (q : Nat) (h : 6 * q + 5 < cfg0.N) (y : S1x512x768.Idx) (i : S3x3072x2304.Idx)
    (h0 : (i 0).val = q / 18) (h1 : (i 1).val = q / 3 % 6 * 512 + (y 1).val) (h2 : (i 2).val = q % 3 * 768 + (y 2).val) :
    ((outsAt0 m c (6 * q + 5) h).1 : FVec Ideal S1x512x768 .bf16) y = proj (V m c main_arg1) (V m c main_arg0) (V m c main_v3) i := by
  rw [out_C m c ⟨6 * q + 5, h⟩ (by dsimp only; omega) (by dsimp only; omega)]
  refine (pay3_at m c ⟨6 * q + 5, h⟩ _ y i (by dsimp only; omega) (by dsimp only; omega)).trans ?_
  unfold proj
  refine congr (congrArg _ ?_) rfl
  refine (pay2_at m c ⟨6 * q + 5, h⟩ _ (y 1) (y 2) i (by dsimp only; omega) (by dsimp only; omega) (by dsimp only; omega)).trans ?_
  refine Eq.trans ?_ (parts fun k => (show FVec Ideal S3x6144x3072 .bf16 from V m c main_arg1) (ix3 (i 0) k (i 1)) * (show FVec Ideal S3x6144x2304 .bf16 from V m c main_arg0) (ix3 (i 0) k (i 2)))
  rw [Fin.sum_univ_castSucc]
  refine congr (congrArg _ (acc_at m c q (y 1) (y 2) i h0 h1 h2 4 (by decide) (by omega))) (congrArg (part _ _ i) (Fin.ext ?_))
  show (6 * q + 5) % 6 = 5
  omega

/-- The result array after the run. -/
theorem final (c : Dev nD) : G3 m c = proj (V m c main_arg1) (V m c main_arg0) (V m c main_v3) := by
  funext i
  have b0 : (i 0).val < 3 := (i 0).isLt
  have b1 : (i 1).val < 3072 := (i 1).isLt
  have b2 : (i 2).val < 2304 := (i 2).isLt
  have hN : cfg0.N = 324 := N_0
  have hq : run3Of i = 18 * (i 0).val + 3 * ((i 1).val / 512) + (i 2).val / 768 := by show 18 * ((i 0).val / 1 - 0) + 3 * ((i 1).val / 512 - 0) + 1 * ((i 2).val / 768 - 0) = _; omega
  have hp : 6 * run3Of i + 5 < cfg0.N := by omega
  unfold G3
  rw [dif_pos hp, ← outsAt0_sweep]
  refine out_at m c (run3Of i) hp (loc3Of i) i ?_ ?_ ?_
  · rw [hq]; omega
  · show _ = _ + (i 1).val % 512; rw [hq]; omega
  · show _ = _ + (i 2).val % 768; rw [hq]; omega

/-- The powers of the eigenvalues that scale the rows. -/
abbrev dRow (lam : FVec Ideal S3x6144 .f32) : FVec Ideal S3x3072x1 .f32 :=
  broadcastInDim S3x3072x1 ![0, 1] bcast_S3x3072_S3x3072x1_0_1
    (Host.slice S3x3072 ![0, 1] ![1, 2] (Host.powf lam (broadcastInDim S3x6144 ![] bcast_S_S3x6144 (constant (F := Ideal) S_ .f32 0xBE800000#32))) slicesBy_S3x6144_S3x3072_0s1_1s2)

theorem V_v3 (c : Dev nD) : V m c main_v3 = dRow (m ((c : Thread nD τ).loc main_arg2)) := by
  show StableHlo.after hostOps0 (fun b => m (c, b)) (Proc.devRef .tc main_v3) = _
  simp only [StableHlo.after_cons, StableHlo.after_nil]
  after_results_simp

/-- The result array after the run, from the launch's arguments. -/
theorem result (c : Dev nD) : G3 m c
    = proj (m ((c : Thread nD τ).loc main_arg1)) (m ((c : Thread nD τ).loc main_arg0)) (dRow (m ((c : Thread nD τ).loc main_arg2))) := by
  rw [final, V_main_arg0, V_main_arg1, V_v3]

/-- Two rank-three indices with equal coordinates are equal. -/
theorem ix3_ext {n₀ n₁ n₂ : Nat} {a b : (⟨3, ![n₀, n₁, n₂]⟩ : Shape).Idx} (h0 : (a 0).val = (b 0).val) (h1 : (a 1).val = (b 1).val)
    (h2 : (a 2).val = (b 2).val) : a = b :=
  funext fun d => Fin.ext (match d with | ⟨0, _⟩ => h0 | ⟨1, _⟩ => h1 | ⟨2, _⟩ => h2)

open Cert.ReferenceOddIdeal.Read in
/-- The reference's result is the same function of the arguments. -/
theorem ref (x0 : FVec Ideal S3x6144x2304 .bf16) (x1 : FVec Ideal S3x6144x3072 .bf16) (x2 : FVec Ideal S3x6144 .f32) :
    val_main_v7 (F := Ideal) x0 x1 x2 = proj x1 x0 (dRow x2) := by
  funext i
  rw [val_main_v7_apply, val_main_v6_apply, val_main_v3_apply, val_main_v5_apply, Ideal.truncf_def, Ideal.mulf_def]
  unfold proj
  refine congr (congrArg _ (Finset.sum_congr rfl fun k _ => ?_)) (congrArg (dRow x2) (ix3_ext rfl rfl rfl))
  exact congr (congrArg _ (congrArg _ (ix3_ext rfl rfl rfl))) (congrArg _ (ix3_ext rfl rfl rfl))

end Cert.OddIdeal.Value
-- ==== Proof.Finish.lean ====
module

public import proofs.«01_k».proof.Proof.Gen.FinishIdeal.Frame
public import proofs.«01_k».proof.Proof.Gen.ReferenceFinishIdeal.Read
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.FinishIdeal.Value

open Cert.FinishIdeal Cert.FinishIdeal.Gen

section
variable (V : (c : Dev nD) → (b : Ref sig .tc) → Buf (Elt Ideal) ((c : Thread nD τ).loc b))

/-- Even half times even half plus odd half times odd half. -/
def lpair (E O : FVec Ideal S3x6144x3072 .bf16) (B C : FVec Ideal S3x3072x2304 .bf16) : FVec Ideal S3x6144x2304 .bf16 :=
  fun i => (∑ k : Fin 3072, E (ix3 (i 0) (i 1) k) * B (ix3 (i 0) k (i 2))) + ∑ k : Fin 3072, O (ix3 (i 0) (i 1) k) * C (ix3 (i 0) k (i 2))

/-- A product with every column times its own factor. -/
def rproj (C : FVec Ideal S3x6144x2304 .bf16) (U : FVec Ideal S3x2304x1152 .bf16) (D : FVec Ideal S3x1x1152 .f32) : FVec Ideal S3x6144x1152 .bf16 :=
  fun i => (∑ k : Fin 2304, C (ix3 (i 0) (i 1) k) * U (ix3 (i 0) k (i 2))) * D (ix3 (i 0) (0 : Fin 1) (i 2))

/-- The two halves times the transposed halves of the right factor. -/
def rpair (E O : FVec Ideal S3x6144x1152 .bf16) (B C : FVec Ideal S3x2304x1152 .bf16) : FVec Ideal S3x6144x2304 .bf16 :=
  fun i => (∑ k : Fin 1152, E (ix3 (i 0) (i 1) k) * B (ix3 (i 0) (i 2) k)) + ∑ k : Fin 1152, O (ix3 (i 0) (i 1) k) * C (ix3 (i 0) (i 2) k)

theorem idx0 : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, (grid0.coords t 2).val]
    ∧ win0_3.index t = ![(grid0.coords t 0).val, 0, (grid0.coords t 2).val]
    ∧ win0_4.index t = ![(grid0.coords t 0).val, (grid0.coords t 1).val, (grid0.coords t 2).val] :=
  (by decide +kernel : ∀ t : Fin grid0.N, _)

theorem pair0 (c : Dev nD) : (dat0 V c).arrAt 4 cfg0.N = lpair (V c main_arg0) (V c main_arg1) (V c main_arg2) (V c main_arg3) := by
  refine (dat0 V c).arrAt_eq_of_covers 4 _ (by decide +kernel) fun t _ y => ?_
  blk_simp
  rw [after0_4]; frame_out
  pointwise [k0_pay1, lpair]
  blk_point [iblk0, idx0 t]

theorem idx1 : ∀ t : Fin cfg1.N, win1_0.index t = ![(grid1.coords t 0).val, (grid1.coords t 1).val, 0]
    ∧ win1_1.index t = ![(grid1.coords t 0).val, 0, (grid1.coords t 2).val]
    ∧ win1_2.index t = ![(grid1.coords t 0).val, 0, (grid1.coords t 2).val]
    ∧ win1_3.index t = ![(grid1.coords t 0).val, (grid1.coords t 1).val, (grid1.coords t 2).val] :=
  (by decide +kernel : ∀ t : Fin grid1.N, _)

theorem right1 (c : Dev nD) : (dat1 V c).arrAt 3 cfg1.N = rproj (V c main_v0) (V c main_arg4) (V c main_v4) := by
  refine (dat1 V c).arrAt_eq_of_covers 3 _ (by decide +kernel) fun t _ y => ?_
  blk_simp
  rw [after1_3]; frame_out
  pointwise [k1_pay1, rproj]
  blk_point [iblk1, idx1 t]

theorem idx2 : ∀ t : Fin cfg2.N, win2_0.index t = ![(grid2.coords t 0).val, (grid2.coords t 1).val, 0]
    ∧ win2_1.index t = ![(grid2.coords t 0).val, 0, (grid2.coords t 2).val]
    ∧ win2_2.index t = ![(grid2.coords t 0).val, 0, (grid2.coords t 2).val]
    ∧ win2_3.index t = ![(grid2.coords t 0).val, (grid2.coords t 1).val, (grid2.coords t 2).val] :=
  (by decide +kernel : ∀ t : Fin grid2.N, _)

theorem right2 (c : Dev nD) : (dat2 V c).arrAt 3 cfg2.N = rproj (V c main_v0) (V c main_arg5) (V c main_v7) := by
  refine (dat2 V c).arrAt_eq_of_covers 3 _ (by decide +kernel) fun t _ y => ?_
  blk_simp
  rw [after2_3]; frame_out
  pointwise [k2_pay1, rproj]
  blk_point [iblk2, idx2 t]

theorem idx3 : ∀ t : Fin cfg3.N, win3_0.index t = ![(grid3.coords t 0).val, (grid3.coords t 1).val, 0]
    ∧ win3_1.index t = ![(grid3.coords t 0).val, (grid3.coords t 1).val, 0]
    ∧ win3_2.index t = ![(grid3.coords t 0).val, (grid3.coords t 2).val, 0]
    ∧ win3_3.index t = ![(grid3.coords t 0).val, (grid3.coords t 2).val, 0]
    ∧ win3_4.index t = ![(grid3.coords t 0).val, (grid3.coords t 1).val, (grid3.coords t 2).val] :=
  (by decide +kernel : ∀ t : Fin grid3.N, _)

theorem pair3 (c : Dev nD) : (dat3 V c).arrAt 4 cfg3.N = rpair (V c main_v5) (V c main_v8) (V c main_arg4) (V c main_arg5) := by
  refine (dat3 V c).arrAt_eq_of_covers 4 _ (by decide +kernel) fun t _ y => ?_
  blk_simp
  rw [after3_4]; frame_out
  pointwise [k3_pay1, rpair]
  blk_point [iblk3, idx3 t]

end

/-! ### What @main leaves -/

local notation "𝕄" => MT nD τ sig Unit (Elt Ideal) ℕ (UR sig nD τ) ℕ

variable (m : (ℓ : Loc nD τ sig) → Buf (Elt Ideal) ℓ) (ρ : Dev nD → PrngReg) (c : Dev nD)

/-- The powers of the eigenvalues. -/
abbrev pows (lam : FVec Ideal S3x2304 .f32) : FVec Ideal S3x2304 .f32 :=
  Host.powf lam (broadcastInDim S3x2304 ![] bcast_S_S3x2304 (constant (F := Ideal) S_ .f32 0xBE800000#32))

/-- The factors of the even columns. -/
abbrev dEven (lam : FVec Ideal S3x2304 .f32) : FVec Ideal S3x1x1152 .f32 :=
  broadcastInDim S3x1x1152 ![0, 2] bcast_S3x1152_S3x1x1152_0_2 (Host.slice S3x1152 ![0, 0] ![1, 2] (pows lam) slicesBy_S3x2304_S3x1152_0s1_0s2)

/-- The factors of the odd columns. -/
abbrev dOdd (lam : FVec Ideal S3x2304 .f32) : FVec Ideal S3x1x1152 .f32 :=
  broadcastInDim S3x1x1152 ![0, 2] bcast_S3x1152_S3x1x1152_0_2 (Host.slice S3x1152 ![0, 1] ![1, 2] (pows lam) slicesBy_S3x2304_S3x1152_0s1_1s2)

/-- The whole of the four calls on their arguments. -/
def fin (x0 x1 : FVec Ideal S3x6144x3072 .bf16) (x2 x3 : FVec Ideal S3x3072x2304 .bf16) (x4 x5 : FVec Ideal S3x2304x1152 .bf16) (x6 : FVec Ideal S3x2304 .f32) :
    FVec Ideal S3x6144x2304 .bf16 :=
  rpair (rproj (lpair x0 x1 x2 x3) x4 (dEven x6)) (rproj (lpair x0 x1 x2 x3) x5 (dOdd x6)) x4 x5

/-- The four calls on the launch's arguments. -/
abbrev res : FVec Ideal S3x6144x2304 .bf16 :=
  fin (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The middle product of the launch's arguments. -/
abbrev mid : FVec Ideal S3x6144x2304 .bf16 :=
  lpair (m ((c : Thread nD τ).loc main_arg0)) (m ((c : Thread nD τ).loc main_arg1)) (m ((c : Thread nD τ).loc main_arg2)) (m ((c : Thread nD τ).loc main_arg3))

theorem w1_v0 : W1 m ρ c (Proc.devRef .tc main_v0) = mid m c := (W1_arr m ρ c 4).trans (pair0 (V0 m ρ) c)

theorem w2_v0 : W2 m ρ c (Proc.devRef .tc main_v0) = mid m c := (W2_of m ρ c main_v0 (by decide +kernel)).trans (w1_v0 m ρ c)

theorem w2_v4 : W2 m ρ c (Proc.devRef .tc main_v4) = dEven (m ((c : Thread nD τ).loc main_arg6)) := by
  rw [← W1_args m ρ c main_arg6 (by decide)]
  show StableHlo.after hostOps1 (W1 m ρ c) (Proc.devRef .tc main_v4) = _
  simp only [StableHlo.after_cons, StableHlo.after_nil]
  after_results_simp

theorem w2_v2 : W2 m ρ c (Proc.devRef .tc main_v2) = pows (m ((c : Thread nD τ).loc main_arg6)) := by
  rw [← W1_args m ρ c main_arg6 (by decide)]
  show StableHlo.after hostOps1 (W1 m ρ c) (Proc.devRef .tc main_v2) = _
  simp only [StableHlo.after_cons, StableHlo.after_nil]
  after_results_simp

theorem w3_v2 : W3 m ρ c (Proc.devRef .tc main_v2) = pows (m ((c : Thread nD τ).loc main_arg6)) :=
  (W3_of m ρ c main_v2 (by decide +kernel)).trans (w2_v2 m ρ c)

theorem w3_v5 : W3 m ρ c (Proc.devRef .tc main_v5) = rproj (mid m c) (m ((c : Thread nD τ).loc main_arg4)) (dEven (m ((c : Thread nD τ).loc main_arg6))) := by
  refine (W3_arr m ρ c 3).trans ((right1 (V2 m ρ) c).trans ?_)
  rw [show V2 m ρ c main_v0 = mid m c from w2_v0 m ρ c, show V2 m ρ c main_v4 = _ from w2_v4 m ρ c,
    show V2 m ρ c main_arg4 = _ from W2_args m ρ c main_arg4 (by decide)]

theorem w4_v0 : W4 m ρ c (Proc.devRef .tc main_v0) = mid m c :=
  (W4_of m ρ c main_v0 (by decide +kernel)).trans ((W3_of m ρ c main_v0 (by decide +kernel)).trans (w2_v0 m ρ c))

theorem w4_v7 : W4 m ρ c (Proc.devRef .tc main_v7) = dOdd (m ((c : Thread nD τ).loc main_arg6)) := by
  unfold dOdd
  rw [← w3_v2 m ρ c]
  show StableHlo.after hostOps2 (W3 m ρ c) (Proc.devRef .tc main_v7) = _
  simp only [StableHlo.after_cons, StableHlo.after_nil]
  after_results_simp

theorem w5_v8 : W5 m ρ c (Proc.devRef .tc main_v8) = rproj (mid m c) (m ((c : Thread nD τ).loc main_arg5)) (dOdd (m ((c : Thread nD τ).loc main_arg6))) := by
  refine (W5_arr m ρ c 3).trans ((right2 (V4 m ρ) c).trans ?_)
  rw [show V4 m ρ c main_v0 = mid m c from w4_v0 m ρ c, show V4 m ρ c main_v7 = _ from w4_v7 m ρ c,
    show V4 m ρ c main_arg5 = _ from W4_args m ρ c main_arg5 (by decide)]

theorem w5_v5 : W5 m ρ c (Proc.devRef .tc main_v5) = rproj (mid m c) (m ((c : Thread nD τ).loc main_arg4)) (dEven (m ((c : Thread nD τ).loc main_arg6))) :=
  (W5_of m ρ c main_v5 (by decide +kernel)).trans ((W4_of m ρ c main_v5 (by decide +kernel)).trans (w3_v5 m ρ c))

theorem w6_v9 : W6 m ρ c (Proc.devRef .tc main_v9) = res m c := by
  refine (W6_arr m ρ c 4).trans ((pair3 (V5 m ρ) c).trans ?_)
  rw [show V5 m ρ c main_v5 = _ from w5_v5 m ρ c, show V5 m ρ c main_v8 = _ from w5_v8 m ρ c,
    show V5 m ρ c main_arg4 = _ from W5_args m ρ c main_arg4 (by decide), show V5 m ρ c main_arg5 = _ from W5_args m ρ c main_arg5 (by decide)]
  rfl

set_option backward.isDefEq.respectTransparency.types false in
/-- Every run of @main ends with the result array at the value above and the arguments unchanged. -/
theorem run : θ_run (defs (F := Ideal)) (onTc (τ := τ) (main (F := Ideal))) ⟨m, fun _ => 0, ρ⟩ (fun r => ∀ c : Dev nD,
      r.2.mem ((c.tc : Thread nD τ).loc main_v9) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v9 (by decide))).trans (w6_v9 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-! ### The reference -/

/-- Two rank-three indices with equal coordinates are equal. -/
theorem ix3_ext {n₀ n₁ n₂ : Nat} {a b : (⟨3, ![n₀, n₁, n₂]⟩ : Shape).Idx} (h0 : (a 0).val = (b 0).val) (h1 : (a 1).val = (b 1).val)
    (h2 : (a 2).val = (b 2).val) : a = b :=
  funext fun d => Fin.ext (match d with | ⟨0, _⟩ => h0 | ⟨1, _⟩ => h1 | ⟨2, _⟩ => h2)

open Cert.ReferenceFinishIdeal.Read in
/-- The reference's result is the same function of the arguments. -/
theorem ref (x0 x1 : FVec Ideal S3x6144x3072 .bf16) (x2 x3 : FVec Ideal S3x3072x2304 .bf16) (x4 x5 : FVec Ideal S3x2304x1152 .bf16) (x6 : FVec Ideal S3x2304 .f32) :
    val_main_v21 (F := Ideal) x0 x1 x2 x3 x4 x5 x6 = fin x0 x1 x2 x3 x4 x5 x6 := by
  have e3 : val_main_v3 (F := Ideal) x0 x1 x2 x3 = lpair x0 x1 x2 x3 := by
    funext i
    rw [val_main_v3_apply, val_main_v2_apply, val_main_v0_apply, val_main_v1_apply, Ideal.truncf_def, Ideal.addf_def]
    unfold lpair
    refine congr (congrArg _ (Finset.sum_congr rfl fun k _ => ?_)) (Finset.sum_congr rfl fun k _ => ?_) <;>
      exact congr (congrArg _ (congrArg _ (ix3_ext rfl rfl rfl))) (congrArg _ (ix3_ext rfl rfl rfl))
  have e12 : val_main_v12 (F := Ideal) x0 x1 x2 x3 x4 x6 = rproj (lpair x0 x1 x2 x3) x4 (dEven x6) := by
    funext i
    rw [val_main_v12_apply, val_main_v11_apply, val_main_v8_apply, val_main_v10_apply, Ideal.truncf_def, Ideal.mulf_def, e3]
    unfold rproj
    refine congr (congrArg _ (Finset.sum_congr rfl fun k _ => ?_)) (congrArg (dEven x6) (ix3_ext rfl rfl rfl))
    exact congr (congrArg _ (congrArg _ (ix3_ext rfl rfl rfl))) (congrArg _ (ix3_ext rfl rfl rfl))
  have e17 : val_main_v17 (F := Ideal) x0 x1 x2 x3 x5 x6 = rproj (lpair x0 x1 x2 x3) x5 (dOdd x6) := by
    funext i
    rw [val_main_v17_apply, val_main_v16_apply, val_main_v13_apply, val_main_v15_apply, Ideal.truncf_def, Ideal.mulf_def, e3]
    unfold rproj
    refine congr (congrArg _ (Finset.sum_congr rfl fun k _ => ?_)) (congrArg (dOdd x6) (ix3_ext rfl rfl rfl))
    exact congr (congrArg _ (congrArg _ (ix3_ext rfl rfl rfl))) (congrArg _ (ix3_ext rfl rfl rfl))
  funext i
  rw [val_main_v21_apply, val_main_v20_apply, val_main_v18_apply, val_main_v19_apply, Ideal.truncf_def, Ideal.addf_def, e12, e17]
  unfold fin rpair
  refine congr (congrArg _ (Finset.sum_congr rfl fun k _ => ?_)) (Finset.sum_congr rfl fun k _ => ?_) <;>
    exact congr (congrArg _ (congrArg _ (ix3_ext rfl rfl rfl))) (congrArg _ (ix3_ext rfl rfl rfl))

end Cert.FinishIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.ReferenceEvenIdeal
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.ReferenceOddIdeal
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.ReferenceFinishIdeal
public import proofs.«01_k».proof.Proof.Gen.EvenIdeal.Value
public import proofs.«01_k».proof.Proof.Gen.OddIdeal.Value
public import proofs.«01_k».proof.Proof.Gen.ReferenceEvenIdeal.Run
public import proofs.«01_k».proof.Proof.Gen.ReferenceOddIdeal.Run
public import proofs.«01_k».proof.Proof.Gen.ReferenceFinishIdeal.Run
public import proofs.«01_k».proof.Proof.Gen.ReferenceEvenIdeal.Read
public import proofs.«01_k».proof.Proof.Gen.ReferenceOddIdeal.Read
public import proofs.«01_k».proof.Proof.Gen.ReferenceFinishIdeal.Read
public import proofs.«01_k».proof.Proof.Even
public import proofs.«01_k».proof.Proof.Odd
public import proofs.«01_k».proof.Proof.Finish
public import Idealize.ShloMosaic.Adequacy
public import Idealize.ShloMosaic.Init

@[expose] public section

noncomputable section

namespace Cert.Proof

open Idealize.ShloMosaic Idealize.SL.Sem Cert.Kernel

open Cert.KernelIdeal.Value in
/-- Both programs, from equal arguments, end with equal results. -/
theorem algebraic : @algebraic_KernelIdeal_ReferenceIdeal Cert.KernelIdeal.Gen.facts Cert.ReferenceIdeal.Gen.facts := by
  intro m g m' g' _ hm
  refine ⟨fun c => evL (nL m c), fun c => odL (nL m c), fun c => evR (nR m c), fun c => odR (nR m c), fun c => cdL (evL (nL m c)) (odL (nL m c)), fun c => scL (evL (nL m c)) (odL (nL m c)), fun c => cdR (evR (nR m c)) (odR (nR m c)), fun c => scR (evR (nR m c)) (odR (nR m c)), Cert.KernelIdeal.Value.run m g, ?_⟩
  refine (θ_run _ _ _).mono (fun r h c => ?_) (Cert.ReferenceIdeal.Value.run (F := Ideal) m' g')
  obtain ⟨h0, h1, h2, h3, h4, h5, h6, h7, ha⟩ := h c
  obtain ⟨e0, e1, e2, e3⟩ := hm c
  have k0 : Cert.ReferenceIdeal.Read.val_main_v201 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      = evL (nL m c) := by
    rw [e0, e1]
    exact newL_e _ _
  have k1 : Cert.ReferenceIdeal.Read.val_main_v209 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      = odL (nL m c) := by
    rw [e0, e1]
    exact newL_o _ _
  have k2 : Cert.ReferenceIdeal.Read.val_main_v221 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = evR (nR m c) := by
    rw [e2, e3]
    exact newR_e _ _
  have k3 : Cert.ReferenceIdeal.Read.val_main_v229 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = odR (nR m c) := by
    rw [e2, e3]
    exact newR_o _ _
  have k4 : Cert.ReferenceIdeal.Read.val_main_v374 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      = cdL (evL (nL m c)) (odL (nL m c)) := by
    rw [e0, e1]
    exact (codesL _ _).trans (by rw [newL_e, newL_o])
  have k5 : Cert.ReferenceIdeal.Read.val_main_v241 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      = scL (evL (nL m c)) (odL (nL m c)) := by
    rw [e0, e1]
    exact (scaleL _ _).trans (by rw [newL_e, newL_o])
  have k6 : Cert.ReferenceIdeal.Read.val_main_v519 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = cdR (evR (nR m c)) (odR (nR m c)) := by
    rw [e2, e3]
    exact (codesR _ _).trans (by rw [newR_e, newR_o])
  have k7 : Cert.ReferenceIdeal.Read.val_main_v386 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = scR (evR (nR m c)) (odR (nR m c)) := by
    rw [e2, e3]
    exact (scaleR _ _).trans (by rw [newR_e, newR_o])
  exact ⟨h0.trans ((Cert.ReferenceIdeal.Read.val_main_v201_eq _).trans k0),
    h1.trans ((Cert.ReferenceIdeal.Read.val_main_v209_eq _).trans k1),
    h2.trans ((Cert.ReferenceIdeal.Read.val_main_v221_eq _).trans k2),
    h3.trans ((Cert.ReferenceIdeal.Read.val_main_v229_eq _).trans k3),
    h4.trans ((Cert.ReferenceIdeal.Read.val_main_v374_eq _).trans k4),
    h5.trans ((Cert.ReferenceIdeal.Read.val_main_v241_eq _).trans k5),
    h6.trans ((Cert.ReferenceIdeal.Read.val_main_v519_eq _).trans k6),
    h7.trans ((Cert.ReferenceIdeal.Read.val_main_v386_eq _).trans k7), ha⟩

open Cert.EvenIdeal.Value in
/-- The program of the name and its reference, from equal arguments, end with equal results. -/
theorem algebraic_Even : @algebraic_EvenIdeal_ReferenceEvenIdeal Cert.EvenIdeal.Gen.facts Cert.ReferenceEvenIdeal.Gen.facts := by
  intro m g m' g' _ hm
  refine ⟨fun c => G3 m c, Cert.EvenIdeal.Value.run m g, ?_⟩
  refine (θ_run _ _ _).mono (fun r h c => ?_) (Cert.ReferenceEvenIdeal.Value.run (F := Ideal) m' g')
  obtain ⟨h0, ha⟩ := h c
  obtain ⟨e0, e1, e2⟩ := hm c
  refine ⟨(h0.trans (Cert.ReferenceEvenIdeal.Read.val_main_v7_eq _ _ _)).trans ?_, ha⟩
  rw [e0, e1, e2]
  exact (Cert.EvenIdeal.Value.ref _ _ _ ).trans (result m c).symm

open Cert.OddIdeal.Value in
/-- The program of the name and its reference, from equal arguments, end with equal results. -/
theorem algebraic_Odd : @algebraic_OddIdeal_ReferenceOddIdeal Cert.OddIdeal.Gen.facts Cert.ReferenceOddIdeal.Gen.facts := by
  intro m g m' g' _ hm
  refine ⟨fun c => G3 m c, Cert.OddIdeal.Value.run m g, ?_⟩
  refine (θ_run _ _ _).mono (fun r h c => ?_) (Cert.ReferenceOddIdeal.Value.run (F := Ideal) m' g')
  obtain ⟨h0, ha⟩ := h c
  obtain ⟨e0, e1, e2⟩ := hm c
  refine ⟨(h0.trans (Cert.ReferenceOddIdeal.Read.val_main_v7_eq _ _ _)).trans ?_, ha⟩
  rw [e0, e1, e2]
  exact (Cert.OddIdeal.Value.ref _ _ _ ).trans (result m c).symm

open Cert.FinishIdeal.Value in
/-- The program of the name and its reference, from equal arguments, end with equal results. -/
theorem algebraic_Finish : @algebraic_FinishIdeal_ReferenceFinishIdeal Cert.FinishIdeal.Gen.facts Cert.ReferenceFinishIdeal.Gen.facts := by
  intro m g m' g' _ hm
  refine ⟨fun c => res m c, Cert.FinishIdeal.Value.run m g, ?_⟩
  refine (θ_run _ _ _).mono (fun r h c => ?_) (Cert.ReferenceFinishIdeal.Value.run (F := Ideal) m' g')
  obtain ⟨h0, ha⟩ := h c
  obtain ⟨e0, e1, e2, e3, e4, e5, e6⟩ := hm c
  refine ⟨(h0.trans (Cert.ReferenceFinishIdeal.Read.val_main_v21_eq _ _ _ _ _ _ _)).trans ?_, ha⟩
  rw [e0, e1, e2, e3, e4, e5, e6]
  exact (Cert.FinishIdeal.Value.ref _ _ _ _ _ _ _ ).trans rfl

theorem claim : Cert.Claim := ⟨Cert.Kernel.Gen.facts,
  Cert.KernelIdeal.Gen.facts,
  Cert.ReferenceIdeal.Gen.facts,
  Cert.Even.Gen.facts,
  Cert.EvenIdeal.Gen.facts,
  Cert.ReferenceEvenIdeal.Gen.facts,
  Cert.Odd.Gen.facts,
  Cert.OddIdeal.Gen.facts,
  Cert.ReferenceOddIdeal.Gen.facts,
  Cert.Finish.Gen.facts,
  Cert.FinishIdeal.Gen.facts,
  Cert.ReferenceFinishIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2.2.2.2.2.2.2.2,
    sem_eq_zero_of_no_sems (by decide) r.2⟩) (Cert.ReferenceIdeal.Value.run (F := Ideal) m ρ),
  fun m ρ _ => Cert.Even.Gen.frame m ρ,
  fun m ρ _ => Cert.EvenIdeal.Gen.frame m ρ,
  fun m ρ _ => (θ_run Cert.ReferenceEvenIdeal.defs _ _).mono (fun r h => ⟨fun c => (h c).2,
    sem_eq_zero_of_no_sems (by decide) r.2⟩) (Cert.ReferenceEvenIdeal.Value.run (F := Ideal) m ρ),
  fun m ρ _ => Cert.Odd.Gen.frame m ρ,
  fun m ρ _ => Cert.OddIdeal.Gen.frame m ρ,
  fun m ρ _ => (θ_run Cert.ReferenceOddIdeal.defs _ _).mono (fun r h => ⟨fun c => (h c).2,
    sem_eq_zero_of_no_sems (by decide) r.2⟩) (Cert.ReferenceOddIdeal.Value.run (F := Ideal) m ρ),
  fun m ρ _ => Cert.Finish.Gen.frame m ρ,
  fun m ρ _ => Cert.FinishIdeal.Gen.frame m ρ,
  fun m ρ _ => (θ_run Cert.ReferenceFinishIdeal.defs _ _).mono (fun r h => ⟨fun c => (h c).2,
    sem_eq_zero_of_no_sems (by decide) r.2⟩) (Cert.ReferenceFinishIdeal.Value.run (F := Ideal) m ρ),
  trivial,
  algebraic,
  trivial,
  algebraic_Even,
  trivial,
  algebraic_Odd,
  trivial,
  algebraic_Finish⟩

end Cert.Proof

end
